-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerIdeal (m : (ℓ : Loc Cert.MixerIdeal.nD Cert.MixerIdeal.τ Cert.MixerIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_SoftmaxIdeal (m : (ℓ : Loc Cert.SoftmaxIdeal.nD Cert.SoftmaxIdeal.τ Cert.SoftmaxIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_ResidualIdeal (m : (ℓ : Loc Cert.ResidualIdeal.nD Cert.ResidualIdeal.τ Cert.ResidualIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1)
      ∧ r.2.mem ((c.tc : Thread Cert.MixerIn.nD Cert.MixerIn.τ).loc Cert.MixerIn.main_arg2) = m ((c.tc : Thread Cert.MixerIn.nD Cert.MixerIn.τ).loc Cert.MixerIn.main_arg2)
      ∧ r.2.mem ((c.tc : Thread Cert.MixerIn.nD Cert.MixerIn.τ).loc Cert.MixerIn.main_arg3) = m ((c.tc : Thread Cert.MixerIn.nD Cert.MixerIn.τ).loc Cert.MixerIn.main_arg3)
      ∧ r.2.mem ((c.tc : Thread Cert.MixerIn.nD Cert.MixerIn.τ).loc Cert.MixerIn.main_arg4) = m ((c.tc : Thread Cert.MixerIn.nD Cert.MixerIn.τ).loc Cert.MixerIn.main_arg4)
      ∧ r.2.mem ((c.tc : Thread Cert.MixerIn.nD Cert.MixerIn.τ).loc Cert.MixerIn.main_arg5) = m ((c.tc : Thread Cert.MixerIn.nD Cert.MixerIn.τ).loc Cert.MixerIn.main_arg5)
      ∧ r.2.mem ((c.tc : Thread Cert.MixerIn.nD Cert.MixerIn.τ).loc Cert.MixerIn.main_arg6) = m ((c.tc : Thread Cert.MixerIn.nD Cert.MixerIn.τ).loc Cert.MixerIn.main_arg6)
      ∧ r.2.mem ((c.tc : Thread Cert.MixerIn.nD Cert.MixerIn.τ).loc Cert.MixerIn.main_arg7) = m ((c.tc : Thread Cert.MixerIn.nD Cert.MixerIn.τ).loc Cert.MixerIn.main_arg7)
      ∧ r.2.mem ((c.tc : Thread Cert.MixerIn.nD Cert.MixerIn.τ).loc Cert.MixerIn.main_arg8) = m ((c.tc : Thread Cert.MixerIn.nD Cert.MixerIn.τ).loc Cert.MixerIn.main_arg8)
      ∧ r.2.mem ((c.tc : Thread Cert.MixerIn.nD Cert.MixerIn.τ).loc Cert.MixerIn.main_arg9) = m ((c.tc : Thread Cert.MixerIn.nD Cert.MixerIn.τ).loc Cert.MixerIn.main_arg9))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
      ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
      ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
      ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
      ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
      ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
      ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
      ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8)
      ∧ r.2.mem ((c.tc : Thread Cert.MixerInIdeal.nD Cert.MixerInIdeal.τ).loc Cert.MixerInIdeal.main_arg9) = m ((c.tc : Thread Cert.MixerInIdeal.nD Cert.MixerInIdeal.τ).loc Cert.MixerInIdeal.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_SoftmaxIdeal [hSoftmaxIdeal : Cert.SoftmaxIdeal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5)
      ∧ r.2.mem ((c.tc : Thread Cert.MixerOut.nD Cert.MixerOut.τ).loc Cert.MixerOut.main_arg6) = m ((c.tc : Thread Cert.MixerOut.nD Cert.MixerOut.τ).loc Cert.MixerOut.main_arg6)
      ∧ r.2.mem ((c.tc : Thread Cert.MixerOut.nD Cert.MixerOut.τ).loc Cert.MixerOut.main_arg7) = m ((c.tc : Thread Cert.MixerOut.nD Cert.MixerOut.τ).loc Cert.MixerOut.main_arg7)
      ∧ r.2.mem ((c.tc : Thread Cert.MixerOut.nD Cert.MixerOut.τ).loc Cert.MixerOut.main_arg8) = m ((c.tc : Thread Cert.MixerOut.nD Cert.MixerOut.τ).loc Cert.MixerOut.main_arg8)
      ∧ r.2.mem ((c.tc : Thread Cert.MixerOut.nD Cert.MixerOut.τ).loc Cert.MixerOut.main_arg9) = m ((c.tc : Thread Cert.MixerOut.nD Cert.MixerOut.τ).loc Cert.MixerOut.main_arg9)
      ∧ r.2.mem ((c.tc : Thread Cert.MixerOut.nD Cert.MixerOut.τ).loc Cert.MixerOut.main_arg10) = m ((c.tc : Thread Cert.MixerOut.nD Cert.MixerOut.τ).loc Cert.MixerOut.main_arg10)
      ∧ r.2.mem ((c.tc : Thread Cert.MixerOut.nD Cert.MixerOut.τ).loc Cert.MixerOut.main_arg11) = m ((c.tc : Thread Cert.MixerOut.nD Cert.MixerOut.τ).loc Cert.MixerOut.main_arg11)
      ∧ r.2.mem ((c.tc : Thread Cert.MixerOut.nD Cert.MixerOut.τ).loc Cert.MixerOut.main_arg12) = m ((c.tc : Thread Cert.MixerOut.nD Cert.MixerOut.τ).loc Cert.MixerOut.main_arg12))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
      ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
      ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
      ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9)
      ∧ r.2.mem ((c.tc : Thread Cert.MixerOutIdeal.nD Cert.MixerOutIdeal.τ).loc Cert.MixerOutIdeal.main_arg10) = m ((c.tc : Thread Cert.MixerOutIdeal.nD Cert.MixerOutIdeal.τ).loc Cert.MixerOutIdeal.main_arg10)
      ∧ r.2.mem ((c.tc : Thread Cert.MixerOutIdeal.nD Cert.MixerOutIdeal.τ).loc Cert.MixerOutIdeal.main_arg11) = m ((c.tc : Thread Cert.MixerOutIdeal.nD Cert.MixerOutIdeal.τ).loc Cert.MixerOutIdeal.main_arg11)
      ∧ r.2.mem ((c.tc : Thread Cert.MixerOutIdeal.nD Cert.MixerOutIdeal.τ).loc Cert.MixerOutIdeal.main_arg12) = m ((c.tc : Thread Cert.MixerOutIdeal.nD Cert.MixerOutIdeal.τ).loc Cert.MixerOutIdeal.main_arg12))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
      ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5)
      ∧ r.2.mem ((c.tc : Thread Cert.ResidualIdeal.nD Cert.ResidualIdeal.τ).loc Cert.ResidualIdeal.main_arg6) = m ((c.tc : Thread Cert.ResidualIdeal.nD Cert.ResidualIdeal.τ).loc Cert.ResidualIdeal.main_arg6)
      ∧ r.2.mem ((c.tc : Thread Cert.ResidualIdeal.nD Cert.ResidualIdeal.τ).loc Cert.ResidualIdeal.main_arg7) = m ((c.tc : Thread Cert.ResidualIdeal.nD Cert.ResidualIdeal.τ).loc Cert.ResidualIdeal.main_arg7)
      ∧ r.2.mem ((c.tc : Thread Cert.ResidualIdeal.nD Cert.ResidualIdeal.τ).loc Cert.ResidualIdeal.main_arg8) = m ((c.tc : Thread Cert.ResidualIdeal.nD Cert.ResidualIdeal.τ).loc Cert.ResidualIdeal.main_arg8)
      ∧ r.2.mem ((c.tc : Thread Cert.ResidualIdeal.nD Cert.ResidualIdeal.τ).loc Cert.ResidualIdeal.main_arg9) = m ((c.tc : Thread Cert.ResidualIdeal.nD Cert.ResidualIdeal.τ).loc Cert.ResidualIdeal.main_arg9)
      ∧ r.2.mem ((c.tc : Thread Cert.ResidualIdeal.nD Cert.ResidualIdeal.τ).loc Cert.ResidualIdeal.main_arg10) = m ((c.tc : Thread Cert.ResidualIdeal.nD Cert.ResidualIdeal.τ).loc Cert.ResidualIdeal.main_arg10)
      ∧ r.2.mem ((c.tc : Thread Cert.ResidualIdeal.nD Cert.ResidualIdeal.τ).loc Cert.ResidualIdeal.main_arg11) = m ((c.tc : Thread Cert.ResidualIdeal.nD Cert.ResidualIdeal.τ).loc Cert.ResidualIdeal.main_arg11)
      ∧ r.2.mem ((c.tc : Thread Cert.ResidualIdeal.nD Cert.ResidualIdeal.τ).loc Cert.ResidualIdeal.main_arg12) = m ((c.tc : Thread Cert.ResidualIdeal.nD Cert.ResidualIdeal.τ).loc Cert.ResidualIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MixerIn_MixerInIdeal : Prop :=
  True

def algebraic_MixerInIdeal_MixerIdeal [hMixerInIdeal : Cert.MixerInIdeal.Facts] [hMixerIdeal : Cert.MixerIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerIdeal.nD Cert.MixerIdeal.τ Cert.MixerIdeal.sig) → Buf (Elt Ideal) ℓ) (g' : Dev Cert.MixerIdeal.nD → PrngReg), Pre_MixerInIdeal m →
    (∀ c : Dev Cert.MixerInIdeal.nD,
      m' ((c.tc : Thread Cert.MixerIdeal.nD Cert.MixerIdeal.τ).loc Cert.MixerIdeal.main_arg0) = m ((c.tc : Thread Cert.MixerInIdeal.nD Cert.MixerInIdeal.τ).loc Cert.MixerInIdeal.main_arg0)
      ∧ m' ((c.tc : Thread Cert.MixerIdeal.nD Cert.MixerIdeal.τ).loc Cert.MixerIdeal.main_arg1) = m ((c.tc : Thread Cert.MixerInIdeal.nD Cert.MixerInIdeal.τ).loc Cert.MixerInIdeal.main_arg1)
      ∧ m' ((c.tc : Thread Cert.MixerIdeal.nD Cert.MixerIdeal.τ).loc Cert.MixerIdeal.main_arg2) = m ((c.tc : Thread Cert.MixerInIdeal.nD Cert.MixerInIdeal.τ).loc Cert.MixerInIdeal.main_arg2)
      ∧ m' ((c.tc : Thread Cert.MixerIdeal.nD Cert.MixerIdeal.τ).loc Cert.MixerIdeal.main_arg3) = m ((c.tc : Thread Cert.MixerInIdeal.nD Cert.MixerInIdeal.τ).loc Cert.MixerInIdeal.main_arg3)
      ∧ m' ((c.tc : Thread Cert.MixerIdeal.nD Cert.MixerIdeal.τ).loc Cert.MixerIdeal.main_arg4) = m ((c.tc : Thread Cert.MixerInIdeal.nD Cert.MixerInIdeal.τ).loc Cert.MixerInIdeal.main_arg4)
      ∧ m' ((c.tc : Thread Cert.MixerIdeal.nD Cert.MixerIdeal.τ).loc Cert.MixerIdeal.main_arg5) = m ((c.tc : Thread Cert.MixerInIdeal.nD Cert.MixerInIdeal.τ).loc Cert.MixerInIdeal.main_arg5)
      ∧ m' ((c.tc : Thread Cert.MixerIdeal.nD Cert.MixerIdeal.τ).loc Cert.MixerIdeal.main_arg6) = m ((c.tc : Thread Cert.MixerInIdeal.nD Cert.MixerInIdeal.τ).loc Cert.MixerInIdeal.main_arg6)
      ∧ m' ((c.tc : Thread Cert.MixerIdeal.nD Cert.MixerIdeal.τ).loc Cert.MixerIdeal.main_arg7) = m ((c.tc : Thread Cert.MixerInIdeal.nD Cert.MixerInIdeal.τ).loc Cert.MixerInIdeal.main_arg7)
      ∧ m' ((c.tc : Thread Cert.MixerIdeal.nD Cert.MixerIdeal.τ).loc Cert.MixerIdeal.main_arg8) = m ((c.tc : Thread Cert.MixerInIdeal.nD Cert.MixerInIdeal.τ).loc Cert.MixerInIdeal.main_arg8)
      ∧ m' ((c.tc : Thread Cert.MixerIdeal.nD Cert.MixerIdeal.τ).loc Cert.MixerIdeal.main_arg9) = m ((c.tc : Thread Cert.MixerInIdeal.nD Cert.MixerInIdeal.τ).loc Cert.MixerInIdeal.main_arg9)) →
    ∃ (v0 : (c : Dev Cert.MixerInIdeal.nD) → Buf (Elt Ideal) ((c.tc : Thread Cert.MixerInIdeal.nD Cert.MixerInIdeal.τ).loc Cert.MixerInIdeal.main_v12_2)) (v1 : (c : Dev Cert.MixerInIdeal.nD) → Buf (Elt Ideal) ((c.tc : Thread Cert.MixerInIdeal.nD Cert.MixerInIdeal.τ).loc Cert.MixerInIdeal.main_v12_3)) (v2 : (c : Dev Cert.MixerInIdeal.nD) → Buf (Elt Ideal) ((c.tc : Thread Cert.MixerInIdeal.nD Cert.MixerInIdeal.τ).loc Cert.MixerInIdeal.main_v12_4)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v12_2) = v0 c
          ∧ r.2.mem ((c.tc : Thread Cert.MixerInIdeal.nD Cert.MixerInIdeal.τ).loc Cert.MixerInIdeal.main_v12_3) = v1 c
          ∧ r.2.mem ((c.tc : Thread Cert.MixerInIdeal.nD Cert.MixerInIdeal.τ).loc Cert.MixerInIdeal.main_v12_4) = v2 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
          ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
          ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
          ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
          ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
          ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
          ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
          ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8)
          ∧ r.2.mem ((c.tc : Thread Cert.MixerInIdeal.nD Cert.MixerInIdeal.τ).loc Cert.MixerInIdeal.main_arg9) = m ((c.tc : Thread Cert.MixerInIdeal.nD Cert.MixerInIdeal.τ).loc Cert.MixerInIdeal.main_arg9))
      ∧ θ_run (Cert.MixerIdeal.defs (F := Ideal)) (onTc (τ := Cert.MixerIdeal.τ) (Cert.MixerIdeal.main (F := Ideal))) ⟨m', fun _ => 0, g'⟩ (fun r => ∀ c : Dev Cert.MixerIdeal.nD,
          r.2.mem ((c.tc : Thread Cert.MixerIdeal.nD Cert.MixerIdeal.τ).loc Cert.MixerIdeal.main_v59) = v0 c
          ∧ r.2.mem ((c.tc : Thread Cert.MixerIdeal.nD Cert.MixerIdeal.τ).loc Cert.MixerIdeal.main_v67) = v1 c
          ∧ r.2.mem ((c.tc : Thread Cert.MixerIdeal.nD Cert.MixerIdeal.τ).loc Cert.MixerIdeal.main_v74) = v2 c
          ∧ r.2.mem ((c.tc : Thread Cert.MixerIdeal.nD Cert.MixerIdeal.τ).loc Cert.MixerIdeal.main_arg0) = m' ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m' ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m' ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m' ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m' ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m' ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m' ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m' ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m' ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m' ((c.tc : Thread Cert.MixerIdeal.nD Cert.MixerIdeal.τ).loc Cert.MixerIdeal.main_arg9))

def preserves_Attention_AttentionIdeal : Prop :=
  True

def algebraic_AttentionIdeal_SoftmaxIdeal [hAttentionIdeal : Cert.AttentionIdeal.Facts] [hSoftmaxIdeal : Cert.SoftmaxIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.SoftmaxIdeal.nD Cert.SoftmaxIdeal.τ Cert.SoftmaxIdeal.sig) → Buf (Elt Ideal) ℓ) (g' : Dev Cert.SoftmaxIdeal.nD → PrngReg), Pre_AttentionIdeal m →
    (∀ c : Dev Cert.AttentionIdeal.nD,
      m' ((c.tc : Thread Cert.SoftmaxIdeal.nD Cert.SoftmaxIdeal.τ).loc Cert.SoftmaxIdeal.main_arg0) = m ((c.tc : Thread Cert.AttentionIdeal.nD Cert.AttentionIdeal.τ).loc Cert.AttentionIdeal.main_arg0)
      ∧ m' ((c.tc : Thread Cert.SoftmaxIdeal.nD Cert.SoftmaxIdeal.τ).loc Cert.SoftmaxIdeal.main_arg1) = m ((c.tc : Thread Cert.AttentionIdeal.nD Cert.AttentionIdeal.τ).loc Cert.AttentionIdeal.main_arg1)
      ∧ m' ((c.tc : Thread Cert.SoftmaxIdeal.nD Cert.SoftmaxIdeal.τ).loc Cert.SoftmaxIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.SoftmaxIdeal.defs (F := Ideal)) (onTc (τ := Cert.SoftmaxIdeal.τ) (Cert.SoftmaxIdeal.main (F := Ideal))) ⟨m', fun _ => 0, g'⟩ (fun r => ∀ c : Dev Cert.SoftmaxIdeal.nD,
          r.2.mem ((c.tc : Thread Cert.SoftmaxIdeal.nD Cert.SoftmaxIdeal.τ).loc Cert.SoftmaxIdeal.main_v21) = v0 c
          ∧ r.2.mem ((c.tc : Thread Cert.SoftmaxIdeal.nD Cert.SoftmaxIdeal.τ).loc Cert.SoftmaxIdeal.main_arg0) = m' ((c.tc : Thread Cert.SoftmaxIdeal.nD Cert.SoftmaxIdeal.τ).loc Cert.SoftmaxIdeal.main_arg0)
          ∧ r.2.mem ((c.tc : Thread Cert.SoftmaxIdeal.nD Cert.SoftmaxIdeal.τ).loc Cert.SoftmaxIdeal.main_arg1) = m' ((c.tc : Thread Cert.SoftmaxIdeal.nD Cert.SoftmaxIdeal.τ).loc Cert.SoftmaxIdeal.main_arg1)
          ∧ r.2.mem ((c.tc : Thread Cert.SoftmaxIdeal.nD Cert.SoftmaxIdeal.τ).loc Cert.SoftmaxIdeal.main_arg2) = m' ((c.tc : Thread Cert.SoftmaxIdeal.nD Cert.SoftmaxIdeal.τ).loc Cert.SoftmaxIdeal.main_arg2))

def preserves_MixerOut_MixerOutIdeal : Prop :=
  IdealRules.bf16_pair.BufferStatement Cert.MixerOutIdeal.S131072x2x128 Cert.MixerOutIdeal.S131072x1x128
  ∧ IdealRules.bf16_pair.BufferStatement Cert.MixerOutIdeal.S2048x2x128 Cert.MixerOutIdeal.S2048x1x128
  ∧ IdealRules.bf16_pair.PackStatement Cert.MixerOutIdeal.S512x512
  ∧ IdealRules.bf16_pair.Statement Cert.MixerOutIdeal.S512x2x128 Cert.MixerOutIdeal.S512x1x128

def algebraic_MixerOutIdeal_ResidualIdeal [hMixerOutIdeal : Cert.MixerOutIdeal.Facts] [hResidualIdeal : Cert.ResidualIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.ResidualIdeal.nD Cert.ResidualIdeal.τ Cert.ResidualIdeal.sig) → Buf (Elt Ideal) ℓ) (g' : Dev Cert.ResidualIdeal.nD → PrngReg), Pre_MixerOutIdeal m →
    (∀ c : Dev Cert.MixerOutIdeal.nD,
      m' ((c.tc : Thread Cert.ResidualIdeal.nD Cert.ResidualIdeal.τ).loc Cert.ResidualIdeal.main_arg0) = m ((c.tc : Thread Cert.MixerOutIdeal.nD Cert.MixerOutIdeal.τ).loc Cert.MixerOutIdeal.main_arg0)
      ∧ m' ((c.tc : Thread Cert.ResidualIdeal.nD Cert.ResidualIdeal.τ).loc Cert.ResidualIdeal.main_arg1) = m ((c.tc : Thread Cert.MixerOutIdeal.nD Cert.MixerOutIdeal.τ).loc Cert.MixerOutIdeal.main_arg1)
      ∧ m' ((c.tc : Thread Cert.ResidualIdeal.nD Cert.ResidualIdeal.τ).loc Cert.ResidualIdeal.main_arg2) = m ((c.tc : Thread Cert.MixerOutIdeal.nD Cert.MixerOutIdeal.τ).loc Cert.MixerOutIdeal.main_arg2)
      ∧ m' ((c.tc : Thread Cert.ResidualIdeal.nD Cert.ResidualIdeal.τ).loc Cert.ResidualIdeal.main_arg3) = m ((c.tc : Thread Cert.MixerOutIdeal.nD Cert.MixerOutIdeal.τ).loc Cert.MixerOutIdeal.main_arg3)
      ∧ m' ((c.tc : Thread Cert.ResidualIdeal.nD Cert.ResidualIdeal.τ).loc Cert.ResidualIdeal.main_arg4) = m ((c.tc : Thread Cert.MixerOutIdeal.nD Cert.MixerOutIdeal.τ).loc Cert.MixerOutIdeal.main_arg4)
      ∧ m' ((c.tc : Thread Cert.ResidualIdeal.nD Cert.ResidualIdeal.τ).loc Cert.ResidualIdeal.main_arg5) = m ((c.tc : Thread Cert.MixerOutIdeal.nD Cert.MixerOutIdeal.τ).loc Cert.MixerOutIdeal.main_arg5)
      ∧ m' ((c.tc : Thread Cert.ResidualIdeal.nD Cert.ResidualIdeal.τ).loc Cert.ResidualIdeal.main_arg6) = m ((c.tc : Thread Cert.MixerOutIdeal.nD Cert.MixerOutIdeal.τ).loc Cert.MixerOutIdeal.main_arg6)
      ∧ m' ((c.tc : Thread Cert.ResidualIdeal.nD Cert.ResidualIdeal.τ).loc Cert.ResidualIdeal.main_arg7) = m ((c.tc : Thread Cert.MixerOutIdeal.nD Cert.MixerOutIdeal.τ).loc Cert.MixerOutIdeal.main_arg7)
      ∧ m' ((c.tc : Thread Cert.ResidualIdeal.nD Cert.ResidualIdeal.τ).loc Cert.ResidualIdeal.main_arg8) = m ((c.tc : Thread Cert.MixerOutIdeal.nD Cert.MixerOutIdeal.τ).loc Cert.MixerOutIdeal.main_arg8)
      ∧ m' ((c.tc : Thread Cert.ResidualIdeal.nD Cert.ResidualIdeal.τ).loc Cert.ResidualIdeal.main_arg9) = m ((c.tc : Thread Cert.MixerOutIdeal.nD Cert.MixerOutIdeal.τ).loc Cert.MixerOutIdeal.main_arg9)
      ∧ m' ((c.tc : Thread Cert.ResidualIdeal.nD Cert.ResidualIdeal.τ).loc Cert.ResidualIdeal.main_arg10) = m ((c.tc : Thread Cert.MixerOutIdeal.nD Cert.MixerOutIdeal.τ).loc Cert.MixerOutIdeal.main_arg10)
      ∧ m' ((c.tc : Thread Cert.ResidualIdeal.nD Cert.ResidualIdeal.τ).loc Cert.ResidualIdeal.main_arg11) = m ((c.tc : Thread Cert.MixerOutIdeal.nD Cert.MixerOutIdeal.τ).loc Cert.MixerOutIdeal.main_arg11)
      ∧ m' ((c.tc : Thread Cert.ResidualIdeal.nD Cert.ResidualIdeal.τ).loc Cert.ResidualIdeal.main_arg12) = m ((c.tc : Thread Cert.MixerOutIdeal.nD Cert.MixerOutIdeal.τ).loc Cert.MixerOutIdeal.main_arg12)) →
    ∃ (v0 : (c : Dev Cert.MixerOutIdeal.nD) → Buf (Elt Ideal) ((c.tc : Thread Cert.MixerOutIdeal.nD Cert.MixerOutIdeal.τ).loc Cert.MixerOutIdeal.main_v18_0)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v18_0) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
          ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
          ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
          ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
          ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9)
          ∧ r.2.mem ((c.tc : Thread Cert.MixerOutIdeal.nD Cert.MixerOutIdeal.τ).loc Cert.MixerOutIdeal.main_arg10) = m ((c.tc : Thread Cert.MixerOutIdeal.nD Cert.MixerOutIdeal.τ).loc Cert.MixerOutIdeal.main_arg10)
          ∧ r.2.mem ((c.tc : Thread Cert.MixerOutIdeal.nD Cert.MixerOutIdeal.τ).loc Cert.MixerOutIdeal.main_arg11) = m ((c.tc : Thread Cert.MixerOutIdeal.nD Cert.MixerOutIdeal.τ).loc Cert.MixerOutIdeal.main_arg11)
          ∧ r.2.mem ((c.tc : Thread Cert.MixerOutIdeal.nD Cert.MixerOutIdeal.τ).loc Cert.MixerOutIdeal.main_arg12) = m ((c.tc : Thread Cert.MixerOutIdeal.nD Cert.MixerOutIdeal.τ).loc Cert.MixerOutIdeal.main_arg12))
      ∧ θ_run (Cert.ResidualIdeal.defs (F := Ideal)) (onTc (τ := Cert.ResidualIdeal.τ) (Cert.ResidualIdeal.main (F := Ideal))) ⟨m', fun _ => 0, g'⟩ (fun r => ∀ c : Dev Cert.ResidualIdeal.nD,
          r.2.mem ((c.tc : Thread Cert.ResidualIdeal.nD Cert.ResidualIdeal.τ).loc Cert.ResidualIdeal.main_v43) = v0 c
          ∧ r.2.mem ((c.tc : Thread Cert.ResidualIdeal.nD Cert.ResidualIdeal.τ).loc Cert.ResidualIdeal.main_arg0) = m' ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m' ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m' ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m' ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m' ((c.tc : Thread Cert.ResidualIdeal.nD Cert.ResidualIdeal.τ).loc Cert.ResidualIdeal.main_arg4)
          ∧ r.2.mem ((c.tc : Thread Cert.ResidualIdeal.nD Cert.ResidualIdeal.τ).loc Cert.ResidualIdeal.main_arg5) = m' ((c.tc : Thread Cert.ResidualIdeal.nD Cert.ResidualIdeal.τ).loc Cert.ResidualIdeal.main_arg5)
          ∧ r.2.mem ((c.tc : Thread Cert.ResidualIdeal.nD Cert.ResidualIdeal.τ).loc Cert.ResidualIdeal.main_arg6) = m' ((c.tc : Thread Cert.ResidualIdeal.nD Cert.ResidualIdeal.τ).loc Cert.ResidualIdeal.main_arg6)
          ∧ r.2.mem ((c.tc : Thread Cert.ResidualIdeal.nD Cert.ResidualIdeal.τ).loc Cert.ResidualIdeal.main_arg7) = m' ((c.tc : Thread Cert.ResidualIdeal.nD Cert.ResidualIdeal.τ).loc Cert.ResidualIdeal.main_arg7)
          ∧ r.2.mem ((c.tc : Thread Cert.ResidualIdeal.nD Cert.ResidualIdeal.τ).loc Cert.ResidualIdeal.main_arg8) = m' ((c.tc : Thread Cert.ResidualIdeal.nD Cert.ResidualIdeal.τ).loc Cert.ResidualIdeal.main_arg8)
          ∧ r.2.mem ((c.tc : Thread Cert.ResidualIdeal.nD Cert.ResidualIdeal.τ).loc Cert.ResidualIdeal.main_arg9) = m' ((c.tc : Thread Cert.ResidualIdeal.nD Cert.ResidualIdeal.τ).loc Cert.ResidualIdeal.main_arg9)
          ∧ r.2.mem ((c.tc : Thread Cert.ResidualIdeal.nD Cert.ResidualIdeal.τ).loc Cert.ResidualIdeal.main_arg10) = m' ((c.tc : Thread Cert.ResidualIdeal.nD Cert.ResidualIdeal.τ).loc Cert.ResidualIdeal.main_arg10)
          ∧ r.2.mem ((c.tc : Thread Cert.ResidualIdeal.nD Cert.ResidualIdeal.τ).loc Cert.ResidualIdeal.main_arg11) = m' ((c.tc : Thread Cert.ResidualIdeal.nD Cert.ResidualIdeal.τ).loc Cert.ResidualIdeal.main_arg11)
          ∧ r.2.mem ((c.tc : Thread Cert.ResidualIdeal.nD Cert.ResidualIdeal.τ).loc Cert.ResidualIdeal.main_arg12) = m' ((c.tc : Thread Cert.ResidualIdeal.nD Cert.ResidualIdeal.τ).loc Cert.ResidualIdeal.main_arg12))

def Claim : Prop :=
  ∃ (hKernel : Cert.Kernel.Facts) (hKernelIdeal : Cert.KernelIdeal.Facts) (hReferenceIdeal : Cert.ReferenceIdeal.Facts) (hMixerIn : Cert.MixerIn.Facts) (hMixerInIdeal : Cert.MixerInIdeal.Facts) (hMixerIdeal : Cert.MixerIdeal.Facts) (hAttention : Cert.Attention.Facts) (hAttentionIdeal : Cert.AttentionIdeal.Facts) (hSoftmaxIdeal : Cert.SoftmaxIdeal.Facts) (hMixerOut : Cert.MixerOut.Facts) (hMixerOutIdeal : Cert.MixerOutIdeal.Facts) (hResidualIdeal : Cert.ResidualIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_MixerIn (hMixerIn := hMixerIn)
    ∧ quiescent_MixerInIdeal (hMixerInIdeal := hMixerInIdeal)
    ∧ quiescent_MixerIdeal (hMixerIdeal := hMixerIdeal)
    ∧ quiescent_Attention (hAttention := hAttention)
    ∧ quiescent_AttentionIdeal (hAttentionIdeal := hAttentionIdeal)
    ∧ quiescent_SoftmaxIdeal (hSoftmaxIdeal := hSoftmaxIdeal)
    ∧ quiescent_MixerOut (hMixerOut := hMixerOut)
    ∧ quiescent_MixerOutIdeal (hMixerOutIdeal := hMixerOutIdeal)
    ∧ quiescent_ResidualIdeal (hResidualIdeal := hResidualIdeal)
    ∧ preserves_Kernel_KernelIdeal
    ∧ algebraic_KernelIdeal_ReferenceIdeal (hKernelIdeal := hKernelIdeal) (hReferenceIdeal := hReferenceIdeal) (hPre_in_range := hPre_in_range)
    ∧ preserves_MixerIn_MixerInIdeal
    ∧ algebraic_MixerInIdeal_MixerIdeal (hMixerInIdeal := hMixerInIdeal) (hMixerIdeal := hMixerIdeal)
    ∧ preserves_Attention_AttentionIdeal
    ∧ algebraic_AttentionIdeal_SoftmaxIdeal (hAttentionIdeal := hAttentionIdeal) (hSoftmaxIdeal := hSoftmaxIdeal)
    ∧ preserves_MixerOut_MixerOutIdeal
    ∧ algebraic_MixerOutIdeal_ResidualIdeal (hMixerOutIdeal := hMixerOutIdeal) (hResidualIdeal := hResidualIdeal)
-- ==== Pre_in_range.lean ====
abbrev S64x8x512 : Shape := ⟨3, ![64, 8, 512]⟩
abbrev S1572864x128 : Shape := ⟨2, ![1572864, 128]⟩
abbrev S16x2048x1024 : Shape := ⟨3, ![16, 2048, 1024]⟩
abbrev S16x6144 : Shape := ⟨2, ![16, 6144]⟩
abbrev S_ : Shape := ⟨0, ![]⟩

class Facts : Prop where
  bcast_S_S64x8x512 : S_.BroadcastsInDim S64x8x512 (![] : Fin 0 → Fin S64x8x512.rank)
  reducesTo_S64x8x512_S_d0_1_2 : S64x8x512.ReducesTo [0, 1, 2] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S64x8x512 32) (arg1 : IVec S_ 32) : IVec S64x8x512 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S64x8x512 32 := broadcastInDim S64x8x512 ![] bcast_S_S64x8x512 v2
  let v4 : IVec S64x8x512 32 := Host.remsi arg0 v3
  let c_1 : IVec S_ 32 := constantI S_ 32 0#32
  let v5 : IVec S64x8x512 32 := broadcastInDim S64x8x512 ![] bcast_S_S64x8x512 c_1
  let v6 : IVec S64x8x512 1 := cmpi .ne v4 v5
  let c_2 : IVec S_ 32 := constantI S_ 32 0#32
  let v7 : IVec S64x8x512 32 := broadcastInDim S64x8x512 ![] bcast_S_S64x8x512 c_2
  let v8 : IVec S64x8x512 1 := cmpi .slt v4 v7
  let c_3 : IVec S_ 32 := constantI S_ 32 0#32
  let v9 : IVec S_ 1 := cmpi .slt v2 c_3
  let v10 : IVec S64x8x512 1 := broadcastInDim S64x8x512 ![] bcast_S_S64x8x512 v9
  let v11 : IVec S64x8x512 1 := cmpi .ne v8 v10
  let v12 : IVec S64x8x512 1 := andi v11 v6
  let v13 : IVec S64x8x512 32 := broadcastInDim S64x8x512 ![] bcast_S_S64x8x512 v2
  let v14 : IVec S64x8x512 32 := addi v4 v13
  let v15 : IVec S64x8x512 32 := select v12 v14 v4
  v15

def fn {F : FTy → Type} [FloatOps F] (main_arg0 : IVec S64x8x512 32) (main_arg1 : IVec S1572864x128 32) (main_arg2 : FVec F S64x8x512 .f32) (main_arg3 : FVec F S16x2048x1024 .f32) (main_arg4 : FVec F S16x6144 .f32) : IVec S_ 1 :=
  let main_c : IVec S_ 32 := constantI S_ 32 0#32
  let main_v0 : IVec S64x8x512 32 := broadcastInDim S64x8x512 ![] bcast_S_S64x8x512 main_c
  let main_v1 : IVec S64x8x512 1 := cmpi .sge main_arg0 main_v0
  let main_c_0 : IVec S_ 32 := constantI S_ 32 1572860#32
  let main_v2 : IVec S64x8x512 32 := broadcastInDim S64x8x512 ![] bcast_S_S64x8x512 main_c_0
  let main_v3 : IVec S64x8x512 1 := cmpi .sle main_arg0 main_v2
  let main_v4 : IVec S64x8x512 1 := andi main_v1 main_v3
  let main_c_1 : IVec S_ 32 := constantI S_ 32 4#32
  let main_v5 : IVec S64x8x512 32 := fn_remainder (F := F) main_arg0 main_c_1
  let main_c_2 : IVec S_ 32 := constantI S_ 32 0#32
  let main_v6 : IVec S64x8x512 32 := broadcastInDim S64x8x512 ![] bcast_S_S64x8x512 main_c_2
  let main_v7 : IVec S64x8x512 1 := cmpi .eq main_v5 main_v6
  let main_v8 : IVec S64x8x512 1 := andi main_v4 main_v7
  let main_c_3 : IVec S_ 1 := constantI S_ 1 1#1
  let main_v9 : IVec S_ 1 := (fun x v => Host.reduce IntOp.andi x v reducesTo_S64x8x512_S_d0_1_2 h_S_) main_v8 main_c_3
  main_v9
-- ==== Kernel.lean ====
abbrev S64x8x512 : Shape := ⟨3, ![64, 8, 512]⟩
abbrev S1572864x128 : Shape := ⟨2, ![1572864, 128]⟩
abbrev S16x2048x1024 : Shape := ⟨3, ![16, 2048, 1024]⟩
abbrev S16x6144 : Shape := ⟨2, ![16, 6144]⟩
abbrev S16x6x1024 : Shape := ⟨3, ![16, 6, 1024]⟩
abbrev S64x512x8 : Shape := ⟨3, ![64, 512, 8]⟩
abbrev S32768x8 : Shape := ⟨2, ![32768, 8]⟩
abbrev S32768x4x8 : Shape := ⟨3, ![32768, 4, 8]⟩
abbrev S131072x8 : Shape := ⟨2, ![131072, 8]⟩
abbrev S1x8x256 : Shape := ⟨3, ![1, 8, 256]⟩
abbrev S1024x8 : Shape := ⟨2, ![1024, 8]⟩
abbrev S1x256x1024 : Shape := ⟨3, ![1, 256, 1024]⟩
abbrev S1x6x1024 : Shape := ⟨3, ![1, 6, 1024]⟩
abbrev S2x8x1024x128 : Shape := ⟨4, ![2, 8, 1024, 128]⟩
abbrev S1024x128 : Shape := ⟨2, ![1024, 128]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1x4x128 : Shape := ⟨4, ![1, 1, 4, 128]⟩
abbrev S4x128 : Shape := ⟨2, ![4, 128]⟩
abbrev S64x8 : Shape := ⟨2, ![64, 8]⟩
abbrev S1x1x64x128 : Shape := ⟨4, ![1, 1, 64, 128]⟩
abbrev S64x128 : Shape := ⟨2, ![64, 128]⟩
abbrev S64x1 : Shape := ⟨2, ![64, 1]⟩
abbrev S1x1x1024 : Shape := ⟨3, ![1, 1, 1024]⟩
abbrev S1x1024 : Shape := ⟨2, ![1, 1024]⟩
abbrev S1x256x128 : Shape := ⟨3, ![1, 256, 128]⟩
abbrev S256x128 : Shape := ⟨2, ![256, 128]⟩
abbrev S1x128 : Shape := ⟨2, ![1, 128]⟩

abbrev nBuf : Space → Nat
  | .hbm => 11
  | .vmem => 11
  | .smem => 4
  | _ => 0

abbrev bufTy : (tb : Table) → Fin (tcTables nBuf tb) → BufTy
  | .hbm, ⟨0, _⟩ => ⟨S64x8x512, .i32⟩
  | .hbm, ⟨1, _⟩ => ⟨S1572864x128, .i32⟩
  | .hbm, ⟨2, _⟩ => ⟨S64x8x512, .f32⟩
  | .hbm, ⟨3, _⟩ => ⟨S16x2048x1024, .f32⟩
  | .hbm, ⟨4, _⟩ => ⟨S16x6144, .f32⟩
  | .hbm, ⟨5, _⟩ => ⟨S16x6x1024, .f32⟩
  | .hbm, ⟨6, _⟩ => ⟨S64x512x8, .f32⟩
  | .hbm, ⟨7, _⟩ => ⟨S32768x8, .f32⟩
  | .hbm, ⟨8, _⟩ => ⟨S32768x4x8, .f32⟩
  | .hbm, ⟨9, _⟩ => ⟨S131072x8, .f32⟩
  | .hbm, ⟨10, _⟩ => ⟨S16x2048x1024, .f32⟩
  | .local _ .vmem, ⟨0, _⟩ => ⟨S1024x8, .f32⟩
  | .local _ .vmem, ⟨1, _⟩ => ⟨S1024x8, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x256x1024, .f32⟩
  | .local _ .vmem, ⟨7, _⟩ => ⟨S1x256x1024, .f32⟩
  | .local _ .vmem, ⟨8, _⟩ => ⟨S2x8x1024x128, .i32⟩
  | .local _ .vmem, ⟨9, _⟩ => ⟨S1024x128, .f32⟩
  | .local _ .vmem, ⟨10, _⟩ => ⟨S1024x128, .f32⟩
  | .local _ .smem, ⟨0, _⟩ => ⟨S1x8x256, .i32⟩
  | .local _ .smem, ⟨1, _⟩ => ⟨S1x8x256, .i32⟩
  | .local _ .smem, ⟨2, _⟩ => ⟨S1x8x256, .i32⟩
  | .local _ .smem, ⟨3, _⟩ => ⟨S1x8x256, .i32⟩
  | _, _ => ⟨S64x8x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_68 : BitVec 32 := 0#32
  let c256_i32_69 : BitVec 32 := 256#32
  let v101 : BitVec 32 := Scalar.addi c0_i32_68 c256_i32_69
  let c1_i32_70 : BitVec 32 := 1#32
  ⟨c0_i32_68, v101, c1_i32_70⟩
def k0_mult1 (k0_t1 : Fin k0_t1_loop.trips) : BitVec 32 :=
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  v102
def k0_off1 (k0_t1 : Fin k0_t1_loop.trips) : Fin 3 → Nat :=
  let c0_72 : Index := 0#32
  let c0_73 : Index := 0#32
  let c0_i32_68 : BitVec 32 := 0#32
  let c1_i32_70 : BitVec 32 := 1#32
  let arg12 : BitVec 32 := Scf.iv c0_i32_68 c1_i32_70 k0_t1
  let v104 : Index := Scalar.indexCast arg12
  ![0, 0, v104.toNat]
def k0_mult2 (v105 : BitVec 32) : BitVec 32 :=
  v105

def k0_off2 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off3 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_74 : BitVec 32 := 0#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_75 : BitVec 32 := 0#32
  ![v9.toNat, 0, v103.toNat, 0]
def k0_off4 (v105 : BitVec 32) : Fin 2 → Nat :=
  let v106 : BitVec 32 := v105
  let c0_i32_76 : BitVec 32 := 0#32
  ![v106.toNat, 0]

def k0_chk1 (i : grid0.Coords) (v105 : BitVec 32) : Prop :=
  (∀ (k0_h1 : k0_cond1 i = 1#1), 4 ∣ (k0_mult2 v105).toNat) ∧
  (∀ (k0_h1 : k0_cond1 i = 1#1), ∀ a, (k0_off4 v105) a + S4x128.size a ≤ S1572864x128.size a)
theorem k0_mult2_dvd : ∀ (i : grid0.Coords) (v105 : BitVec 32) (k0_hw1 : k0_chk1 i v105), ∀ (k0_h1 : k0_cond1 i = 1#1), 4 ∣ (k0_mult2 v105).toNat := fun i v105 k0_hw1 k0_h1 => k0_hw1.1 k0_h1
theorem k0_off4_inb : ∀ (i : grid0.Coords) (v105 : BitVec 32) (k0_hw1 : k0_chk1 i v105), ∀ (k0_h1 : k0_cond1 i = 1#1), ∀ a, (k0_off4 v105) a + S4x128.size a ≤ S1572864x128.size a := fun i v105 k0_hw1 k0_h1 => k0_hw1.2 k0_h1

def k0_off5 (k0_t1 : Fin k0_t1_loop.trips) : Fin 3 → Nat :=
  let c0_77 : Index := 0#32
  let c1_78 : Index := 1#32
  let c0_i32_68 : BitVec 32 := 0#32
  let c1_i32_70 : BitVec 32 := 1#32
  let arg12 : BitVec 32 := Scf.iv c0_i32_68 c1_i32_70 k0_t1
  let v112 : Index := Scalar.indexCast arg12
  ![0, 1, v112.toNat]
def k0_mult3 (v113 : BitVec 32) : BitVec 32 :=
  v113

def k0_off6 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off7 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_79 : BitVec 32 := 1#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_80 : BitVec 32 := 0#32
  ![v9.toNat, 1, v103.toNat, 0]
def k0_off8 (v113 : BitVec 32) : Fin 2 → Nat :=
  let v114 : BitVec 32 := v113
  let c0_i32_81 : BitVec 32 := 0#32
  ![v114.toNat, 0]

def k0_chk2 (i : grid0.Coords) (v113 : BitVec 32) : Prop :=
  (∀ (k0_h1 : k0_cond1 i = 1#1), 4 ∣ (k0_mult3 v113).toNat) ∧
  (∀ (k0_h1 : k0_cond1 i = 1#1), ∀ a, (k0_off8 v113) a + S4x128.size a ≤ S1572864x128.size a)
theorem k0_mult3_dvd : ∀ (i : grid0.Coords) (v113 : BitVec 32) (k0_hw2 : k0_chk2 i v113), ∀ (k0_h1 : k0_cond1 i = 1#1), 4 ∣ (k0_mult3 v113).toNat := fun i v113 k0_hw2 k0_h1 => k0_hw2.1 k0_h1
theorem k0_off8_inb : ∀ (i : grid0.Coords) (v113 : BitVec 32) (k0_hw2 : k0_chk2 i v113), ∀ (k0_h1 : k0_cond1 i = 1#1), ∀ a, (k0_off8 v113) a + S4x128.size a ≤ S1572864x128.size a := fun i v113 k0_hw2 k0_h1 => k0_hw2.2 k0_h1

def k0_off9 (k0_t1 : Fin k0_t1_loop.trips) : Fin 3 → Nat :=
  let c0_82 : Index := 0#32
  let c2_83 : Index := 2#32
  let c0_i32_68 : BitVec 32 := 0#32
  let c1_i32_70 : BitVec 32 := 1#32
  let arg12 : BitVec 32 := Scf.iv c0_i32_68 c1_i32_70 k0_t1
  let v120 : Index := Scalar.indexCast arg12
  ![0, 2, v120.toNat]
def k0_mult4 (v121 : BitVec 32) : BitVec 32 :=
  v121

def k0_off10 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off11 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_84 : BitVec 32 := 2#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_85 : BitVec 32 := 0#32
  ![v9.toNat, 2, v103.toNat, 0]
def k0_off12 (v121 : BitVec 32) : Fin 2 → Nat :=
  let v122 : BitVec 32 := v121
  let c0_i32_86 : BitVec 32 := 0#32
  ![v122.toNat, 0]

def k0_chk3 (i : grid0.Coords) (v121 : BitVec 32) : Prop :=
  (∀ (k0_h1 : k0_cond1 i = 1#1), 4 ∣ (k0_mult4 v121).toNat) ∧
  (∀ (k0_h1 : k0_cond1 i = 1#1), ∀ a, (k0_off12 v121) a + S4x128.size a ≤ S1572864x128.size a)
theorem k0_mult4_dvd : ∀ (i : grid0.Coords) (v121 : BitVec 32) (k0_hw3 : k0_chk3 i v121), ∀ (k0_h1 : k0_cond1 i = 1#1), 4 ∣ (k0_mult4 v121).toNat := fun i v121 k0_hw3 k0_h1 => k0_hw3.1 k0_h1
theorem k0_off12_inb : ∀ (i : grid0.Coords) (v121 : BitVec 32) (k0_hw3 : k0_chk3 i v121), ∀ (k0_h1 : k0_cond1 i = 1#1), ∀ a, (k0_off12 v121) a + S4x128.size a ≤ S1572864x128.size a := fun i v121 k0_hw3 k0_h1 => k0_hw3.2 k0_h1

def k0_off13 (k0_t1 : Fin k0_t1_loop.trips) : Fin 3 → Nat :=
  let c0_87 : Index := 0#32
  let c3_88 : Index := 3#32
  let c0_i32_68 : BitVec 32 := 0#32
  let c1_i32_70 : BitVec 32 := 1#32
  let arg12 : BitVec 32 := Scf.iv c0_i32_68 c1_i32_70 k0_t1
  let v128 : Index := Scalar.indexCast arg12
  ![0, 3, v128.toNat]
def k0_mult5 (v129 : BitVec 32) : BitVec 32 :=
  v129

def k0_off14 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off15 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_89 : BitVec 32 := 0#32
  ![v9.toNat, 3, v103.toNat, 0]
def k0_off16 (v129 : BitVec 32) : Fin 2 → Nat :=
  let v130 : BitVec 32 := v129
  let c0_i32_90 : BitVec 32 := 0#32
  ![v130.toNat, 0]

def k0_chk4 (i : grid0.Coords) (v129 : BitVec 32) : Prop :=
  (∀ (k0_h1 : k0_cond1 i = 1#1), 4 ∣ (k0_mult5 v129).toNat) ∧
  (∀ (k0_h1 : k0_cond1 i = 1#1), ∀ a, (k0_off16 v129) a + S4x128.size a ≤ S1572864x128.size a)
theorem k0_mult5_dvd : ∀ (i : grid0.Coords) (v129 : BitVec 32) (k0_hw4 : k0_chk4 i v129), ∀ (k0_h1 : k0_cond1 i = 1#1), 4 ∣ (k0_mult5 v129).toNat := fun i v129 k0_hw4 k0_h1 => k0_hw4.1 k0_h1
theorem k0_off16_inb : ∀ (i : grid0.Coords) (v129 : BitVec 32) (k0_hw4 : k0_chk4 i v129), ∀ (k0_h1 : k0_cond1 i = 1#1), ∀ a, (k0_off16 v129) a + S4x128.size a ≤ S1572864x128.size a := fun i v129 k0_hw4 k0_h1 => k0_hw4.2 k0_h1

def k0_off17 (k0_t1 : Fin k0_t1_loop.trips) : Fin 3 → Nat :=
  let c0_91 : Index := 0#32
  let c4 : Index := 4#32
  let c0_i32_68 : BitVec 32 := 0#32
  let c1_i32_70 : BitVec 32 := 1#32
  let arg12 : BitVec 32 := Scf.iv c0_i32_68 c1_i32_70 k0_t1
  let v136 : Index := Scalar.indexCast arg12
  ![0, 4, v136.toNat]
def k0_mult6 (v137 : BitVec 32) : BitVec 32 :=
  v137

def k0_off18 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off19 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_92 : BitVec 32 := 4#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_93 : BitVec 32 := 0#32
  ![v9.toNat, 4, v103.toNat, 0]
def k0_off20 (v137 : BitVec 32) : Fin 2 → Nat :=
  let v138 : BitVec 32 := v137
  let c0_i32_94 : BitVec 32 := 0#32
  ![v138.toNat, 0]

def k0_chk5 (i : grid0.Coords) (v137 : BitVec 32) : Prop :=
  (∀ (k0_h1 : k0_cond1 i = 1#1), 4 ∣ (k0_mult6 v137).toNat) ∧
  (∀ (k0_h1 : k0_cond1 i = 1#1), ∀ a, (k0_off20 v137) a + S4x128.size a ≤ S1572864x128.size a)
theorem k0_mult6_dvd : ∀ (i : grid0.Coords) (v137 : BitVec 32) (k0_hw5 : k0_chk5 i v137), ∀ (k0_h1 : k0_cond1 i = 1#1), 4 ∣ (k0_mult6 v137).toNat := fun i v137 k0_hw5 k0_h1 => k0_hw5.1 k0_h1
theorem k0_off20_inb : ∀ (i : grid0.Coords) (v137 : BitVec 32) (k0_hw5 : k0_chk5 i v137), ∀ (k0_h1 : k0_cond1 i = 1#1), ∀ a, (k0_off20 v137) a + S4x128.size a ≤ S1572864x128.size a := fun i v137 k0_hw5 k0_h1 => k0_hw5.2 k0_h1

def k0_off21 (k0_t1 : Fin k0_t1_loop.trips) : Fin 3 → Nat :=
  let c0_95 : Index := 0#32
  let c5_96 : Index := 5#32
  let c0_i32_68 : BitVec 32 := 0#32
  let c1_i32_70 : BitVec 32 := 1#32
  let arg12 : BitVec 32 := Scf.iv c0_i32_68 c1_i32_70 k0_t1
  let v144 : Index := Scalar.indexCast arg12
  ![0, 5, v144.toNat]
def k0_mult7 (v145 : BitVec 32) : BitVec 32 :=
  v145

def k0_off22 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off23 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32 : BitVec 32 := 5#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_97 : BitVec 32 := 0#32
  ![v9.toNat, 5, v103.toNat, 0]
def k0_off24 (v145 : BitVec 32) : Fin 2 → Nat :=
  let v146 : BitVec 32 := v145
  let c0_i32_98 : BitVec 32 := 0#32
  ![v146.toNat, 0]

def k0_chk6 (i : grid0.Coords) (v145 : BitVec 32) : Prop :=
  (∀ (k0_h1 : k0_cond1 i = 1#1), 4 ∣ (k0_mult7 v145).toNat) ∧
  (∀ (k0_h1 : k0_cond1 i = 1#1), ∀ a, (k0_off24 v145) a + S4x128.size a ≤ S1572864x128.size a)
theorem k0_mult7_dvd : ∀ (i : grid0.Coords) (v145 : BitVec 32) (k0_hw6 : k0_chk6 i v145), ∀ (k0_h1 : k0_cond1 i = 1#1), 4 ∣ (k0_mult7 v145).toNat := fun i v145 k0_hw6 k0_h1 => k0_hw6.1 k0_h1
theorem k0_off24_inb : ∀ (i : grid0.Coords) (v145 : BitVec 32) (k0_hw6 : k0_chk6 i v145), ∀ (k0_h1 : k0_cond1 i = 1#1), ∀ a, (k0_off24 v145) a + S4x128.size a ≤ S1572864x128.size a := fun i v145 k0_hw6 k0_h1 => k0_hw6.2 k0_h1

def k0_off25 (k0_t1 : Fin k0_t1_loop.trips) : Fin 3 → Nat :=
  let c0_99 : Index := 0#32
  let c6 : Index := 6#32
  let c0_i32_68 : BitVec 32 := 0#32
  let c1_i32_70 : BitVec 32 := 1#32
  let arg12 : BitVec 32 := Scf.iv c0_i32_68 c1_i32_70 k0_t1
  let v152 : Index := Scalar.indexCast arg12
  ![0, 6, v152.toNat]
def k0_mult8 (v153 : BitVec 32) : BitVec 32 :=
  v153

def k0_off26 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off27 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32 : BitVec 32 := 6#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_100 : BitVec 32 := 0#32
  ![v9.toNat, 6, v103.toNat, 0]
def k0_off28 (v153 : BitVec 32) : Fin 2 → Nat :=
  let v154 : BitVec 32 := v153
  let c0_i32_101 : BitVec 32 := 0#32
  ![v154.toNat, 0]

def k0_chk7 (i : grid0.Coords) (v153 : BitVec 32) : Prop :=
  (∀ (k0_h1 : k0_cond1 i = 1#1), 4 ∣ (k0_mult8 v153).toNat) ∧
  (∀ (k0_h1 : k0_cond1 i = 1#1), ∀ a, (k0_off28 v153) a + S4x128.size a ≤ S1572864x128.size a)
theorem k0_mult8_dvd : ∀ (i : grid0.Coords) (v153 : BitVec 32) (k0_hw7 : k0_chk7 i v153), ∀ (k0_h1 : k0_cond1 i = 1#1), 4 ∣ (k0_mult8 v153).toNat := fun i v153 k0_hw7 k0_h1 => k0_hw7.1 k0_h1
theorem k0_off28_inb : ∀ (i : grid0.Coords) (v153 : BitVec 32) (k0_hw7 : k0_chk7 i v153), ∀ (k0_h1 : k0_cond1 i = 1#1), ∀ a, (k0_off28 v153) a + S4x128.size a ≤ S1572864x128.size a := fun i v153 k0_hw7 k0_h1 => k0_hw7.2 k0_h1

def k0_off29 (k0_t1 : Fin k0_t1_loop.trips) : Fin 3 → Nat :=
  let c0_102 : Index := 0#32
  let c7 : Index := 7#32
  let c0_i32_68 : BitVec 32 := 0#32
  let c1_i32_70 : BitVec 32 := 1#32
  let arg12 : BitVec 32 := Scf.iv c0_i32_68 c1_i32_70 k0_t1
  let v160 : Index := Scalar.indexCast arg12
  ![0, 7, v160.toNat]
def k0_mult9 (v161 : BitVec 32) : BitVec 32 :=
  v161

def k0_off30 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off31 (i : grid0.Coords) (k0_t1 : Fin k0_t1_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let c0_i32_68 : BitVec 32 := 0#32
  let c1_i32_70 : BitVec 32 := 1#32
  let arg12 : BitVec 32 := Scf.iv c0_i32_68 c1_i32_70 k0_t1
  let c4_i32 : BitVec 32 := 4#32
  let v102 : BitVec 32 := Scalar.muli arg12 c4_i32
  let v103 : BitVec 32 := v102
  let c0_i32_103 : BitVec 32 := 0#32
  ![v9.toNat, 7, v103.toNat, 0]
def k0_off32 (v161 : BitVec 32) : Fin 2 → Nat :=
  let v162 : BitVec 32 := v161
  let c0_i32_104 : BitVec 32 := 0#32
  ![v162.toNat, 0]

def k0_chk8 (i : grid0.Coords) (v161 : BitVec 32) : Prop :=
  (∀ (k0_h1 : k0_cond1 i = 1#1), 4 ∣ (k0_mult9 v161).toNat) ∧
  (∀ (k0_h1 : k0_cond1 i = 1#1), ∀ a, (k0_off32 v161) a + S4x128.size a ≤ S1572864x128.size a)
theorem k0_mult9_dvd : ∀ (i : grid0.Coords) (v161 : BitVec 32) (k0_hw8 : k0_chk8 i v161), ∀ (k0_h1 : k0_cond1 i = 1#1), 4 ∣ (k0_mult9 v161).toNat := fun i v161 k0_hw8 k0_h1 => k0_hw8.1 k0_h1
theorem k0_off32_inb : ∀ (i : grid0.Coords) (v161 : BitVec 32) (k0_hw8 : k0_chk8 i v161), ∀ (k0_h1 : k0_cond1 i = 1#1), ∀ a, (k0_off32 v161) a + S4x128.size a ≤ S1572864x128.size a := fun i v161 k0_hw8 k0_h1 => k0_hw8.2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c128_i32 : BitVec 32 := 128#32
  let v14 : BitVec 1 := Scalar.cmpi .slt v13 c128_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_69 : BitVec 32 := 0#32
  let c256_i32_70 : BitVec 32 := 256#32
  let v102 : BitVec 32 := Scalar.addi c0_i32_69 c256_i32_70
  let c1_i32_71 : BitVec 32 := 1#32
  ⟨c0_i32_69, v102, c1_i32_71⟩
def k0_mult10 (k0_t2 : Fin k0_t2_loop.trips) : BitVec 32 :=
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  v103
def k0_off33 (k0_t2 : Fin k0_t2_loop.trips) : Fin 3 → Nat :=
  let c0_73 : Index := 0#32
  let c0_74 : Index := 0#32
  let c0_i32_69 : BitVec 32 := 0#32
  let c1_i32_71 : BitVec 32 := 1#32
  let arg12 : BitVec 32 := Scf.iv c0_i32_69 c1_i32_71 k0_t2
  let v105 : Index := Scalar.indexCast arg12
  ![0, 0, v105.toNat]
def k0_mult11 (v106 : BitVec 32) : BitVec 32 :=
  v106

def k0_off34 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off35 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c0_i32_75 : BitVec 32 := 0#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_76 : BitVec 32 := 0#32
  ![v101.toNat, 0, v104.toNat, 0]
def k0_off36 (v106 : BitVec 32) : Fin 2 → Nat :=
  let v107 : BitVec 32 := v106
  let c0_i32_77 : BitVec 32 := 0#32
  ![v107.toNat, 0]

def k0_chk9 (i : grid0.Coords) (v106 : BitVec 32) : Prop :=
  (∀ (k0_h2 : k0_cond2 i = 1#1), 4 ∣ (k0_mult11 v106).toNat) ∧
  (∀ (k0_h2 : k0_cond2 i = 1#1), ∀ a, (k0_off36 v106) a + S4x128.size a ≤ S1572864x128.size a)
theorem k0_mult11_dvd : ∀ (i : grid0.Coords) (v106 : BitVec 32) (k0_hw9 : k0_chk9 i v106), ∀ (k0_h2 : k0_cond2 i = 1#1), 4 ∣ (k0_mult11 v106).toNat := fun i v106 k0_hw9 k0_h2 => k0_hw9.1 k0_h2
theorem k0_off36_inb : ∀ (i : grid0.Coords) (v106 : BitVec 32) (k0_hw9 : k0_chk9 i v106), ∀ (k0_h2 : k0_cond2 i = 1#1), ∀ a, (k0_off36 v106) a + S4x128.size a ≤ S1572864x128.size a := fun i v106 k0_hw9 k0_h2 => k0_hw9.2 k0_h2

def k0_off37 (k0_t2 : Fin k0_t2_loop.trips) : Fin 3 → Nat :=
  let c0_78 : Index := 0#32
  let c1_79 : Index := 1#32
  let c0_i32_69 : BitVec 32 := 0#32
  let c1_i32_71 : BitVec 32 := 1#32
  let arg12 : BitVec 32 := Scf.iv c0_i32_69 c1_i32_71 k0_t2
  let v113 : Index := Scalar.indexCast arg12
  ![0, 1, v113.toNat]
def k0_mult12 (v114 : BitVec 32) : BitVec 32 :=
  v114

def k0_off38 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off39 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c1_i32_80 : BitVec 32 := 1#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_81 : BitVec 32 := 0#32
  ![v101.toNat, 1, v104.toNat, 0]
def k0_off40 (v114 : BitVec 32) : Fin 2 → Nat :=
  let v115 : BitVec 32 := v114
  let c0_i32_82 : BitVec 32 := 0#32
  ![v115.toNat, 0]

def k0_chk10 (i : grid0.Coords) (v114 : BitVec 32) : Prop :=
  (∀ (k0_h2 : k0_cond2 i = 1#1), 4 ∣ (k0_mult12 v114).toNat) ∧
  (∀ (k0_h2 : k0_cond2 i = 1#1), ∀ a, (k0_off40 v114) a + S4x128.size a ≤ S1572864x128.size a)
theorem k0_mult12_dvd : ∀ (i : grid0.Coords) (v114 : BitVec 32) (k0_hw10 : k0_chk10 i v114), ∀ (k0_h2 : k0_cond2 i = 1#1), 4 ∣ (k0_mult12 v114).toNat := fun i v114 k0_hw10 k0_h2 => k0_hw10.1 k0_h2
theorem k0_off40_inb : ∀ (i : grid0.Coords) (v114 : BitVec 32) (k0_hw10 : k0_chk10 i v114), ∀ (k0_h2 : k0_cond2 i = 1#1), ∀ a, (k0_off40 v114) a + S4x128.size a ≤ S1572864x128.size a := fun i v114 k0_hw10 k0_h2 => k0_hw10.2 k0_h2

def k0_off41 (k0_t2 : Fin k0_t2_loop.trips) : Fin 3 → Nat :=
  let c0_83 : Index := 0#32
  let c2_84 : Index := 2#32
  let c0_i32_69 : BitVec 32 := 0#32
  let c1_i32_71 : BitVec 32 := 1#32
  let arg12 : BitVec 32 := Scf.iv c0_i32_69 c1_i32_71 k0_t2
  let v121 : Index := Scalar.indexCast arg12
  ![0, 2, v121.toNat]
def k0_mult13 (v122 : BitVec 32) : BitVec 32 :=
  v122

def k0_off42 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off43 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c2_i32_85 : BitVec 32 := 2#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_86 : BitVec 32 := 0#32
  ![v101.toNat, 2, v104.toNat, 0]
def k0_off44 (v122 : BitVec 32) : Fin 2 → Nat :=
  let v123 : BitVec 32 := v122
  let c0_i32_87 : BitVec 32 := 0#32
  ![v123.toNat, 0]

def k0_chk11 (i : grid0.Coords) (v122 : BitVec 32) : Prop :=
  (∀ (k0_h2 : k0_cond2 i = 1#1), 4 ∣ (k0_mult13 v122).toNat) ∧
  (∀ (k0_h2 : k0_cond2 i = 1#1), ∀ a, (k0_off44 v122) a + S4x128.size a ≤ S1572864x128.size a)
theorem k0_mult13_dvd : ∀ (i : grid0.Coords) (v122 : BitVec 32) (k0_hw11 : k0_chk11 i v122), ∀ (k0_h2 : k0_cond2 i = 1#1), 4 ∣ (k0_mult13 v122).toNat := fun i v122 k0_hw11 k0_h2 => k0_hw11.1 k0_h2
theorem k0_off44_inb : ∀ (i : grid0.Coords) (v122 : BitVec 32) (k0_hw11 : k0_chk11 i v122), ∀ (k0_h2 : k0_cond2 i = 1#1), ∀ a, (k0_off44 v122) a + S4x128.size a ≤ S1572864x128.size a := fun i v122 k0_hw11 k0_h2 => k0_hw11.2 k0_h2

def k0_off45 (k0_t2 : Fin k0_t2_loop.trips) : Fin 3 → Nat :=
  let c0_88 : Index := 0#32
  let c3_89 : Index := 3#32
  let c0_i32_69 : BitVec 32 := 0#32
  let c1_i32_71 : BitVec 32 := 1#32
  let arg12 : BitVec 32 := Scf.iv c0_i32_69 c1_i32_71 k0_t2
  let v129 : Index := Scalar.indexCast arg12
  ![0, 3, v129.toNat]
def k0_mult14 (v130 : BitVec 32) : BitVec 32 :=
  v130

def k0_off46 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off47 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c3_i32 : BitVec 32 := 3#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_90 : BitVec 32 := 0#32
  ![v101.toNat, 3, v104.toNat, 0]
def k0_off48 (v130 : BitVec 32) : Fin 2 → Nat :=
  let v131 : BitVec 32 := v130
  let c0_i32_91 : BitVec 32 := 0#32
  ![v131.toNat, 0]

def k0_chk12 (i : grid0.Coords) (v130 : BitVec 32) : Prop :=
  (∀ (k0_h2 : k0_cond2 i = 1#1), 4 ∣ (k0_mult14 v130).toNat) ∧
  (∀ (k0_h2 : k0_cond2 i = 1#1), ∀ a, (k0_off48 v130) a + S4x128.size a ≤ S1572864x128.size a)
theorem k0_mult14_dvd : ∀ (i : grid0.Coords) (v130 : BitVec 32) (k0_hw12 : k0_chk12 i v130), ∀ (k0_h2 : k0_cond2 i = 1#1), 4 ∣ (k0_mult14 v130).toNat := fun i v130 k0_hw12 k0_h2 => k0_hw12.1 k0_h2
theorem k0_off48_inb : ∀ (i : grid0.Coords) (v130 : BitVec 32) (k0_hw12 : k0_chk12 i v130), ∀ (k0_h2 : k0_cond2 i = 1#1), ∀ a, (k0_off48 v130) a + S4x128.size a ≤ S1572864x128.size a := fun i v130 k0_hw12 k0_h2 => k0_hw12.2 k0_h2

def k0_off49 (k0_t2 : Fin k0_t2_loop.trips) : Fin 3 → Nat :=
  let c0_92 : Index := 0#32
  let c4 : Index := 4#32
  let c0_i32_69 : BitVec 32 := 0#32
  let c1_i32_71 : BitVec 32 := 1#32
  let arg12 : BitVec 32 := Scf.iv c0_i32_69 c1_i32_71 k0_t2
  let v137 : Index := Scalar.indexCast arg12
  ![0, 4, v137.toNat]
def k0_mult15 (v138 : BitVec 32) : BitVec 32 :=
  v138

def k0_off50 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off51 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c4_i32_93 : BitVec 32 := 4#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_94 : BitVec 32 := 0#32
  ![v101.toNat, 4, v104.toNat, 0]
def k0_off52 (v138 : BitVec 32) : Fin 2 → Nat :=
  let v139 : BitVec 32 := v138
  let c0_i32_95 : BitVec 32 := 0#32
  ![v139.toNat, 0]

def k0_chk13 (i : grid0.Coords) (v138 : BitVec 32) : Prop :=
  (∀ (k0_h2 : k0_cond2 i = 1#1), 4 ∣ (k0_mult15 v138).toNat) ∧
  (∀ (k0_h2 : k0_cond2 i = 1#1), ∀ a, (k0_off52 v138) a + S4x128.size a ≤ S1572864x128.size a)
theorem k0_mult15_dvd : ∀ (i : grid0.Coords) (v138 : BitVec 32) (k0_hw13 : k0_chk13 i v138), ∀ (k0_h2 : k0_cond2 i = 1#1), 4 ∣ (k0_mult15 v138).toNat := fun i v138 k0_hw13 k0_h2 => k0_hw13.1 k0_h2
theorem k0_off52_inb : ∀ (i : grid0.Coords) (v138 : BitVec 32) (k0_hw13 : k0_chk13 i v138), ∀ (k0_h2 : k0_cond2 i = 1#1), ∀ a, (k0_off52 v138) a + S4x128.size a ≤ S1572864x128.size a := fun i v138 k0_hw13 k0_h2 => k0_hw13.2 k0_h2

def k0_off53 (k0_t2 : Fin k0_t2_loop.trips) : Fin 3 → Nat :=
  let c0_96 : Index := 0#32
  let c5_97 : Index := 5#32
  let c0_i32_69 : BitVec 32 := 0#32
  let c1_i32_71 : BitVec 32 := 1#32
  let arg12 : BitVec 32 := Scf.iv c0_i32_69 c1_i32_71 k0_t2
  let v145 : Index := Scalar.indexCast arg12
  ![0, 5, v145.toNat]
def k0_mult16 (v146 : BitVec 32) : BitVec 32 :=
  v146

def k0_off54 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off55 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c5_i32 : BitVec 32 := 5#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_98 : BitVec 32 := 0#32
  ![v101.toNat, 5, v104.toNat, 0]
def k0_off56 (v146 : BitVec 32) : Fin 2 → Nat :=
  let v147 : BitVec 32 := v146
  let c0_i32_99 : BitVec 32 := 0#32
  ![v147.toNat, 0]

def k0_chk14 (i : grid0.Coords) (v146 : BitVec 32) : Prop :=
  (∀ (k0_h2 : k0_cond2 i = 1#1), 4 ∣ (k0_mult16 v146).toNat) ∧
  (∀ (k0_h2 : k0_cond2 i = 1#1), ∀ a, (k0_off56 v146) a + S4x128.size a ≤ S1572864x128.size a)
theorem k0_mult16_dvd : ∀ (i : grid0.Coords) (v146 : BitVec 32) (k0_hw14 : k0_chk14 i v146), ∀ (k0_h2 : k0_cond2 i = 1#1), 4 ∣ (k0_mult16 v146).toNat := fun i v146 k0_hw14 k0_h2 => k0_hw14.1 k0_h2
theorem k0_off56_inb : ∀ (i : grid0.Coords) (v146 : BitVec 32) (k0_hw14 : k0_chk14 i v146), ∀ (k0_h2 : k0_cond2 i = 1#1), ∀ a, (k0_off56 v146) a + S4x128.size a ≤ S1572864x128.size a := fun i v146 k0_hw14 k0_h2 => k0_hw14.2 k0_h2

def k0_off57 (k0_t2 : Fin k0_t2_loop.trips) : Fin 3 → Nat :=
  let c0_100 : Index := 0#32
  let c6 : Index := 6#32
  let c0_i32_69 : BitVec 32 := 0#32
  let c1_i32_71 : BitVec 32 := 1#32
  let arg12 : BitVec 32 := Scf.iv c0_i32_69 c1_i32_71 k0_t2
  let v153 : Index := Scalar.indexCast arg12
  ![0, 6, v153.toNat]
def k0_mult17 (v154 : BitVec 32) : BitVec 32 :=
  v154

def k0_off58 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off59 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c6_i32 : BitVec 32 := 6#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_101 : BitVec 32 := 0#32
  ![v101.toNat, 6, v104.toNat, 0]
def k0_off60 (v154 : BitVec 32) : Fin 2 → Nat :=
  let v155 : BitVec 32 := v154
  let c0_i32_102 : BitVec 32 := 0#32
  ![v155.toNat, 0]

def k0_chk15 (i : grid0.Coords) (v154 : BitVec 32) : Prop :=
  (∀ (k0_h2 : k0_cond2 i = 1#1), 4 ∣ (k0_mult17 v154).toNat) ∧
  (∀ (k0_h2 : k0_cond2 i = 1#1), ∀ a, (k0_off60 v154) a + S4x128.size a ≤ S1572864x128.size a)
theorem k0_mult17_dvd : ∀ (i : grid0.Coords) (v154 : BitVec 32) (k0_hw15 : k0_chk15 i v154), ∀ (k0_h2 : k0_cond2 i = 1#1), 4 ∣ (k0_mult17 v154).toNat := fun i v154 k0_hw15 k0_h2 => k0_hw15.1 k0_h2
theorem k0_off60_inb : ∀ (i : grid0.Coords) (v154 : BitVec 32) (k0_hw15 : k0_chk15 i v154), ∀ (k0_h2 : k0_cond2 i = 1#1), ∀ a, (k0_off60 v154) a + S4x128.size a ≤ S1572864x128.size a := fun i v154 k0_hw15 k0_h2 => k0_hw15.2 k0_h2

def k0_off61 (k0_t2 : Fin k0_t2_loop.trips) : Fin 3 → Nat :=
  let c0_103 : Index := 0#32
  let c7 : Index := 7#32
  let c0_i32_69 : BitVec 32 := 0#32
  let c1_i32_71 : BitVec 32 := 1#32
  let arg12 : BitVec 32 := Scf.iv c0_i32_69 c1_i32_71 k0_t2
  let v161 : Index := Scalar.indexCast arg12
  ![0, 7, v161.toNat]
def k0_mult18 (v162 : BitVec 32) : BitVec 32 :=
  v162

def k0_off62 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  ![v101.toNat]
def k0_off63 (i : grid0.Coords) (k0_t2 : Fin k0_t2_loop.trips) : Fin 4 → Nat :=
  let c1_i32_68 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_68 v9
  let c7_i32 : BitVec 32 := 7#32
  let c0_i32_69 : BitVec 32 := 0#32
  let c1_i32_71 : BitVec 32 := 1#32
  let arg12 : BitVec 32 := Scf.iv c0_i32_69 c1_i32_71 k0_t2
  let c4_i32 : BitVec 32 := 4#32
  let v103 : BitVec 32 := Scalar.muli arg12 c4_i32
  let v104 : BitVec 32 := v103
  let c0_i32_104 : BitVec 32 := 0#32
  ![v101.toNat, 7, v104.toNat, 0]
def k0_off64 (v162 : BitVec 32) : Fin 2 → Nat :=
  let v163 : BitVec 32 := v162
  let c0_i32_105 : BitVec 32 := 0#32
  ![v163.toNat, 0]

def k0_chk16 (i : grid0.Coords) (v162 : BitVec 32) : Prop :=
  (∀ (k0_h2 : k0_cond2 i = 1#1), 4 ∣ (k0_mult18 v162).toNat) ∧
  (∀ (k0_h2 : k0_cond2 i = 1#1), ∀ a, (k0_off64 v162) a + S4x128.size a ≤ S1572864x128.size a)
theorem k0_mult18_dvd : ∀ (i : grid0.Coords) (v162 : BitVec 32) (k0_hw16 : k0_chk16 i v162), ∀ (k0_h2 : k0_cond2 i = 1#1), 4 ∣ (k0_mult18 v162).toNat := fun i v162 k0_hw16 k0_h2 => k0_hw16.1 k0_h2
theorem k0_off64_inb : ∀ (i : grid0.Coords) (v162 : BitVec 32) (k0_hw16 : k0_chk16 i v162), ∀ (k0_h2 : k0_cond2 i = 1#1), ∀ a, (k0_off64 v162) a + S4x128.size a ≤ S1572864x128.size a := fun i v162 k0_hw16 k0_h2 => k0_hw16.2 k0_h2

@[reducible] def k0_t3_loop : Scf.Loop 32 :=
  let c0_i32_7 : BitVec 32 := 0#32
  let c256_i32 : BitVec 32 := 256#32
  let v17 : BitVec 32 := Scalar.addi c0_i32_7 c256_i32
  let c1_i32_8 : BitVec 32 := 1#32
  ⟨c0_i32_7, v17, c1_i32_8⟩
def k0_mult19 (k0_t3 : Fin k0_t3_loop.trips) : BitVec 32 :=
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  v101
def k0_off65 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off66 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_68 : BitVec 32 := 0#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_69 : BitVec 32 := 0#32
  ![v9.toNat, 0, v102.toNat, 0]
def k0_off67 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_72 : BitVec 32 := 1#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_73 : BitVec 32 := 0#32
  ![v9.toNat, 1, v102.toNat, 0]
def k0_off68 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_76 : BitVec 32 := 2#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_77 : BitVec 32 := 0#32
  ![v9.toNat, 2, v102.toNat, 0]
def k0_off69 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_80 : BitVec 32 := 0#32
  ![v9.toNat, 3, v102.toNat, 0]
def k0_off70 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_83 : BitVec 32 := 4#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_84 : BitVec 32 := 0#32
  ![v9.toNat, 4, v102.toNat, 0]
def k0_off71 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32 : BitVec 32 := 5#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_87 : BitVec 32 := 0#32
  ![v9.toNat, 5, v102.toNat, 0]
def k0_off72 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32 : BitVec 32 := 6#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_90 : BitVec 32 := 0#32
  ![v9.toNat, 6, v102.toNat, 0]
def k0_off73 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let c0_i32_7 : BitVec 32 := 0#32
  let c1_i32_8 : BitVec 32 := 1#32
  let arg12 : BitVec 32 := Scf.iv c0_i32_7 c1_i32_8 k0_t3
  let c4_i32 : BitVec 32 := 4#32
  let v101 : BitVec 32 := Scalar.muli arg12 c4_i32
  let v102 : BitVec 32 := v101
  let c0_i32_93 : BitVec 32 := 0#32
  ![v9.toNat, 7, v102.toNat, 0]
@[reducible] def k0_t4_loop : Scf.Loop 32 :=
  let c0_i32_10 : BitVec 32 := 0#32
  let c16_i32 : BitVec 32 := 16#32
  let v18 : BitVec 32 := Scalar.addi c0_i32_10 c16_i32
  let c1_i32_11 : BitVec 32 := 1#32
  ⟨c0_i32_10, v18, c1_i32_11⟩
def k0_mult20 (k0_t4 : Fin k0_t4_loop.trips) : BitVec 32 :=
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  v101
def k0_off74 (k0_t4 : Fin k0_t4_loop.trips) : Fin 2 → Nat :=
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v103 : Index := Scalar.indexCast v102
  let c0_68 : Index := 0#32
  ![v103.toNat, 0]
def k0_off75 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v106 : Index := Scalar.indexCast v9
  let c0_69 : Index := 0#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v107 : Index := Scalar.indexCast v102
  let c0_70 : Index := 0#32
  ![v106.toNat, 0, v107.toNat, 0]
def k0_off76 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v117 : Index := Scalar.indexCast v9
  let c1_71 : Index := 1#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v118 : Index := Scalar.indexCast v102
  let c0_72 : Index := 0#32
  ![v117.toNat, 1, v118.toNat, 0]
def k0_off77 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v130 : Index := Scalar.indexCast v9
  let c2_73 : Index := 2#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v131 : Index := Scalar.indexCast v102
  let c0_74 : Index := 0#32
  ![v130.toNat, 2, v131.toNat, 0]
def k0_off78 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c3_75 : Index := 3#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v144 : Index := Scalar.indexCast v102
  let c0_76 : Index := 0#32
  ![v143.toNat, 3, v144.toNat, 0]
def k0_off79 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v156 : Index := Scalar.indexCast v9
  let c4 : Index := 4#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v157 : Index := Scalar.indexCast v102
  let c0_77 : Index := 0#32
  ![v156.toNat, 4, v157.toNat, 0]
def k0_off80 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v169 : Index := Scalar.indexCast v9
  let c5_78 : Index := 5#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v170 : Index := Scalar.indexCast v102
  let c0_79 : Index := 0#32
  ![v169.toNat, 5, v170.toNat, 0]
def k0_off81 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v182 : Index := Scalar.indexCast v9
  let c6 : Index := 6#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v183 : Index := Scalar.indexCast v102
  let c0_80 : Index := 0#32
  ![v182.toNat, 6, v183.toNat, 0]
def k0_off82 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v195 : Index := Scalar.indexCast v9
  let c7 : Index := 7#32
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v196 : Index := Scalar.indexCast v102
  let c0_81 : Index := 0#32
  ![v195.toNat, 7, v196.toNat, 0]
def k0_off83 (k0_t4 : Fin k0_t4_loop.trips) : Fin 2 → Nat :=
  let c0_i32_10 : BitVec 32 := 0#32
  let c1_i32_11 : BitVec 32 := 1#32
  let arg12 : BitVec 32 := Scf.iv c0_i32_10 c1_i32_11 k0_t4
  let c64_i32 : BitVec 32 := 64#32
  let v101 : BitVec 32 := Scalar.muli arg12 c64_i32
  let v102 : BitVec 32 := v101
  let v208 : Index := Scalar.indexCast v102
  let c0_82 : Index := 0#32
  ![v208.toNat, 0]
def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c127_i32_6 : BitVec 32 := 127#32
  let v20 : BitVec 32 := Scalar.minsi v19 c127_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .smem S1x8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x8x512 : Shape := ⟨3, ![64, 8, 512]⟩
abbrev S1572864x128 : Shape := ⟨2, ![1572864, 128]⟩
abbrev S16x2048x1024 : Shape := ⟨3, ![16, 2048, 1024]⟩
abbrev S16x6144 : Shape := ⟨2, ![16, 6144]⟩
abbrev S393216x512 : Shape := ⟨2, ![393216, 512]⟩
abbrev S_ : Shape := ⟨0, ![]⟩
abbrev S393216x1024 : Shape := ⟨2, ![393216, 1024]⟩
abbrev S64x512x8 : Shape := ⟨3, ![64, 512, 8]⟩
abbrev S32768x8 : Shape := ⟨2, ![32768, 8]⟩
abbrev S32768x8x1 : Shape := ⟨3, ![32768, 8, 1]⟩
abbrev S32768x8x1024 : Shape := ⟨3, ![32768, 8, 1024]⟩
abbrev S32768x1024 : Shape := ⟨2, ![32768, 1024]⟩
abbrev S16x1x6144 : Shape := ⟨3, ![16, 1, 6144]⟩
abbrev S16x1x1024 : Shape := ⟨3, ![16, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S64x8x512, .i32⟩
  | .hbm, ⟨1, _⟩ => ⟨S1572864x128, .i32⟩
  | .hbm, ⟨2, _⟩ => ⟨S64x8x512, .f32⟩
  | .hbm, ⟨3, _⟩ => ⟨S16x2048x1024, .f32⟩
  | .hbm, ⟨4, _⟩ => ⟨S16x6144, .f32⟩
  | .hbm, ⟨5, _⟩ => ⟨S393216x512, .i32⟩
  | .hbm, ⟨6, _⟩ => ⟨S_, .i32⟩
  | .hbm, ⟨7, _⟩ => ⟨S393216x512, .i32⟩
  | .hbm, ⟨8, _⟩ => ⟨S393216x512, .i32⟩
  | .hbm, ⟨9, _⟩ => ⟨S393216x512, .f32⟩
  | .hbm, ⟨10, _⟩ => ⟨S_, .i32⟩
  | .hbm, ⟨11, _⟩ => ⟨S393216x512, .i32⟩
  | .hbm, ⟨12, _⟩ => ⟨S393216x512, .i32⟩
  | .hbm, ⟨13, _⟩ => ⟨S393216x512, .f32⟩
  | .hbm, ⟨14, _⟩ => ⟨S393216x1024, .f32⟩
  | .hbm, ⟨15, _⟩ => ⟨S64x512x8, .i32⟩
  | .hbm, ⟨16, _⟩ => ⟨S32768x8, .i32⟩
  | .hbm, ⟨17, _⟩ => ⟨S_, .i32⟩
  | .hbm, ⟨18, _⟩ => ⟨S_, .i32⟩
  | .hbm, ⟨19, _⟩ => ⟨S32768x8, .i32⟩
  | .hbm, ⟨20, _⟩ => ⟨S32768x8, .i32⟩
  | .hbm, ⟨21, _⟩ => ⟨S32768x8, .i32⟩
  | .hbm, ⟨22, _⟩ => ⟨S_, .i32⟩
  | .hbm, ⟨23, _⟩ => ⟨S32768x8, .i32⟩
  | .hbm, ⟨24, _⟩ => ⟨S32768x8, .i1⟩
  | .hbm, ⟨25, _⟩ => ⟨S32768x8, .i32⟩
  | .hbm, ⟨26, _⟩ => ⟨S32768x8, .i32⟩
  | .hbm, ⟨27, _⟩ => ⟨S_, .i32⟩
  | .hbm, ⟨28, _⟩ => ⟨S32768x8, .i32⟩
  | .hbm, ⟨29, _⟩ => ⟨S32768x8, .i1⟩
  | .hbm, ⟨30, _⟩ => ⟨S32768x8, .i1⟩
  | .hbm, ⟨31, _⟩ => ⟨S_, .i32⟩
  | .hbm, ⟨32, _⟩ => ⟨S32768x8, .i32⟩
  | .hbm, ⟨33, _⟩ => ⟨S32768x8, .i32⟩
  | .hbm, ⟨34, _⟩ => ⟨S32768x8, .i32⟩
  | .hbm, ⟨35, _⟩ => ⟨S64x512x8, .f32⟩
  | .hbm, ⟨36, _⟩ => ⟨S32768x8, .f32⟩
  | .hbm, ⟨37, _⟩ => ⟨S32768x8x1, .f32⟩
  | .hbm, ⟨38, _⟩ => ⟨S32768x8x1, .i32⟩
  | .hbm, ⟨39, _⟩ => ⟨S32768x8x1024, .f32⟩
  | .hbm, ⟨40, _⟩ => ⟨S32768x8x1024, .f32⟩
  | .hbm, ⟨41, _⟩ => ⟨S32768x8x1024, .f32⟩
  | .hbm, ⟨42, _⟩ => ⟨S_, .f32⟩
  | .hbm, ⟨43, _⟩ => ⟨S32768x1024, .f32⟩
  | .hbm, ⟨44, _⟩ => ⟨S16x1x6144, .f32⟩
  | .hbm, ⟨45, _⟩ => ⟨S16x1x1024, .f32⟩
  | .hbm, ⟨46, _⟩ => ⟨S16x1x1024, .f32⟩
  | .hbm, ⟨47, _⟩ => ⟨S16x1x1024, .f32⟩
  | .hbm, ⟨48, _⟩ => ⟨S16x1x1024, .f32⟩
  | .hbm, ⟨49, _⟩ => ⟨S16x1x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | _, _ => ⟨S64x8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call1_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== MixerIn.lean ====
abbrev S16x2048x1024 : Shape := ⟨3, ![16, 2048, 1024]⟩
abbrev S16x6144 : Shape := ⟨2, ![16, 6144]⟩
abbrev S1024 : Shape := ⟨1, ![1024]⟩
abbrev S1024x4352 : Shape := ⟨2, ![1024, 4352]⟩
abbrev S64 : Shape := ⟨1, ![64]⟩
abbrev S2048x512 : Shape := ⟨2, ![2048, 512]⟩
abbrev S3x512 : Shape := ⟨2, ![3, 512]⟩
abbrev S512x1024 : Shape := ⟨2, ![512, 1024]⟩
abbrev S16x6x1024 : Shape := ⟨3, ![16, 6, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S16x2048x512 : Shape := ⟨3, ![16, 2048, 512]⟩
abbrev S16x128x2048 : Shape := ⟨3, ![16, 128, 2048]⟩
abbrev S16x2048x128 : Shape := ⟨3, ![16, 2048, 128]⟩
abbrev S1x512x1024 : Shape := ⟨3, ![1, 512, 1024]⟩
abbrev S1x8x1024 : Shape := ⟨3, ![1, 8, 1024]⟩
abbrev S1x6x1024 : Shape := ⟨3, ![1, 6, 1024]⟩
abbrev S512x512 : Shape := ⟨2, ![512, 512]⟩
abbrev S1x512x512 : Shape := ⟨3, ![1, 512, 512]⟩
abbrev S1x128x512 : Shape := ⟨3, ![1, 128, 512]⟩
abbrev S1x512x128 : Shape := ⟨3, ![1, 512, 128]⟩
abbrev S512x768 : Shape := ⟨2, ![512, 768]⟩
abbrev S512x1536 : Shape := ⟨2, ![512, 1536]⟩
abbrev S512x2048 : Shape := ⟨2, ![512, 2048]⟩
abbrev S1x1x1024 : Shape := ⟨3, ![1, 1, 1024]⟩
abbrev S512x1 : Shape := ⟨2, ![512, 1]⟩
abbrev S1024x768 : Shape := ⟨2, ![1024, 768]⟩
abbrev S1024x1536 : Shape := ⟨2, ![1024, 1536]⟩
abbrev S512x128 : Shape := ⟨2, ![512, 128]⟩
abbrev S512x64 : Shape := ⟨2, ![512, 64]⟩
abbrev S128x512 : Shape := ⟨2, ![128, 512]⟩
abbrev S1024x2048 : Shape := ⟨2, ![1024, 2048]⟩
abbrev S8x1024 : Shape := ⟨2, ![8, 1024]⟩
abbrev S8 : Shape := ⟨1, ![8]⟩
abbrev S8x1 : Shape := ⟨2, ![8, 1]⟩
abbrev S1024x1024 : Shape := ⟨2, ![1024, 1024]⟩
abbrev S8x512 : Shape := ⟨2, ![8, 512]⟩

abbrev nBuf : Space → Nat
  | .hbm => 27
  | .vmem => 32
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x4352, .f32⟩
  | .hbm, ⟨4, _⟩ => ⟨S64, .f32⟩
  | .hbm, ⟨5, _⟩ => ⟨S64, .f32⟩
  | .hbm, ⟨6, _⟩ => ⟨S2048x512, .f32⟩
  | .hbm, ⟨7, _⟩ => ⟨S2048x512, .f32⟩
  | .hbm, ⟨8, _⟩ => ⟨S3x512, .f32⟩
  | .hbm, ⟨9, _⟩ => ⟨S512x1024, .f32⟩
  | .hbm, ⟨10, _⟩ => ⟨S16x6x1024, .f32⟩
  | .hbm, ⟨11, _⟩ => ⟨S1x1024, .f32⟩
  | .hbm, ⟨12, _⟩ => ⟨S1024x4352, .bf16⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x512, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S512x1024, .bf16⟩
  | .hbm, ⟨22, _⟩ => ⟨S16x2048x512, .bf16⟩
  | .hbm, ⟨23, _⟩ => ⟨S16x128x2048, .bf16⟩
  | .hbm, ⟨24, _⟩ => ⟨S16x2048x128, .bf16⟩
  | .hbm, ⟨25, _⟩ => ⟨S16x2048x1024, .bf16⟩
  | .hbm, ⟨26, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x4352, .bf16⟩
  | .local _ .vmem, ⟨10, _⟩ => ⟨S1x512, .f32⟩
  | .local _ .vmem, ⟨11, _⟩ => ⟨S1x128, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S3x512, .f32⟩
  | .local _ .vmem, ⟨17, _⟩ => ⟨S512x1024, .bf16⟩
  | .local _ .vmem, ⟨18, _⟩ => ⟨S1x512x512, .bf16⟩
  | .local _ .vmem, ⟨19, _⟩ => ⟨S1x512x512, .bf16⟩
  | .local _ .vmem, ⟨20, _⟩ => ⟨S1x128x512, .bf16⟩
  | .local _ .vmem, ⟨21, _⟩ => ⟨S1x128x512, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S512x1024, .bf16⟩
  | .local _ .vmem, ⟨29, _⟩ => ⟨S512x768, .f32⟩
  | .local _ .vmem, ⟨30, _⟩ => ⟨S512x1536, .f32⟩
  | .local _ .vmem, ⟨31, _⟩ => ⟨S512x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4352 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixerIdeal.lean ====
abbrev S16x2048x1024 : Shape := ⟨3, ![16, 2048, 1024]⟩
abbrev S16x6144 : Shape := ⟨2, ![16, 6144]⟩
abbrev S1024 : Shape := ⟨1, ![1024]⟩
abbrev S1024x4352 : Shape := ⟨2, ![1024, 4352]⟩
abbrev S64 : Shape := ⟨1, ![64]⟩
abbrev S2048x512 : Shape := ⟨2, ![2048, 512]⟩
abbrev S3x512 : Shape := ⟨2, ![3, 512]⟩
abbrev S512x1024 : Shape := ⟨2, ![512, 1024]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4352 : Shape := ⟨3, ![16, 2048, 4352]⟩
abbrev S16x2048x512 : Shape := ⟨3, ![16, 2048, 512]⟩
abbrev S16x2048x128 : Shape := ⟨3, ![16, 2048, 128]⟩
abbrev S16x2049x512 : Shape := ⟨3, ![16, 2049, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x4352, .f32⟩
  | .hbm, ⟨4, _⟩ => ⟨S64, .f32⟩
  | .hbm, ⟨5, _⟩ => ⟨S64, .f32⟩
  | .hbm, ⟨6, _⟩ => ⟨S2048x512, .f32⟩
  | .hbm, ⟨7, _⟩ => ⟨S2048x512, .f32⟩
  | .hbm, ⟨8, _⟩ => ⟨S3x512, .f32⟩
  | .hbm, ⟨9, _⟩ => ⟨S512x1024, .f32⟩
  | .hbm, ⟨10, _⟩ => ⟨S16x1x6144, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x4352, .f32⟩
  | .hbm, ⟨41, _⟩ => ⟨S16x2048x512, .f32⟩
  | .hbm, ⟨42, _⟩ => ⟨S16x2048x128, .f32⟩
  | .hbm, ⟨43, _⟩ => ⟨S16x2048x128, .f32⟩
  | .hbm, ⟨44, _⟩ => ⟨S16x2048x512, .f32⟩
  | .hbm, ⟨45, _⟩ => ⟨S16x2048x512, .f32⟩
  | .hbm, ⟨46, _⟩ => ⟨S16x2048x512, .f32⟩
  | .hbm, ⟨47, _⟩ => ⟨S16x2048x1024, .f32⟩
  | .hbm, ⟨48, _⟩ => ⟨S16x2048x1024, .f32⟩
  | .hbm, ⟨49, _⟩ => ⟨S16x2048x512, .f32⟩
  | .hbm, ⟨50, _⟩ => ⟨S_, .i32⟩
  | .hbm, ⟨51, _⟩ => ⟨S_, .f32⟩
  | .hbm, ⟨52, _⟩ => ⟨S16x2049x512, .f32⟩
  | .hbm, ⟨53, _⟩ => ⟨S16x2048x512, .f32⟩
  | .hbm, ⟨54, _⟩ => ⟨S_, .i32⟩
  | .hbm, ⟨55, _⟩ => ⟨S_, .f32⟩
  | .hbm, ⟨56, _⟩ => ⟨S16x2049x512, .f32⟩
  | .hbm, ⟨57, _⟩ => ⟨S16x2048x512, .f32⟩
  | .hbm, ⟨58, _⟩ => ⟨S1x512, .f32⟩
  | .hbm, ⟨59, _⟩ => ⟨S512, .f32⟩
  | .hbm, ⟨60, _⟩ => ⟨S1x1x512, .f32⟩
  | .hbm, ⟨61, _⟩ => ⟨S16x2048x512, .f32⟩
  | .hbm, ⟨62, _⟩ => ⟨S16x2048x512, .f32⟩
  | .hbm, ⟨63, _⟩ => ⟨S1x512, .f32⟩
  | .hbm, ⟨64, _⟩ => ⟨S512, .f32⟩
  | .hbm, ⟨65, _⟩ => ⟨S1x1x512, .f32⟩
  | .hbm, ⟨66, _⟩ => ⟨S16x2048x512, .f32⟩
  | .hbm, ⟨67, _⟩ => ⟨S16x2048x512, .f32⟩
  | .hbm, ⟨68, _⟩ => ⟨S16x2048x512, .f32⟩
  | .hbm, ⟨69, _⟩ => ⟨S1x512, .f32⟩
  | .hbm, ⟨70, _⟩ => ⟨S512, .f32⟩
  | .hbm, ⟨71, _⟩ => ⟨S1x1x512, .f32⟩
  | .hbm, ⟨72, _⟩ => ⟨S16x2048x512, .f32⟩
  | .hbm, ⟨73, _⟩ => ⟨S16x2048x512, .f32⟩
  | .hbm, ⟨74, _⟩ => ⟨S16x2048x512, .f32⟩
  | .hbm, ⟨75, _⟩ => ⟨S16x2048x512, .f32⟩
  | .hbm, ⟨76, _⟩ => ⟨S16x2048x1024, .f32⟩
  | .hbm, ⟨77, _⟩ => ⟨S16x2048x128, .bf16⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x2048x1024, .f32⟩
  | .hbm, ⟨82, _⟩ => ⟨S16x2048x1024, .f32⟩
  | .hbm, ⟨83, _⟩ => ⟨S_, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S16x2048x1024, .bf16⟩
  | .hbm, ⟨88, _⟩ => ⟨S16x2048x1024, .f32⟩
  | .hbm, ⟨89, _⟩ => ⟨S16x2048x1024, .f32⟩
  | .hbm, ⟨90, _⟩ => ⟨S_, .f32⟩
  | .hbm, ⟨91, _⟩ => ⟨S16x2048x1024, .f32⟩
  | .hbm, ⟨92, _⟩ => ⟨S16x2048x1024, .f32⟩
  | .hbm, ⟨93, _⟩ => ⟨S_, .f32⟩
  | .hbm, ⟨94, _⟩ => ⟨S16x2048x1024, .f32⟩
  | .hbm, ⟨95, _⟩ => ⟨S16x2048x1024, .f32⟩
  | .hbm, ⟨96, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_c_3 : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_4 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_6 : Ref sig .tc := ⟨.hbm, 90, rfl⟩
abbrev main_v70 : Ref sig .tc := ⟨.hbm, 91, rfl⟩
abbrev main_v71 : Ref sig .tc := ⟨.hbm, 92, rfl⟩
abbrev main_cst_7 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Attention.lean ====
abbrev S16x2048x512 : Shape := ⟨3, ![16, 2048, 512]⟩
abbrev S16x128x2048 : Shape := ⟨3, ![16, 128, 2048]⟩
abbrev S16x2048x128 : Shape := ⟨3, ![16, 2048, 128]⟩
abbrev S1x512x256 : Shape := ⟨3, ![1, 512, 256]⟩
abbrev S1x64x2048 : Shape := ⟨3, ![1, 64, 2048]⟩
abbrev S1x2048x128 : Shape := ⟨3, ![1, 2048, 128]⟩
abbrev S2x128x2048 : Shape := ⟨3, ![2, 128, 2048]⟩
abbrev S1x128x64 : Shape := ⟨3, ![1, 128, 64]⟩
abbrev S128x64 : Shape := ⟨2, ![128, 64]⟩
abbrev S64x2048 : Shape := ⟨2, ![64, 2048]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩
abbrev S2048x128 : Shape := ⟨2, ![2048, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 4
  | .vmem => 10
  | .smem => 0
  | _ => 0

abbrev bufTy : (tb : Table) → Fin (tcTables nBuf tb) → BufTy
  | .hbm, ⟨0, _⟩ => ⟨S16x2048x512, .bf16⟩
  | .hbm, ⟨1, _⟩ => ⟨S16x128x2048, .bf16⟩
  | .hbm, ⟨2, _⟩ => ⟨S16x2048x128, .bf16⟩
  | .hbm, ⟨3, _⟩ => ⟨S16x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x256, .bf16⟩
  | .local _ .vmem, ⟨7, _⟩ => ⟨S1x512x256, .bf16⟩
  | .local _ .vmem, ⟨8, _⟩ => ⟨S2x128x2048, .f32⟩
  | .local _ .vmem, ⟨9, _⟩ => ⟨S2x128x2048, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SoftmaxIdeal.lean ====
abbrev S16x2048x512 : Shape := ⟨3, ![16, 2048, 512]⟩
abbrev S16x128x2048 : Shape := ⟨3, ![16, 128, 2048]⟩
abbrev S16x2048x128 : Shape := ⟨3, ![16, 2048, 128]⟩
abbrev S16x2048x2x4x64 : Shape := ⟨5, ![16, 2048, 2, 4, 64]⟩
abbrev S16x2x64x2048 : Shape := ⟨4, ![16, 2, 64, 2048]⟩
abbrev S16x2048x2x64 : Shape := ⟨4, ![16, 2048, 2, 64]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x4x2048x64 : Shape := ⟨5, ![16, 2, 4, 2048, 64]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x128x2048, .bf16⟩
  | .hbm, ⟨2, _⟩ => ⟨S16x2048x128, .bf16⟩
  | .hbm, ⟨3, _⟩ => ⟨S16x2048x512, .f32⟩
  | .hbm, ⟨4, _⟩ => ⟨S16x2048x2x4x64, .f32⟩
  | .hbm, ⟨5, _⟩ => ⟨S16x128x2048, .f32⟩
  | .hbm, ⟨6, _⟩ => ⟨S16x2x64x2048, .f32⟩
  | .hbm, ⟨7, _⟩ => ⟨S16x2048x128, .f32⟩
  | .hbm, ⟨8, _⟩ => ⟨S16x2048x2x64, .f32⟩
  | .hbm, ⟨9, _⟩ => ⟨S16x2x2048x2048x4, .f32⟩
  | .hbm, ⟨10, _⟩ => ⟨S16x2x4x2048x2048, .f32⟩
  | .hbm, ⟨11, _⟩ => ⟨S_, .f32⟩
  | .hbm, ⟨12, _⟩ => ⟨S16x2x4x2048, .f32⟩
  | .hbm, ⟨13, _⟩ => ⟨S16x2x4x2048x1, .f32⟩
  | .hbm, ⟨14, _⟩ => ⟨S16x2x4x2048x2048, .f32⟩
  | .hbm, ⟨15, _⟩ => ⟨S16x2x4x2048x2048, .f32⟩
  | .hbm, ⟨16, _⟩ => ⟨S_, .f32⟩
  | .hbm, ⟨17, _⟩ => ⟨S16x2x4x2048x2048, .f32⟩
  | .hbm, ⟨18, _⟩ => ⟨S16x2x4x2048x2048, .f32⟩
  | .hbm, ⟨19, _⟩ => ⟨S16x2x4x2048x64, .f32⟩
  | .hbm, ⟨20, _⟩ => ⟨S_, .f32⟩
  | .hbm, ⟨21, _⟩ => ⟨S16x2x4x2048, .f32⟩
  | .hbm, ⟨22, _⟩ => ⟨S16x2x4x2048x1, .f32⟩
  | .hbm, ⟨23, _⟩ => ⟨S16x2x4x2048x64, .f32⟩
  | .hbm, ⟨24, _⟩ => ⟨S16x2x4x2048x64, .f32⟩
  | .hbm, ⟨25, _⟩ => ⟨S16x2048x2x4x64, .f32⟩
  | .hbm, ⟨26, _⟩ => ⟨S16x2048x512, .f32⟩
  | .hbm, ⟨27, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== MixerOut.lean ====
abbrev S16x2048x1024 : Shape := ⟨3, ![16, 2048, 1024]⟩
abbrev S16x2048x512 : Shape := ⟨3, ![16, 2048, 512]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S256 : Shape := ⟨1, ![256]⟩
abbrev S16x6x1024 : Shape := ⟨3, ![16, 6, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1024x512 : Shape := ⟨2, ![1024, 512]⟩
abbrev S256x1 : Shape := ⟨2, ![256, 1]⟩
abbrev S131072x128 : Shape := ⟨2, ![131072, 128]⟩
abbrev S64x8x512 : Shape := ⟨3, ![64, 8, 512]⟩
abbrev S1x512x1024 : Shape := ⟨3, ![1, 512, 1024]⟩
abbrev S1x512x512 : Shape := ⟨3, ![1, 512, 512]⟩
abbrev S1x6x1024 : Shape := ⟨3, ![1, 6, 1024]⟩
abbrev S2048x128 : Shape := ⟨2, ![2048, 128]⟩
abbrev S1x8x512 : Shape := ⟨3, ![1, 8, 512]⟩
abbrev S1x1x1024 : Shape := ⟨3, ![1, 1, 1024]⟩
abbrev S512x256 : Shape := ⟨2, ![512, 256]⟩
abbrev S512x128 : Shape := ⟨2, ![512, 128]⟩
abbrev S256x512 : Shape := ⟨2, ![256, 512]⟩
abbrev S256x128 : Shape := ⟨2, ![256, 128]⟩
abbrev S32x128 : Shape := ⟨2, ![32, 128]⟩
abbrev S128 : Shape := ⟨1, ![128]⟩
abbrev S1x128 : Shape := ⟨2, ![1, 128]⟩
abbrev S8x128 : Shape := ⟨2, ![8, 128]⟩
abbrev S8x512 : Shape := ⟨2, ![8, 512]⟩

abbrev nBuf : Space → Nat
  | .hbm => 36
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x1024, .bf16⟩
  | .hbm, ⟨3, _⟩ => ⟨S16x2048x1024, .bf16⟩
  | .hbm, ⟨4, _⟩ => ⟨S16x6144, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x256, .f32⟩
  | .hbm, ⟨9, _⟩ => ⟨S1024x256, .f32⟩
  | .hbm, ⟨10, _⟩ => ⟨S256x1024, .f32⟩
  | .hbm, ⟨11, _⟩ => ⟨S1024x256, .f32⟩
  | .hbm, ⟨12, _⟩ => ⟨S256, .f32⟩
  | .hbm, ⟨13, _⟩ => ⟨S16x6x1024, .f32⟩
  | .hbm, ⟨14, _⟩ => ⟨S512, .i32⟩
  | .hbm, ⟨15, _⟩ => ⟨S512x1, .i32⟩
  | .hbm, ⟨16, _⟩ => ⟨S512, .i32⟩
  | .hbm, ⟨17, _⟩ => ⟨S1x512, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S1024x512, .f32⟩
  | .hbm, ⟨26, _⟩ => ⟨S1024x512, .bf16⟩
  | .hbm, ⟨27, _⟩ => ⟨S256x1024, .bf16⟩
  | .hbm, ⟨28, _⟩ => ⟨S256x1024, .f32⟩
  | .hbm, ⟨29, _⟩ => ⟨S256x1024, .bf16⟩
  | .hbm, ⟨30, _⟩ => ⟨S256x1, .f32⟩
  | .hbm, ⟨31, _⟩ => ⟨S16x2048x1024, .f32⟩
  | .hbm, ⟨32, _⟩ => ⟨S131072x128, .i32⟩
  | .hbm, ⟨33, _⟩ => ⟨S64x8x512, .i32⟩
  | .hbm, ⟨34, _⟩ => ⟨S64x8x512, .f32⟩
  | .hbm, ⟨35, _⟩ => ⟨S256x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x6x1024, .f32⟩
  | .local _ .vmem, ⟨9, _⟩ => ⟨S1x6x1024, .f32⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x512, .bf16⟩
  | .local _ .vmem, ⟨14, _⟩ => ⟨S256x1024, .bf16⟩
  | .local _ .vmem, ⟨15, _⟩ => ⟨S256x1024, .bf16⟩
  | .local _ .vmem, ⟨16, _⟩ => ⟨S256x1, .f32⟩
  | .local _ .vmem, ⟨17, _⟩ => ⟨S512x512, .bf16⟩
  | .local _ .vmem, ⟨18, _⟩ => ⟨S1x512x1024, .f32⟩
  | .local _ .vmem, ⟨19, _⟩ => ⟨S1x512x1024, .f32⟩
  | .local _ .vmem, ⟨20, _⟩ => ⟨S2048x128, .i32⟩
  | .local _ .vmem, ⟨21, _⟩ => ⟨S2048x128, .i32⟩
  | .local _ .vmem, ⟨22, _⟩ => ⟨S1x8x512, .i32⟩
  | .local _ .vmem, ⟨23, _⟩ => ⟨S1x8x512, .i32⟩
  | .local _ .vmem, ⟨24, _⟩ => ⟨S1x8x512, .f32⟩
  | .local _ .vmem, ⟨25, _⟩ => ⟨S1x8x512, .f32⟩
  | .local _ .vmem, ⟨26, _⟩ => ⟨S256x1, .f32⟩
  | .local _ .vmem, ⟨27, _⟩ => ⟨S256x1, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [BitOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== MixerOutIdeal.lean ====
abbrev S16x2048x1024 : Shape := ⟨3, ![16, 2048, 1024]⟩
abbrev S16x2048x512 : Shape := ⟨3, ![16, 2048, 512]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S256 : Shape := ⟨1, ![256]⟩
abbrev S16x6x1024 : Shape := ⟨3, ![16, 6, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1024x512 : Shape := ⟨2, ![1024, 512]⟩
abbrev S256x1 : Shape := ⟨2, ![256, 1]⟩
abbrev S131072x2x128 : Shape := ⟨3, ![131072, 2, 128]⟩
abbrev S64x8x512 : Shape := ⟨3, ![64, 8, 512]⟩
abbrev S131072x1x128 : Shape := ⟨3, ![131072, 1, 128]⟩
abbrev S131072x128 : Shape := ⟨2, ![131072, 128]⟩
abbrev S1x512x1024 : Shape := ⟨3, ![1, 512, 1024]⟩
abbrev S1x512x512 : Shape := ⟨3, ![1, 512, 512]⟩
abbrev S1x6x1024 : Shape := ⟨3, ![1, 6, 1024]⟩
abbrev S2048x128 : Shape := ⟨2, ![2048, 128]⟩
abbrev S2048x2x128 : Shape := ⟨3, ![2048, 2, 128]⟩
abbrev S2048x1x128 : Shape := ⟨3, ![2048, 1, 128]⟩
abbrev S1x8x512 : Shape := ⟨3, ![1, 8, 512]⟩
abbrev S1x1x1024 : Shape := ⟨3, ![1, 1, 1024]⟩
abbrev S512x256 : Shape := ⟨2, ![512, 256]⟩
abbrev S512x128 : Shape := ⟨2, ![512, 128]⟩
abbrev S512x2x128 : Shape := ⟨3, ![512, 2, 128]⟩
abbrev S512x1x128 : Shape := ⟨3, ![512, 1, 128]⟩
abbrev S256x512 : Shape := ⟨2, ![256, 512]⟩
abbrev S256x128 : Shape := ⟨2, ![256, 128]⟩
abbrev S32x128 : Shape := ⟨2, ![32, 128]⟩
abbrev S128 : Shape := ⟨1, ![128]⟩
abbrev S1x128 : Shape := ⟨2, ![1, 128]⟩
abbrev S8x128 : Shape := ⟨2, ![8, 128]⟩
abbrev S8x512 : Shape := ⟨2, ![8, 512]⟩

abbrev nBuf : Space → Nat
  | .hbm => 36
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x1024, .bf16⟩
  | .hbm, ⟨3, _⟩ => ⟨S16x2048x1024, .bf16⟩
  | .hbm, ⟨4, _⟩ => ⟨S16x6144, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x256, .f32⟩
  | .hbm, ⟨9, _⟩ => ⟨S1024x256, .f32⟩
  | .hbm, ⟨10, _⟩ => ⟨S256x1024, .f32⟩
  | .hbm, ⟨11, _⟩ => ⟨S1024x256, .f32⟩
  | .hbm, ⟨12, _⟩ => ⟨S256, .f32⟩
  | .hbm, ⟨13, _⟩ => ⟨S16x6x1024, .f32⟩
  | .hbm, ⟨14, _⟩ => ⟨S512, .i32⟩
  | .hbm, ⟨15, _⟩ => ⟨S512x1, .i32⟩
  | .hbm, ⟨16, _⟩ => ⟨S512, .i32⟩
  | .hbm, ⟨17, _⟩ => ⟨S1x512, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S1024x512, .f32⟩
  | .hbm, ⟨26, _⟩ => ⟨S1024x512, .bf16⟩
  | .hbm, ⟨27, _⟩ => ⟨S256x1024, .bf16⟩
  | .hbm, ⟨28, _⟩ => ⟨S256x1024, .f32⟩
  | .hbm, ⟨29, _⟩ => ⟨S256x1024, .bf16⟩
  | .hbm, ⟨30, _⟩ => ⟨S256x1, .f32⟩
  | .hbm, ⟨31, _⟩ => ⟨S16x2048x1024, .f32⟩
  | .hbm, ⟨32, _⟩ => ⟨S131072x2x128, .bf16⟩
  | .hbm, ⟨33, _⟩ => ⟨S64x8x512, .i32⟩
  | .hbm, ⟨34, _⟩ => ⟨S64x8x512, .f32⟩
  | .hbm, ⟨35, _⟩ => ⟨S256x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x6x1024, .f32⟩
  | .local _ .vmem, ⟨9, _⟩ => ⟨S1x6x1024, .f32⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x512, .bf16⟩
  | .local _ .vmem, ⟨14, _⟩ => ⟨S256x1024, .bf16⟩
  | .local _ .vmem, ⟨15, _⟩ => ⟨S256x1024, .bf16⟩
  | .local _ .vmem, ⟨16, _⟩ => ⟨S256x1, .f32⟩
  | .local _ .vmem, ⟨17, _⟩ => ⟨S512x512, .bf16⟩
  | .local _ .vmem, ⟨18, _⟩ => ⟨S1x512x1024, .f32⟩
  | .local _ .vmem, ⟨19, _⟩ => ⟨S1x512x1024, .f32⟩
  | .local _ .vmem, ⟨20, _⟩ => ⟨S2048x2x128, .bf16⟩
  | .local _ .vmem, ⟨21, _⟩ => ⟨S2048x2x128, .bf16⟩
  | .local _ .vmem, ⟨22, _⟩ => ⟨S1x8x512, .i32⟩
  | .local _ .vmem, ⟨23, _⟩ => ⟨S1x8x512, .i32⟩
  | .local _ .vmem, ⟨24, _⟩ => ⟨S1x8x512, .f32⟩
  | .local _ .vmem, ⟨25, _⟩ => ⟨S1x8x512, .f32⟩
  | .local _ .vmem, ⟨26, _⟩ => ⟨S256x1, .f32⟩
  | .local _ .vmem, ⟨27, _⟩ => ⟨S256x1, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, 0, c0_i32.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x2x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ResidualIdeal.lean ====
abbrev S16x2048x1024 : Shape := ⟨3, ![16, 2048, 1024]⟩
abbrev S16x2048x512 : Shape := ⟨3, ![16, 2048, 512]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S256 : Shape := ⟨1, ![256]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x256 : Shape := ⟨3, ![16, 2048, 256]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x1024, .bf16⟩
  | .hbm, ⟨3, _⟩ => ⟨S16x2048x1024, .bf16⟩
  | .hbm, ⟨4, _⟩ => ⟨S16x6144, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x256, .f32⟩
  | .hbm, ⟨9, _⟩ => ⟨S1024x256, .f32⟩
  | .hbm, ⟨10, _⟩ => ⟨S256x1024, .f32⟩
  | .hbm, ⟨11, _⟩ => ⟨S1024x256, .f32⟩
  | .hbm, ⟨12, _⟩ => ⟨S256, .f32⟩
  | .hbm, ⟨13, _⟩ => ⟨S16x1x6144, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x2048x512, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x1x1024, .f32⟩
  | .hbm, ⟨48, _⟩ => ⟨S16x1x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x256, .f32⟩
  | .hbm, ⟨54, _⟩ => ⟨S16x2048x256, .f32⟩
  | .hbm, ⟨55, _⟩ => ⟨S16x2048x256, .f32⟩
  | .hbm, ⟨56, _⟩ => ⟨S_, .f32⟩
  | .hbm, ⟨57, _⟩ => ⟨S16x2048x256, .f32⟩
  | .hbm, ⟨58, _⟩ => ⟨S16x2048x256, .f32⟩
  | .hbm, ⟨59, _⟩ => ⟨S_, .f32⟩
  | .hbm, ⟨60, _⟩ => ⟨S16x2048x256, .f32⟩
  | .hbm, ⟨61, _⟩ => ⟨S16x2048x256, .f32⟩
  | .hbm, ⟨62, _⟩ => ⟨S16x2048x256, .f32⟩
  | .hbm, ⟨63, _⟩ => ⟨S16x2048x256, .f32⟩
  | .hbm, ⟨64, _⟩ => ⟨S16x2048x256, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Proof.Offsets.lean ====
/-
  The run-time offsets of the kernel in closed form: a grid point's slot is its parity, a trip of a loop moves four
  rows of a slot's line, the next point's copies go to the other slot.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

/-- The slot a point's rows lie in. -/
def par (i : grid0.Coords) : ℕ := (i 0).val % 2

theorem off2_par : ∀ i : grid0.Coords, k0_off2 i 0 = par i := by decide +kernel
theorem off34_par : ∀ i : grid0.Coords, k0_cond2 i = 1#1 → k0_off34 i 0 = 1 - par i := by decide +kernel
theorem cond1_iff : ∀ i : grid0.Coords, k0_cond1 i = 1#1 ↔ (i 0).val = 0 := by decide +kernel
theorem cond2_iff : ∀ i : grid0.Coords, k0_cond2 i = 1#1 ↔ (i 0).val + 1 < 128 := by decide +kernel

/-- A vector of one entry. -/
theorem vec1 {f : Fin 1 → ℕ} {a : ℕ} (h : f 0 = a) : f = ![a] := by
  funext x; fin_cases x; exact h

/-- A vector of four entries. -/
theorem vec4 {f : Fin 4 → ℕ} {a b c d : ℕ} (h0 : f 0 = a) (h1 : f 1 = b) (h2 : f 2 = c) (h3 : f 3 = d) :
    f = ![a, b, c, d] := by
  funext x; fin_cases x
  · exact h0
  · exact h1
  · exact h2
  · exact h3

theorem trip1 : k0_t1_loop.trips = 256 := by decide +kernel
theorem trip2 : k0_t2_loop.trips = 256 := by decide +kernel
theorem trip3 : k0_t3_loop.trips = 256 := by decide +kernel
theorem trip4 : k0_t4_loop.trips = 16 := by decide +kernel

/-- The coordinate at which the offsets that do not depend on the point are read. -/
def i₀ : grid0.Coords := fun x => ⟨0, by fin_cases x; decide⟩

theorem row1' : ∀ t : Fin k0_t1_loop.trips, k0_off7 i₀ t 2 = 4 * t.val := by decide +kernel
theorem row1 : ∀ t : Fin k0_t1_loop.trips, k0_off3 i₀ t 2 = 4 * t.val := by decide +kernel
theorem row2' : ∀ t : Fin k0_t2_loop.trips, k0_off39 i₀ t 2 = 4 * t.val := by decide +kernel
theorem row2 : ∀ t : Fin k0_t2_loop.trips, k0_off35 i₀ t 2 = 4 * t.val := by decide +kernel
theorem row3 : ∀ t : Fin k0_t3_loop.trips, k0_off66 i₀ t 2 = 4 * t.val := by decide +kernel
theorem row4' : ∀ t : Fin k0_t4_loop.trips, k0_off76 i₀ t 2 = 64 * t.val := by decide +kernel
theorem row4 : ∀ t : Fin k0_t4_loop.trips, k0_off75 i₀ t 2 = 64 * t.val := by decide +kernel

variable (i : grid0.Coords)

theorem sem1 : k0_off2 i = ![par i] := vec1 (off2_par i)
theorem sem2 (h : k0_cond2 i = 1#1) : k0_off34 i = ![1 - par i] := vec1 (off34_par i h)
theorem sem3 : k0_off65 i = ![par i] := vec1 (off2_par i)

theorem dst1_0 (t : Fin k0_t1_loop.trips) : k0_off3 i t = ![par i, 0, 4 * t.val, 0] := vec4 (off2_par i) rfl (row1' t) rfl
theorem dst1_1 (t : Fin k0_t1_loop.trips) : k0_off7 i t = ![par i, 1, 4 * t.val, 0] := vec4 (off2_par i) rfl (row1 t) rfl
theorem dst1_2 (t : Fin k0_t1_loop.trips) : k0_off11 i t = ![par i, 2, 4 * t.val, 0] := vec4 (off2_par i) rfl (row1 t) rfl
theorem dst1_3 (t : Fin k0_t1_loop.trips) : k0_off15 i t = ![par i, 3, 4 * t.val, 0] := vec4 (off2_par i) rfl (row1 t) rfl
theorem dst1_4 (t : Fin k0_t1_loop.trips) : k0_off19 i t = ![par i, 4, 4 * t.val, 0] := vec4 (off2_par i) rfl (row1 t) rfl
theorem dst1_5 (t : Fin k0_t1_loop.trips) : k0_off23 i t = ![par i, 5, 4 * t.val, 0] := vec4 (off2_par i) rfl (row1 t) rfl
theorem dst1_6 (t : Fin k0_t1_loop.trips) : k0_off27 i t = ![par i, 6, 4 * t.val, 0] := vec4 (off2_par i) rfl (row1 t) rfl
theorem dst1_7 (t : Fin k0_t1_loop.trips) : k0_off31 i t = ![par i, 7, 4 * t.val, 0] := vec4 (off2_par i) rfl (row1 t) rfl
theorem dst2_0 (t : Fin k0_t2_loop.trips) (h : k0_cond2 i = 1#1) : k0_off35 i t = ![1 - par i, 0, 4 * t.val, 0] := vec4 (off34_par i h) rfl (row2' t) rfl
theorem dst2_1 (t : Fin k0_t2_loop.trips) (h : k0_cond2 i = 1#1) : k0_off39 i t = ![1 - par i, 1, 4 * t.val, 0] := vec4 (off34_par i h) rfl (row2 t) rfl
theorem dst2_2 (t : Fin k0_t2_loop.trips) (h : k0_cond2 i = 1#1) : k0_off43 i t = ![1 - par i, 2, 4 * t.val, 0] := vec4 (off34_par i h) rfl (row2 t) rfl
theorem dst2_3 (t : Fin k0_t2_loop.trips) (h : k0_cond2 i = 1#1) : k0_off47 i t = ![1 - par i, 3, 4 * t.val, 0] := vec4 (off34_par i h) rfl (row2 t) rfl
theorem dst2_4 (t : Fin k0_t2_loop.trips) (h : k0_cond2 i = 1#1) : k0_off51 i t = ![1 - par i, 4, 4 * t.val, 0] := vec4 (off34_par i h) rfl (row2 t) rfl
theorem dst2_5 (t : Fin k0_t2_loop.trips) (h : k0_cond2 i = 1#1) : k0_off55 i t = ![1 - par i, 5, 4 * t.val, 0] := vec4 (off34_par i h) rfl (row2 t) rfl
theorem dst2_6 (t : Fin k0_t2_loop.trips) (h : k0_cond2 i = 1#1) : k0_off59 i t = ![1 - par i, 6, 4 * t.val, 0] := vec4 (off34_par i h) rfl (row2 t) rfl
theorem dst2_7 (t : Fin k0_t2_loop.trips) (h : k0_cond2 i = 1#1) : k0_off63 i t = ![1 - par i, 7, 4 * t.val, 0] := vec4 (off34_par i h) rfl (row2 t) rfl
theorem buf4_0 (t : Fin k0_t4_loop.trips) : k0_off75 i t = ![par i, 0, 64 * t.val, 0] := vec4 (off2_par i) rfl (row4' t) rfl
theorem buf4_1 (t : Fin k0_t4_loop.trips) : k0_off76 i t = ![par i, 1, 64 * t.val, 0] := vec4 (off2_par i) rfl (row4 t) rfl
theorem buf4_2 (t : Fin k0_t4_loop.trips) : k0_off77 i t = ![par i, 2, 64 * t.val, 0] := vec4 (off2_par i) rfl (row4 t) rfl
theorem buf4_3 (t : Fin k0_t4_loop.trips) : k0_off78 i t = ![par i, 3, 64 * t.val, 0] := vec4 (off2_par i) rfl (row4 t) rfl
theorem buf4_4 (t : Fin k0_t4_loop.trips) : k0_off79 i t = ![par i, 4, 64 * t.val, 0] := vec4 (off2_par i) rfl (row4 t) rfl
theorem buf4_5 (t : Fin k0_t4_loop.trips) : k0_off80 i t = ![par i, 5, 64 * t.val, 0] := vec4 (off2_par i) rfl (row4 t) rfl
theorem buf4_6 (t : Fin k0_t4_loop.trips) : k0_off81 i t = ![par i, 6, 64 * t.val, 0] := vec4 (off2_par i) rfl (row4 t) rfl
theorem buf4_7 (t : Fin k0_t4_loop.trips) : k0_off82 i t = ![par i, 7, 64 * t.val, 0] := vec4 (off2_par i) rfl (row4 t) rfl

end Cert.KernelIdeal.Hand
-- ==== Proof.Slots.lean ====
/-
  The two slots of the row buffer, and what a batch of row copies into one of them is made of. A slot holds, for each of
  256 tokens and each of its 8 choices, four lines of 128 words: 2048 copies of four lines each, one semaphore a slot.
-/
module

public import proofs.«01_k».proof.Proof.Offsets
public import Idealize.ShloMosaic.Lib.Batch
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

abbrev EC : UEmb Counters (MT nD τ sig Unit (Elt F) ℕ (Pipeline.UD sig nD τ) ℕ) := countersEmb (U := Pipeline.UD sig nD τ)

abbrev bufL (c : Dev nD) : Loc nD τ sig := (c : Thread nD τ).loc cc0_scratch0
abbrev ysL (c : Dev nD) : Loc nD τ sig := (c : Thread nD τ).loc main_arg1
abbrev bufM : Memref sig .tc .vmem S2x8x1024x128 .i32 := Memref.whole cc0_scratch0
abbrev ysM : Memref sig .tc .hbm S1572864x128 .i32 := Memref.whole main_arg1

/-- The number of the copy that fills an element: copies go token by token, choice by choice. -/
def num (y : S2x8x1024x128.Idx) : ℕ := 8 * ((y 2).val / 4) + (y 1).val

/-- What copy `j` into slot `s` fills; what the copies from `j` on fill. -/
def piece (s j : ℕ) : Finset S2x8x1024x128.Idx := Finset.univ.filter fun y => (y 0).val = s ∧ num y = j
def rest (s j : ℕ) : Finset S2x8x1024x128.Idx := Finset.univ.filter fun y => (y 0).val = s ∧ j ≤ num y

/-- Four lines of the source from line `r` on. -/
def lines (r : ℕ) : Finset S1572864x128.Idx := Finset.univ.filter fun y => r ≤ (y 0).val ∧ (y 0).val < r + 4

theorem mem_piece {s j : ℕ} {y : S2x8x1024x128.Idx} : y ∈ piece s j ↔ (y 0).val = s ∧ num y = j := by simp [piece]
theorem mem_rest {s j : ℕ} {y : S2x8x1024x128.Idx} : y ∈ rest s j ↔ (y 0).val = s ∧ j ≤ num y := by simp [rest]
theorem mem_lines {r : ℕ} {y : S1572864x128.Idx} : y ∈ lines r ↔ r ≤ (y 0).val ∧ (y 0).val < r + 4 := by simp [lines]

theorem num_lt (y : S2x8x1024x128.Idx) : num y < 2048 := by
  have h1 : (y 1).val < 8 := (y 1).isLt
  have h2 : (y 2).val < 1024 := (y 2).isLt
  unfold num; omega

theorem piece_sub (s j : ℕ) : piece s j ⊆ rest s j := fun y h => by
  rw [mem_piece] at h; rw [mem_rest]; omega
theorem rest_diff (s j : ℕ) : rest s j \ piece s j = rest s (j + 1) := by
  ext y; rw [Finset.mem_sdiff, mem_rest, mem_piece, mem_rest]; omega
theorem pieces_cover (s : ℕ) : (Finset.range 2048).biUnion (piece s) = rest s 0 := by
  ext y
  simp only [Finset.mem_biUnion, Finset.mem_range, mem_piece, mem_rest]
  have := num_lt y
  constructor
  · rintro ⟨j, -, h, -⟩; exact ⟨h, Nat.zero_le _⟩
  · rintro ⟨h, -⟩; exact ⟨_, this, h, rfl⟩
theorem pieces_disjoint (s : ℕ) : ∀ j ∈ Finset.range 2048, ∀ j' ∈ Finset.range 2048, j ≠ j' → Disjoint (piece s j) (piece s j') := by
  intro j _ j' _ hne
  rw [Finset.disjoint_left]; intro y h h'
  rw [mem_piece] at h h'; omega

/-- What the batch leaves: line `r` of choice `k` holds line `r % 4` of the row the table sends the copy to. -/
def land (ys : S1572864x128.Idx → Elt F .i32) (tab : ℕ → ℕ) : S2x8x1024x128.Idx → Elt F .i32 := fun y =>
  ys (ix2 (⟨(tab (num y) + (y 2).val % 4) % 1572864, Nat.mod_lt _ (by decide)⟩ : Fin 1572864) (⟨(y 3).val, (y 3).isLt⟩ : Fin 128))

/-- The views of one copy: where it lands, what it reads, the cell it counts on. -/
abbrev dstM (o : Fin 4 → ℕ) (h : ∀ a, o a + S1x1x4x128.size a ≤ S2x8x1024x128.size a) : Memref sig .tc .vmem S4x128 .i32 :=
  (bufM.slice (Rect.unit (s := S2x8x1024x128) o S1x1x4x128.size h) (fun _ => rfl)).squeeze S4x128 squeezes_S1x1x4x128_S4x128
abbrev srcM (o : Fin 2 → ℕ) (h : ∀ a, o a + S4x128.size a ≤ S1572864x128.size a) : Memref sig .tc .hbm S4x128 .i32 :=
  ysM.slice (Rect.unit (s := S1572864x128) o S4x128.size h) (fun _ => rfl)
abbrev semM (o : Fin 1 → ℕ) (h : ∀ a, o a + S1.size a ≤ S2.size a) : DmaSem sig :=
  ((cc0_scratch3.slice (Rect.unit (s := S2) o S1.size h)).squeeze S_ squeezes_S1_S_).sem

theorem cell_inb (s : Fin 2) : ∀ a, (![s.val] : Fin 1 → ℕ) a + S1.size a ≤ S2.size a := by
  revert s; decide
def cell (s : Fin 2) : DmaSem sig := semM ![s.val] (cell_inb s)

theorem semM_eq {s : Fin 2} {o : Fin 1 → ℕ} (e : o = ![s.val]) (h : ∀ a, o a + S1.size a ≤ S2.size a) : semM o h = cell s := by
  subst e; rfl

theorem dst_set {s j : ℕ} {o : Fin 4 → ℕ} (e : o = ![s, j % 8, 4 * (j / 8), 0])
    (h : ∀ a, o a + S1x1x4x128.size a ≤ S2x8x1024x128.size a) : (dstM o h).view.set = piece s j := by
  have e1 : (dstM o h).view.set = (Rect.unit (s := S2x8x1024x128) o S1x1x4x128.size h).set :=
    (View.set_reshape _ _).trans (View.set_slice_whole _ _)
  rw [e1]; subst e
  ext y
  rw [Rect.mem_set_unit, mem_piece, Fin.forall_fin_succ, Fin.forall_fin_succ, Fin.forall_fin_succ, Fin.forall_fin_one]
  have h1 : (y 1).val < 8 := (y 1).isLt
  have h3 : (y 3).val < 128 := (y 3).isLt
  unfold num
  show (s ≤ (y 0).val ∧ (y 0).val < s + 1) ∧ (j % 8 ≤ (y 1).val ∧ (y 1).val < j % 8 + 1)
    ∧ (4 * (j / 8) ≤ (y 2).val ∧ (y 2).val < 4 * (j / 8) + 4) ∧ (0 ≤ (y 3).val ∧ (y 3).val < 0 + 128) ↔ _
  omega

theorem src_set {r : ℕ} {o : Fin 2 → ℕ} (e : o = ![r, 0]) (h : ∀ a, o a + S4x128.size a ≤ S1572864x128.size a) :
    (srcM o h).view.set = lines r := by
  have e1 : (srcM o h).view.set = (Rect.unit (s := S1572864x128) o S4x128.size h).set := View.set_slice_whole _ _
  rw [e1]; subst e
  ext y
  rw [Rect.mem_set_unit, mem_lines, Fin.forall_fin_succ, Fin.forall_fin_one]
  have h3 : (y 1).val < 128 := (y 1).isLt
  show (r ≤ (y 0).val ∧ (y 0).val < r + 4) ∧ (0 ≤ (y 1).val ∧ (y 1).val < 0 + 128) ↔ _
  omega

/-- A copy lands what `land` says. -/
theorem land_write {s j : ℕ} {tab : ℕ → ℕ} {o : Fin 4 → ℕ} {o' : Fin 2 → ℕ} (e : o = ![s, j % 8, 4 * (j / 8), 0]) (e' : o' = ![tab j, 0])
    (h : ∀ a, o a + S1x1x4x128.size a ≤ S2x8x1024x128.size a) (h' : ∀ a, o' a + S4x128.size a ≤ S1572864x128.size a)
    (fd : S2x8x1024x128.Idx → Elt F .i32) (ys : S1572864x128.Idx → Elt F .i32) :
    ∀ y ∈ piece s j, (dstM o h).view.write (Elt F) fd ((srcM o' h').view.read (Elt F) ys) Finset.univ y = land ys tab y := by
  intro y hy
  rw [← dst_set e h] at hy
  obtain ⟨x, -, rfl⟩ := Finset.mem_map.mp hy
  rw [View.write_emb_of_mem _ _ (Finset.mem_univ x)]
  obtain ⟨a, b, rfl⟩ : ∃ (a : Fin 4) (b : Fin 128), x = ix2 a b := ⟨x 0, x 1, by funext q; fin_cases q <;> rfl⟩
  have hx : (dstM o h).view.emb (ix2 a b) = (Rect.unit (s := S2x8x1024x128) o S1x1x4x128.size h).emb (ix4 (⟨0, Nat.one_pos⟩ : Fin 1) (⟨0, Nat.one_pos⟩ : Fin 1) a b) := by
    show (Rect.unit (s := S2x8x1024x128) o S1x1x4x128.size h).emb (Shape.reshapeEquiv _ (ix2 a b)) = _
    rw [reshapeEquiv_ix2_11ab]
  rw [hx]
  subst e; subst e'
  have hb : tab j + 4 ≤ 1572864 := h' 0
  have hj : 4 * (j / 8) + 4 ≤ 1024 := h 2
  show ys ((Rect.unit (s := S1572864x128) ![tab j, 0] S4x128.size h').emb (ix2 a b)) = ys _
  congr 1
  have hn : num ((Rect.unit (s := S2x8x1024x128) ![s, j % 8, 4 * (j / 8), 0] S1x1x4x128.size h).emb (ix4 (⟨0, Nat.one_pos⟩ : Fin 1) (⟨0, Nat.one_pos⟩ : Fin 1) a b)) = j := by
    show 8 * ((4 * (j / 8) + 1 * a.val) / 4) + (j % 8 + 1 * 0) = j
    omega
  funext q; apply Fin.ext
  fin_cases q
  · show tab j + 1 * a.val = (tab (num _) + (4 * (j / 8) + 1 * a.val) % 4) % 1572864
    rw [hn]; omega
  · show 0 + 1 * b.val = 0 + 1 * b.val
    rfl

end Cert.KernelIdeal.Hand
-- ==== Proof.Issue.lean ====
/-
  A batch of row copies in flight on one slot, and one copy of it: what the core holds with `j` copies issued.
-/
module

public import proofs.«01_k».proof.Proof.Slots
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-- The share of the source that a slot's copies read at. -/
def half (s : Fin 2) : PosShare TreeShare := if s = 0 then fullShare.left else fullShare.right

/-- The units one copy adds to its cell. -/
abbrev NC : ℕ := 64

theorem credit_eq : cc0_scratch0.dmaCredit S4x128 .i32 = NC := by decide +kernel

section Batch
variable (c : Dev nD) (s : Fin 2) (ys : Buf (Elt F) (ysL c)) (tab : ℕ → ℕ)

/-- What copy `j` delivers: its piece of the slot filled, and the lines it read back at the share it read at. -/
def Dl (j : ℕ) : sProp 𝕄 :=
  iprop((bufL c ↦[piece s.val j]{fullShare} (land ys tab : Buf (Elt F) (bufL c))) ∗ (ysL c ↦[lines (tab j)]{Transfers.shareTokN (half s) j} ys))
/-- What stays behind of the source at that share. -/
def Rm (j : ℕ) : sProp 𝕄 := iprop(ysL c ↦[Finset.univ \ lines (tab j)]{Transfers.shareTokN (half s) j} ys)

instance (j : ℕ) : BI.Storable (upEmb : UEmb _ 𝕄) (Dl c s ys tab j) := by unfold Dl; infer_instance

def Bt (j u : ℕ) : sProp 𝕄 :=
  Transfers.Batch EC (c : Thread nD τ) (SemLoc.dma (cell s)) () NC (fun t : Fin 2048 => Dl c s ys tab t.val) j u

/-- `j` copies issued, none waited for. -/
def Iss (j : ℕ) : sProp 𝕄 :=
  iprop(∃ fd : Buf (Elt F) (bufL c), Bt c s ys tab j 0 ∗ (bufL c ↦[rest s.val j]{fullShare} fd)
    ∗ (ysL c ↦{Transfers.shareDrop (half s) j} ys) ∗ bigSep (Finset.range j) (Rm c s ys tab))

/-- A slot at rest. -/
def Free : sProp 𝕄 :=
  iprop((∃ fd : Buf (Elt F) (bufL c), bufL c ↦[rest s.val 0]{fullShare} fd) ∗ semVal ((c : Thread nD τ), SemLoc.dma (cell s)) 0 ∗ (ysL c ↦{half s} ys))

theorem iss_zero : Free c s ys ⊢ (|={Set.univ}=> Iss c s ys tab 0 : sProp 𝕄) := by
  unfold Free Iss Bt
  iintro ⟨⟨%fd, Hb⟩, Hs, Hy⟩
  imod (Transfers.batch_alloc' (Lvl := ℕ) EC (c : Thread nD τ) () NC (fun t : Fin 2048 => Dl c s ys tab t.val) (sm := SemLoc.dma (cell s)) (E := Set.univ)) $$ Hs with HB
  imodintro
  iexists fd
  isplitl [HB]; · iexact HB
  isplitl [Hb]; · iexact Hb
  isplitl [Hy]; · iexact Hy
  rw [Finset.range_zero, bigSep_empty]
  iempintro

end Batch

variable {Λ : Labels} {defs : Defs nD τ sig (Elt F) Λ} (𝒱 : Variants)

/-- One copy issued. -/
theorem wp_issue (c : Dev nD) {s : Fin 2} (ys : Buf (Elt F) (ysL c)) (tab : ℕ → ℕ) {j : ℕ} (hj : j < 2048) {α : Type}
    {o : Fin 4 → ℕ} {o' : Fin 2 → ℕ} {o'' : Fin 1 → ℕ} (e : o = ![s.val, j % 8, 4 * (j / 8), 0]) (e' : o' = ![tab j, 0]) (e'' : o'' = ![s.val])
    {h : ∀ a, o a + S1x1x4x128.size a ≤ S2x8x1024x128.size a} {h' : ∀ a, o' a + S4x128.size a ≤ S1572864x128.size a}
    {h'' : ∀ a, o'' a + S1.size a ≤ S2.size a} {w1 w2 w3}
    {k : PUnit → Prog (TpuEff nD τ sig (Elt F) Λ .tc) α} {Q : α → sProp 𝕄} :
    Iss c s ys tab j
      ⊢ iprop((Iss c s ys tab (j + 1) -∗ wp frame (wpE defs 𝒱 (c : Thread nD τ) none) Set.univ (k ⟨⟩) Q)
        -∗ wp frame (wpE defs 𝒱 (c : Thread nD τ) none) Set.univ
            (.op (.enqueueDma (srcM o' h') (.here (dstM o h)) (.dma (semM o'' h'')) w1 w2 w3) k) Q) := by
  subst e''
  have hr : bigSep (Finset.range (j + 1)) (Rm c s ys tab) = iprop(Rm c s ys tab j ∗ bigSep (Finset.range j) (Rm c s ys tab)) := by
    rw [Finset.range_add_one, bigSep_insert Finset.notMem_range_self]; rfl
  unfold Iss Bt
  rw [hr]
  iintro ⟨%fd, HB, Hb, Hy, Hr⟩ Hk
  ihave Hb' := (pointsTo_split_subset (f := fd) (q := fullShare) (piece_sub s.val j)).1 $$ Hb
  icases Hb' with ⟨Hp, Hb⟩
  ihave Hy' := (show (ysL c ↦{Transfers.shareDrop (half s) j} ys : sProp 𝕄)
      ⊢ iprop((ysL c ↦{Transfers.shareDrop (half s) (j + 1)} ys) ∗ ysL c ↦{Transfers.shareTokN (half s) j} ys)
    from (pointsTo_share (PosShare.mem_left_op_right _)).1) $$ Hy
  icases Hy' with ⟨Hy, Ht⟩
  ihave Ht' := (pointsTo_split_subset (f := ys) (q := Transfers.shareTokN (half s) j) (Finset.subset_univ (lines (tab j)))).1 $$ Ht
  icases Ht' with ⟨Ht, Hl⟩
  iapply (Transfers.wp_dmaBatch EC 𝒱 (c : Thread nD τ) none (src := srcM o' h') (dst := dstM o h) (q := Transfers.shareTokN (half s) j)
    (fs := ys) (fd := fd) (Sd := piece s.val j) () NC (sm := SemLoc.dma (cell s)) (show cc0_scratch0.dmaCredit S4x128 .i32 = NC from credit_eq) (by rw [dst_set e h]) (D := fun t : Fin 2048 => Dl c s ys tab t.val) (j := j) (u := 0) hj (Nat.zero_le _)
    (by
      dsimp only; unfold Dl
      rw [src_set e' h']
      rw [pointsTo_congr (land_write e e' h h' fd ys)])) $$ [Hp Ht HB]
  · isplitl [Ht]; · rw [src_set e' h']; iexact Ht
    isplitl [Hp]; · iexact Hp
    iexact HB
  iintro HB
  iapply Hk
  iexists fd
  isplitl [HB]; · iexact HB
  isplitl [Hb]; · rw [rest_diff]; iexact Hb
  isplitl [Hy]; · iexact Hy
  isplitl [Hl]; · unfold Rm; iexact Hl
  iexact Hr

end Cert.KernelIdeal.Hand
-- ==== Proof.Trip.lean ====
/-
  One trip of the two loops that start the copies of a batch: eight words of the table read, their bounds met, eight
  copies issued.
-/
module

public import proofs.«01_k».proof.Proof.Issue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-- The table block's words are the table of the copies: choice by choice in a token, token by token. -/
def Reads {c : Dev nD} (m : Memref sig .tc .smem S1x8x256 .i32) (f : Buf (Elt F) (m.view.loc (c : Thread nD τ))) (tab : ℕ → ℕ) : Prop :=
  ∀ (k : Fin 8) (t : Fin 256), (m.view.read (Elt F) f (ix3 (0 : Fin 1) k t) : BitVec 32).toNat = tab (8 * t.val + k.val)

/-- Every copy reads four whole lines of the source, from a line whose number is a multiple of four. -/
def Good (tab : ℕ → ℕ) : Prop := ∀ j, j < 2048 → 4 ∣ tab j ∧ tab j + 4 ≤ 1572864

theorem ret_bind' {E : Type → Type} {α β : Type} (a : α) (k : α → Prog E β) : (Prog.ret a).bind k = k a := rfl

variable {Λ : Labels} {defs : Defs nD τ sig (Elt F) Λ} (𝒱 : Variants)

/-- One word read, its bound met, its copy issued. -/
theorem wp_move (c : Dev nD) {s : Fin 2} (ys : Buf (Elt F) (ysL c)) {tab : ℕ → ℕ} (hg : Good tab) {t k' : ℕ} (ht : t < 256) (hk : k' < 8) {α : Type}
    (m : Memref sig .tc .smem S1x8x256 .i32) {q : PosShare TreeShare} {f : Buf (Elt F) (m.view.loc (c : Thread nD τ))} (hf : Reads m f tab)
    {p : Fin 3 → ℕ} (ep : p = ![0, k', t]) {hp : ∀ a, p a + S1x1x1.size a ≤ S1x8x256.size a} {x : S1x1x1.Idx}
    {C : BitVec 32 → Prop} (hC : ∀ v : BitVec 32, 4 ∣ v.toNat → v.toNat + 4 ≤ 1572864 → C v) {dec : ∀ v, Decidable (C v)}
    {o : Fin 4 → ℕ} {o' : BitVec 32 → Fin 2 → ℕ} {o'' : Fin 1 → ℕ} (e : o = ![s.val, k', 4 * t, 0]) (e' : ∀ v, o' v = ![v.toNat, 0])
    (e'' : o'' = ![s.val])
    {h : ∀ a, o a + S1x1x4x128.size a ≤ S2x8x1024x128.size a} {h' : ∀ v, C v → ∀ a, o' v a + S4x128.size a ≤ S1572864x128.size a}
    {h'' : ∀ a, o'' a + S1.size a ≤ S2.size a}
    {k : PUnit → Prog (TpuEff nD τ sig (Elt F) Λ .tc) α} {Q : α → sProp 𝕄} :
    iprop((m.view.loc (c : Thread nD τ) ↦[m.view.set]{q} f) ∗ Iss c s ys tab (8 * t + k'))
      ⊢ iprop((iprop((m.view.loc (c : Thread nD τ) ↦[m.view.set]{q} f) ∗ Iss c s ys tab (8 * t + k' + 1))
            -∗ wp frame (wpE defs 𝒱 (c : Thread nD τ) none) Set.univ (k ⟨⟩) Q)
        -∗ wp frame (wpE defs 𝒱 (c : Thread nD τ) none) Set.univ
            (smemLoadElt m (Rect.unit (s := S1x8x256) p S1x1x1.size hp) (View.loads_smem_one rfl numel1_S1x1x1) x fun v =>
              .op (.assume (C v) (dec v)) fun hv =>
              .op (.enqueueDma (srcM (o' v) (h' v hv.down)) (.here (dstM o h)) (.dma (semM o'' h'')) (View.wordExact_bits rfl) ((View.wordExact_bits rfl).reshape _ _) ⟨Or.inl rfl, trivial⟩) k) Q) := by
  have hj : 8 * t + k' < 2048 := by omega
  have h8 : (8 * t + k') % 8 = k' := by omega
  have h9 : (8 * t + k') / 8 = t := by omega
  have hx : (Rect.unit (s := S1x8x256) p S1x1x1.size hp).emb x = ix3 (0 : Fin 1) (⟨k', hk⟩ : Fin 8) (⟨t, ht⟩ : Fin 256) := by
    subst ep
    have h0 : (x 0).val < 1 := (x 0).isLt
    have h1 : (x 1).val < 1 := (x 1).isLt
    have h2 : (x 2).val < 1 := (x 2).isLt
    funext a; apply Fin.ext; fin_cases a
    · show 0 + 1 * (x 0).val = 0; omega
    · show k' + 1 * (x 1).val = k'; omega
    · show t + 1 * (x 2).val = t; omega
  have hv : ((m.access (Rect.unit (s := S1x8x256) p S1x1x1.size hp)).read (Elt F) f x : BitVec 32).toNat = tab (8 * t + k') := by
    show (m.view.read (Elt F) f ((Rect.unit (s := S1x8x256) p S1x1x1.size hp).emb x) : BitVec 32).toNat = _
    rw [hx, hf]
  have hc := hC _ (hv ▸ (hg (8 * t + k') hj).1) (hv ▸ (hg (8 * t + k') hj).2)
  iintro ⟨Hm, HI⟩ Hk
  iapply (wp_smemLoadElt 𝒱 (c : Thread nD τ) none Set.univ (m := m) (r := Rect.unit (s := S1x8x256) p S1x1x1.size hp) (q := q) (f := f) (S := m.view.set) (View.set_slice_subset _ _)) $$ Hm
  iintro Hm
  iapply (wp_assume 𝒱 (c : Thread nD τ) none Set.univ hc)
  iapply (wp_issue 𝒱 c ys tab hj (by rw [h8, h9]; exact e) ((e' _).trans (by rw [hv])) e'') $$ HI
  iintro HI
  iapply Hk
  isplitl [Hm] <;> iassumption

section Trip1
variable (i : grid0.Coords) (arg1 : Memref sig .tc .smem S1x8x256 .i32) (harg1 : arg1.IsWhole) (arg2 : Memref sig .tc .smem S1x8x256 .i32) (harg2 : arg2.IsWhole) (arg4 : Memref sig .tc .vmem S1024x8 .f32) (harg4 : arg4.IsWhole) (arg5 : Memref sig .tc .vmem S1x256x1024 .f32) (harg5 : arg5.IsWhole) (arg6 : Memref sig .tc .vmem S1x6x1024 .f32) (harg6 : arg6.IsWhole) (arg7 : Memref sig .tc .vmem S1x256x1024 .f32) (harg7 : arg7.IsWhole) (arg9 : Memref sig .tc .vmem S1024x128 .f32) (harg9 : arg9.IsWhole) (arg10 : Memref sig .tc .vmem S1024x128 .f32) (harg10 : arg10.IsWhole)

def slot : Fin 2 := ⟨par i, by unfold par; omega⟩

/-- The slot the next point's rows go to. -/
def slot' : Fin 2 := ⟨1 - par i, by unfold par; omega⟩

theorem lines_inb {v : BitVec 32} (h : v.toNat + 4 ≤ 1572864) : ∀ a, (![v.toNat, 0] : Fin 2 → ℕ) a + S4x128.size a ≤ S1572864x128.size a := by
  intro a; fin_cases a
  · exact h
  · exact le_refl 128

set_option maxHeartbeats 1600000 in
theorem trip1_step (c : Dev nD) (ys : Buf (Elt F) (ysL c)) {tab : ℕ → ℕ} (hg : Good tab) {q : PosShare TreeShare}
    {f : Buf (Elt F) (arg1.view.loc (c : Thread nD τ))} (hf : Reads arg1 f tab) (h1 : k0_cond1 i = 1#1) (t : Fin k0_t1_loop.trips) :
    iprop((arg1.view.loc (c : Thread nD τ) ↦[arg1.view.set]{q} f) ∗ Iss c (slot i) ys tab (8 * t.val))
      ⊢ wp frame (wpE defs₀ 𝒱 (c : Thread nD τ) none) Set.univ
          (k0_t1_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h1 t ()) (fun _ => iprop((arg1.view.loc (c : Thread nD τ) ↦[arg1.view.set]{q} f) ∗ Iss c (slot i) ys tab (8 * (t.val + 1)))) := by
  have ht : t.val < 256 := lt_of_lt_of_eq t.isLt trip1
  unfold k0_t1_body
  rw [k0_part1_eq_skeleton, k0_part2_eq_skeleton]
  unfold k0_part1_skel k0_part2_skel smemLoad
  iintro ⟨Hm, HI⟩
  iapply (wp_move 𝒱 c (s := slot i) ys hg (k' := 0) ht (by decide) arg1 hf (hp := k0_off1_inb i t h1) (k0_off1_eq t) (C := k0_chk1 i)
    (fun v ha hb => ⟨fun _ => ha, fun _ => lines_inb hb⟩) (o' := k0_off4) (h' := fun v hv => k0_off4_inb i v hv h1) (o := k0_off3 i t) (o'' := k0_off2 i)
    (h := k0_off3_inb i t h1) (h'' := k0_off2_inb i h1) (dst1_0 i t) (fun v => rfl) (sem1 i)) $$ [Hm HI]
  · isplitl [Hm] <;> iassumption
  iintro ⟨Hm, HI⟩
  iapply (wp_move 𝒱 c (s := slot i) ys hg (k' := 1) ht (by decide) arg1 hf (hp := k0_off5_inb i t h1) (k0_off5_eq t) (C := k0_chk2 i)
    (fun v ha hb => ⟨fun _ => ha, fun _ => lines_inb hb⟩) (o' := k0_off8) (h' := fun v hv => k0_off8_inb i v hv h1) (o := k0_off7 i t) (o'' := k0_off6 i)
    (h := k0_off7_inb i t h1) (h'' := k0_off6_inb i h1) (dst1_1 i t) (fun v => rfl) (sem1 i)) $$ [Hm HI]
  · isplitl [Hm] <;> iassumption
  iintro ⟨Hm, HI⟩
  iapply (wp_move 𝒱 c (s := slot i) ys hg (k' := 2) ht (by decide) arg1 hf (hp := k0_off9_inb i t h1) (k0_off9_eq t) (C := k0_chk3 i)
    (fun v ha hb => ⟨fun _ => ha, fun _ => lines_inb hb⟩) (o' := k0_off12) (h' := fun v hv => k0_off12_inb i v hv h1) (o := k0_off11 i t) (o'' := k0_off10 i)
    (h := k0_off11_inb i t h1) (h'' := k0_off10_inb i h1) (dst1_2 i t) (fun v => rfl) (sem1 i)) $$ [Hm HI]
  · isplitl [Hm] <;> iassumption
  iintro ⟨Hm, HI⟩
  iapply (wp_move 𝒱 c (s := slot i) ys hg (k' := 3) ht (by decide) arg1 hf (hp := k0_off13_inb i t h1) (k0_off13_eq t) (C := k0_chk4 i)
    (fun v ha hb => ⟨fun _ => ha, fun _ => lines_inb hb⟩) (o' := k0_off16) (h' := fun v hv => k0_off16_inb i v hv h1) (o := k0_off15 i t) (o'' := k0_off14 i)
    (h := k0_off15_inb i t h1) (h'' := k0_off14_inb i h1) (dst1_3 i t) (fun v => rfl) (sem1 i)) $$ [Hm HI]
  · isplitl [Hm] <;> iassumption
  iintro ⟨Hm, HI⟩
  iapply (wp_move 𝒱 c (s := slot i) ys hg (k' := 4) ht (by decide) arg1 hf (hp := k0_off17_inb i t h1) (k0_off17_eq t) (C := k0_chk5 i)
    (fun v ha hb => ⟨fun _ => ha, fun _ => lines_inb hb⟩) (o' := k0_off20) (h' := fun v hv => k0_off20_inb i v hv h1) (o := k0_off19 i t) (o'' := k0_off18 i)
    (h := k0_off19_inb i t h1) (h'' := k0_off18_inb i h1) (dst1_4 i t) (fun v => rfl) (sem1 i)) $$ [Hm HI]
  · isplitl [Hm] <;> iassumption
  iintro ⟨Hm, HI⟩
  iapply (wp_move 𝒱 c (s := slot i) ys hg (k' := 5) ht (by decide) arg1 hf (hp := k0_off21_inb i t h1) (k0_off21_eq t) (C := k0_chk6 i)
    (fun v ha hb => ⟨fun _ => ha, fun _ => lines_inb hb⟩) (o' := k0_off24) (h' := fun v hv => k0_off24_inb i v hv h1) (o := k0_off23 i t) (o'' := k0_off22 i)
    (h := k0_off23_inb i t h1) (h'' := k0_off22_inb i h1) (dst1_5 i t) (fun v => rfl) (sem1 i)) $$ [Hm HI]
  · isplitl [Hm] <;> iassumption
  iintro ⟨Hm, HI⟩
  iapply (wp_move 𝒱 c (s := slot i) ys hg (k' := 6) ht (by decide) arg1 hf (hp := k0_off25_inb i t h1) (k0_off25_eq t) (C := k0_chk7 i)
    (fun v ha hb => ⟨fun _ => ha, fun _ => lines_inb hb⟩) (o' := k0_off28) (h' := fun v hv => k0_off28_inb i v hv h1) (o := k0_off27 i t) (o'' := k0_off26 i)
    (h := k0_off27_inb i t h1) (h'' := k0_off26_inb i h1) (dst1_6 i t) (fun v => rfl) (sem1 i)) $$ [Hm HI]
  · isplitl [Hm] <;> iassumption
  iintro ⟨Hm, HI⟩
  iapply (wp_move 𝒱 c (s := slot i) ys hg (k' := 7) ht (by decide) arg1 hf (hp := k0_off29_inb i t h1) (k0_off29_eq t) (C := k0_chk8 i)
    (fun v ha hb => ⟨fun _ => ha, fun _ => lines_inb hb⟩) (o' := k0_off32) (h' := fun v hv => k0_off32_inb i v hv h1) (o := k0_off31 i t) (o'' := k0_off30 i)
    (h := k0_off31_inb i t h1) (h'' := k0_off30_inb i h1) (dst1_7 i t) (fun v => rfl) (sem1 i)) $$ [Hm HI]
  · isplitl [Hm] <;> iassumption
  iintro ⟨Hm, HI⟩
  simp only [ret_bind']
  sl_step
  isplitl [Hm] <;> iassumption

set_option maxHeartbeats 1600000 in
theorem trip2_step (c : Dev nD) (ys : Buf (Elt F) (ysL c)) {tab : ℕ → ℕ} (hg : Good tab) {q : PosShare TreeShare}
    {f : Buf (Elt F) (arg2.view.loc (c : Thread nD τ))} (hf : Reads arg2 f tab) (h2 : k0_cond2 i = 1#1) (t : Fin k0_t2_loop.trips) :
    iprop((arg2.view.loc (c : Thread nD τ) ↦[arg2.view.set]{q} f) ∗ Iss c (slot' i) ys tab (8 * t.val))
      ⊢ wp frame (wpE defs₀ 𝒱 (c : Thread nD τ) none) Set.univ
          (k0_t2_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h2 t ()) (fun _ => iprop((arg2.view.loc (c : Thread nD τ) ↦[arg2.view.set]{q} f) ∗ Iss c (slot' i) ys tab (8 * (t.val + 1)))) := by
  have ht : t.val < 256 := lt_of_lt_of_eq t.isLt trip2
  unfold k0_t2_body
  rw [k0_part3_eq_skeleton, k0_part4_eq_skeleton]
  unfold k0_part3_skel k0_part4_skel smemLoad
  iintro ⟨Hm, HI⟩
  iapply (wp_move 𝒱 c (s := slot' i) ys hg (k' := 0) ht (by decide) arg2 hf (hp := k0_off33_inb i t h2) (k0_off33_eq t) (C := k0_chk9 i)
    (fun v ha hb => ⟨fun _ => ha, fun _ => lines_inb hb⟩) (o' := k0_off36) (h' := fun v hv => k0_off36_inb i v hv h2) (o := k0_off35 i t) (o'' := k0_off34 i)
    (h := k0_off35_inb i t h2) (h'' := k0_off34_inb i h2) (dst2_0 i t h2) (fun v => rfl) (sem2 i h2)) $$ [Hm HI]
  · isplitl [Hm] <;> iassumption
  iintro ⟨Hm, HI⟩
  iapply (wp_move 𝒱 c (s := slot' i) ys hg (k' := 1) ht (by decide) arg2 hf (hp := k0_off37_inb i t h2) (k0_off37_eq t) (C := k0_chk10 i)
    (fun v ha hb => ⟨fun _ => ha, fun _ => lines_inb hb⟩) (o' := k0_off40) (h' := fun v hv => k0_off40_inb i v hv h2) (o := k0_off39 i t) (o'' := k0_off38 i)
    (h := k0_off39_inb i t h2) (h'' := k0_off38_inb i h2) (dst2_1 i t h2) (fun v => rfl) (sem2 i h2)) $$ [Hm HI]
  · isplitl [Hm] <;> iassumption
  iintro ⟨Hm, HI⟩
  iapply (wp_move 𝒱 c (s := slot' i) ys hg (k' := 2) ht (by decide) arg2 hf (hp := k0_off41_inb i t h2) (k0_off41_eq t) (C := k0_chk11 i)
    (fun v ha hb => ⟨fun _ => ha, fun _ => lines_inb hb⟩) (o' := k0_off44) (h' := fun v hv => k0_off44_inb i v hv h2) (o := k0_off43 i t) (o'' := k0_off42 i)
    (h := k0_off43_inb i t h2) (h'' := k0_off42_inb i h2) (dst2_2 i t h2) (fun v => rfl) (sem2 i h2)) $$ [Hm HI]
  · isplitl [Hm] <;> iassumption
  iintro ⟨Hm, HI⟩
  iapply (wp_move 𝒱 c (s := slot' i) ys hg (k' := 3) ht (by decide) arg2 hf (hp := k0_off45_inb i t h2) (k0_off45_eq t) (C := k0_chk12 i)
    (fun v ha hb => ⟨fun _ => ha, fun _ => lines_inb hb⟩) (o' := k0_off48) (h' := fun v hv => k0_off48_inb i v hv h2) (o := k0_off47 i t) (o'' := k0_off46 i)
    (h := k0_off47_inb i t h2) (h'' := k0_off46_inb i h2) (dst2_3 i t h2) (fun v => rfl) (sem2 i h2)) $$ [Hm HI]
  · isplitl [Hm] <;> iassumption
  iintro ⟨Hm, HI⟩
  iapply (wp_move 𝒱 c (s := slot' i) ys hg (k' := 4) ht (by decide) arg2 hf (hp := k0_off49_inb i t h2) (k0_off49_eq t) (C := k0_chk13 i)
    (fun v ha hb => ⟨fun _ => ha, fun _ => lines_inb hb⟩) (o' := k0_off52) (h' := fun v hv => k0_off52_inb i v hv h2) (o := k0_off51 i t) (o'' := k0_off50 i)
    (h := k0_off51_inb i t h2) (h'' := k0_off50_inb i h2) (dst2_4 i t h2) (fun v => rfl) (sem2 i h2)) $$ [Hm HI]
  · isplitl [Hm] <;> iassumption
  iintro ⟨Hm, HI⟩
  iapply (wp_move 𝒱 c (s := slot' i) ys hg (k' := 5) ht (by decide) arg2 hf (hp := k0_off53_inb i t h2) (k0_off53_eq t) (C := k0_chk14 i)
    (fun v ha hb => ⟨fun _ => ha, fun _ => lines_inb hb⟩) (o' := k0_off56) (h' := fun v hv => k0_off56_inb i v hv h2) (o := k0_off55 i t) (o'' := k0_off54 i)
    (h := k0_off55_inb i t h2) (h'' := k0_off54_inb i h2) (dst2_5 i t h2) (fun v => rfl) (sem2 i h2)) $$ [Hm HI]
  · isplitl [Hm] <;> iassumption
  iintro ⟨Hm, HI⟩
  iapply (wp_move 𝒱 c (s := slot' i) ys hg (k' := 6) ht (by decide) arg2 hf (hp := k0_off57_inb i t h2) (k0_off57_eq t) (C := k0_chk15 i)
    (fun v ha hb => ⟨fun _ => ha, fun _ => lines_inb hb⟩) (o' := k0_off60) (h' := fun v hv => k0_off60_inb i v hv h2) (o := k0_off59 i t) (o'' := k0_off58 i)
    (h := k0_off59_inb i t h2) (h'' := k0_off58_inb i h2) (dst2_6 i t h2) (fun v => rfl) (sem2 i h2)) $$ [Hm HI]
  · isplitl [Hm] <;> iassumption
  iintro ⟨Hm, HI⟩
  iapply (wp_move 𝒱 c (s := slot' i) ys hg (k' := 7) ht (by decide) arg2 hf (hp := k0_off61_inb i t h2) (k0_off61_eq t) (C := k0_chk16 i)
    (fun v ha hb => ⟨fun _ => ha, fun _ => lines_inb hb⟩) (o' := k0_off64) (h' := fun v hv => k0_off64_inb i v hv h2) (o := k0_off63 i t) (o'' := k0_off62 i)
    (h := k0_off63_inb i t h2) (h'' := k0_off62_inb i h2) (dst2_7 i t h2) (fun v => rfl) (sem2 i h2)) $$ [Hm HI]
  · isplitl [Hm] <;> iassumption
  iintro ⟨Hm, HI⟩
  simp only [ret_bind']
  sl_step
  isplitl [Hm] <;> iassumption

end Trip1

end Cert.KernelIdeal.Hand
-- ==== Proof.Loops.lean ====
/-
  The loops that start a batch of copies, the loop that waits for one, and what the slot holds then.
-/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

section States
variable (c : Dev nD) (s : Fin 2) (ys : Buf (Elt F) (ysL c)) (tab : ℕ → ℕ)

/-- A slot with its whole batch in flight. -/
def Flying : sProp 𝕄 :=
  iprop(Bt c s ys tab 2048 0 ∗ (ysL c ↦{Transfers.shareDrop (half s) 2048} ys) ∗ bigSep (Finset.range 2048) (Rm c s ys tab))

/-- A slot with `j` of its copies waited for. -/
def Arr (j : ℕ) : sProp 𝕄 := iprop(Bt c s ys tab 2048 (64 * j) ∗ ∃ W, owes (c : Thread nD τ) (0 : CellTallies nD τ sig Unit) W)

/-- A slot whose batch has landed. -/
def Landed : sProp 𝕄 :=
  iprop((bufL c ↦[rest s.val 0]{fullShare} (land ys tab : Buf (Elt F) (bufL c))) ∗ semVal ((c : Thread nD τ), SemLoc.dma (cell s)) 0 ∗ (ysL c ↦{half s} ys))

theorem landed_free : Landed c s ys tab ⊢ Free c s ys := by
  unfold Landed Free
  iintro ⟨Hb, Hs, Hy⟩
  isplitl [Hb]; · iexists _; iexact Hb
  isplitl [Hs] <;> iassumption

theorem iss_flying : Iss c s ys tab 2048 ⊢ Flying c s ys tab := by
  unfold Iss Flying
  iintro ⟨%fd, HB, -, Hy, Hr⟩
  isplitl [HB]; · iexact HB
  isplitl [Hy] <;> iassumption

/-- Every delivery of a batch, with what stayed behind of the source: the slot filled, the source whole again. -/
theorem collect : iprop(Bt c s ys tab 2048 (64 * 2048) ∗ (ysL c ↦{Transfers.shareDrop (half s) 2048} ys) ∗ bigSep (Finset.range 2048) (Rm c s ys tab))
    ⊢ (|={Set.univ}=> Landed c s ys tab : sProp 𝕄) := by
  unfold Bt Landed
  iintro ⟨HB, Hy, Hr⟩
  imod (Transfers.batch_collect' EC (c : Thread nD τ) (Lvl := ℕ) (N := NC) (by decide) (D := fun t : Fin 2048 => Dl c s ys tab t.val)) $$ HB with ⟨HD, Hs⟩
  imodintro
  have e1 : bigSep (Finset.univ : Finset (Fin 2048)) (fun t => Dl c s ys tab t.val) = bigSep (Finset.range 2048) (Dl c s ys tab) :=
    Ring.bigSep_fin_eq_range 2048 _ _ fun _ _ => rfl
  have e2 : bigSep (Finset.range 2048) (Dl c s ys tab)
      = iprop(bigSep (Finset.range 2048) (fun j => bufL c ↦[piece s.val j]{fullShare} (land ys tab : Buf (Elt F) (bufL c)))
          ∗ bigSep (Finset.range 2048) (fun j => ysL c ↦[lines (tab j)]{Transfers.shareTokN (half s) j} ys)) :=
    BI.bigSep_sep _ _ _
  ihave HD' := (Entails.of_eq (e1.trans e2)) $$ HD
  icases HD' with ⟨Hb, Hl⟩
  isplitl [Hb]
  · have e4 : (bufL c ↦[rest s.val 0]{fullShare} (land ys tab : Buf (Elt F) (bufL c)) : sProp 𝕄)
        = bigSep (Finset.range 2048) (fun j => bufL c ↦[piece s.val j]{fullShare} (land ys tab : Buf (Elt F) (bufL c))) := by
      rw [← pieces_cover s.val]; exact pointsTo_biUnion (ℓ := bufL c) (Finset.range 2048) (piece s.val) (pieces_disjoint s.val)
    iapply (Entails.of_eq e4.symm)
    iexact Hb
  isplitl [Hs]; · iexact Hs
  have e3 : iprop(bigSep (Finset.range 2048) (fun j => ysL c ↦[lines (tab j)]{Transfers.shareTokN (half s) j} ys) ∗ bigSep (Finset.range 2048) (Rm c s ys tab))
      ⊢ (bigSep (Finset.range 2048) (fun j => ysL c ↦{Transfers.shareTokN (half s) j} ys) : sProp 𝕄) :=
    (Entails.of_eq (BI.bigSep_sep _ _ _).symm).trans (BI.bigSep_mono fun j _ => (pointsTo_split_subset (Finset.subset_univ _)).2)
  ihave Hl' := e3 $$ [Hl Hr]
  · isplitl [Hl] <;> iassumption
  iapply (Transfers.pointsTo_toks_range (half s) 2048).2
  isplitl [Hy] <;> iassumption

end States

variable {Λ : Labels} {defs : Defs nD τ sig (Elt F) Λ} (𝒱 : Variants)

/-- One wait. -/
theorem wp_arrive (c : Dev nD) {s : Fin 2} (ys : Buf (Elt F) (ysL c)) (tab : ℕ → ℕ) {j : ℕ} (hj : j < 2048) {α : Type}
    {o : Fin 4 → ℕ} {o'' : Fin 1 → ℕ} (e'' : o'' = ![s.val])
    {h : ∀ a, o a + S1x1x4x128.size a ≤ S2x8x1024x128.size a} {h'' : ∀ a, o'' a + S1.size a ≤ S2.size a}
    {k : PUnit → Prog (TpuEff nD τ sig (Elt F) Λ .tc) α} {Q : α → sProp 𝕄} :
    Arr c s ys tab j
      ⊢ iprop((Arr c s ys tab (j + 1) -∗ wp frame (wpE defs 𝒱 (c : Thread nD τ) none) Set.univ (k ⟨⟩) Q)
        -∗ wp frame (wpE defs 𝒱 (c : Thread nD τ) none) Set.univ
            (.op (.waitDma2 (semM o'' h'') (srcM ![0, 0] inb_S1572864x128_S4x128_0_0) (dstM o h) (View.wordExact_bits rfl) ((View.wordExact_bits rfl).reshape _ _)) k) Q) := by
  subst e''
  unfold Arr Bt
  iintro ⟨HB, %W, HW⟩ Hk
  iapply (Transfers.wp_waitBatchMul EC 𝒱 (c : Thread nD τ) none (sem := cell s) (srcw := srcM ![0, 0] inb_S1572864x128_S4x128_0_0) (dstw := dstM o h) () (N := NC) 1
    (show cc0_scratch0.dmaCredit S4x128 .i32 = 1 * NC from credit_eq) (D := fun t : Fin 2048 => Dl c s ys tab t.val) (j := 2048) (u := 64 * j) (by show 64 * j + 1 * 64 ≤ 64 * 2048; omega)) $$ [HB HW]
  · isplitl [HB] <;> iassumption
  iintro ⟨HB, HW⟩
  iapply Hk
  isplitl [HB]; · iexact HB
  iexists _; iexact HW

section Loops
variable (i : grid0.Coords) (arg1 : Memref sig .tc .smem S1x8x256 .i32) (harg1 : arg1.IsWhole) (arg2 : Memref sig .tc .smem S1x8x256 .i32) (harg2 : arg2.IsWhole) (arg4 : Memref sig .tc .vmem S1024x8 .f32) (harg4 : arg4.IsWhole) (arg5 : Memref sig .tc .vmem S1x256x1024 .f32) (harg5 : arg5.IsWhole) (arg6 : Memref sig .tc .vmem S1x6x1024 .f32) (harg6 : arg6.IsWhole) (arg7 : Memref sig .tc .vmem S1x256x1024 .f32) (harg7 : arg7.IsWhole) (arg9 : Memref sig .tc .vmem S1024x128 .f32) (harg9 : arg9.IsWhole) (arg10 : Memref sig .tc .vmem S1024x128 .f32) (harg10 : arg10.IsWhole)

set_option maxHeartbeats 1600000 in
theorem trip3_step (c : Dev nD) (ys : Buf (Elt F) (ysL c)) (tab : ℕ → ℕ) (t : Fin k0_t3_loop.trips) :
    Arr c (slot i) ys tab (8 * t.val)
      ⊢ wp frame (wpE defs₀ 𝒱 (c : Thread nD τ) none) Set.univ
          (k0_t3_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 t ()) (fun _ => Arr c (slot i) ys tab (8 * (t.val + 1))) := by
  have ht : t.val < 256 := lt_of_lt_of_eq t.isLt trip3
  unfold k0_t3_body
  rw [k0_part5_eq_skeleton]
  unfold k0_part5_skel
  iintro HB
  iapply (wp_arrive 𝒱 c (s := slot i) ys tab (j := 8 * t.val + 0) (by omega) (o := k0_off66 i t) (o'' := k0_off65 i) (sem3 i) (h := k0_off66_inb i t) (h'' := k0_off65_inb i)) $$ HB
  iintro HB
  iapply (wp_arrive 𝒱 c (s := slot i) ys tab (j := 8 * t.val + 1) (by omega) (o := k0_off67 i t) (o'' := k0_off65 i) (sem3 i) (h := k0_off67_inb i t) (h'' := k0_off65_inb i)) $$ HB
  iintro HB
  iapply (wp_arrive 𝒱 c (s := slot i) ys tab (j := 8 * t.val + 2) (by omega) (o := k0_off68 i t) (o'' := k0_off65 i) (sem3 i) (h := k0_off68_inb i t) (h'' := k0_off65_inb i)) $$ HB
  iintro HB
  iapply (wp_arrive 𝒱 c (s := slot i) ys tab (j := 8 * t.val + 3) (by omega) (o := k0_off69 i t) (o'' := k0_off65 i) (sem3 i) (h := k0_off69_inb i t) (h'' := k0_off65_inb i)) $$ HB
  iintro HB
  iapply (wp_arrive 𝒱 c (s := slot i) ys tab (j := 8 * t.val + 4) (by omega) (o := k0_off70 i t) (o'' := k0_off65 i) (sem3 i) (h := k0_off70_inb i t) (h'' := k0_off65_inb i)) $$ HB
  iintro HB
  iapply (wp_arrive 𝒱 c (s := slot i) ys tab (j := 8 * t.val + 5) (by omega) (o := k0_off71 i t) (o'' := k0_off65 i) (sem3 i) (h := k0_off71_inb i t) (h'' := k0_off65_inb i)) $$ HB
  iintro HB
  iapply (wp_arrive 𝒱 c (s := slot i) ys tab (j := 8 * t.val + 6) (by omega) (o := k0_off72 i t) (o'' := k0_off65 i) (sem3 i) (h := k0_off72_inb i t) (h'' := k0_off65_inb i)) $$ HB
  iintro HB
  iapply (wp_arrive 𝒱 c (s := slot i) ys tab (j := 8 * t.val + 7) (by omega) (o := k0_off73 i t) (o'' := k0_off65 i) (sem3 i) (h := k0_off73_inb i t) (h'' := k0_off65_inb i)) $$ HB
  iintro HB
  simp only [ret_bind']
  sl_step
  iexact HB

/-- A batch started by the loop of the first point. -/
theorem wp_fetch1 (c : Dev nD) (ys : Buf (Elt F) (ysL c)) {tab : ℕ → ℕ} (hg : Good tab) {q : PosShare TreeShare}
    {f : Buf (Elt F) (arg1.view.loc (c : Thread nD τ))} (hf : Reads arg1 f tab) (h1 : k0_cond1 i = 1#1) {β : Type}
    {kk : Unit → Prog (TpuEff nD τ sig (Elt F) Λ₀ .tc) β} {Q : β → sProp 𝕄} :
    iprop((arg1.view.loc (c : Thread nD τ) ↦[arg1.view.set]{q} f) ∗ Free c (slot i) ys)
      ⊢ iprop((iprop((arg1.view.loc (c : Thread nD τ) ↦[arg1.view.set]{q} f) ∗ Flying c (slot i) ys tab)
            -∗ wp frame (wpE defs₀ 𝒱 (c : Thread nD τ) none) Set.univ (kk ()) Q)
        -∗ wp frame (wpE defs₀ 𝒱 (c : Thread nD τ) none) Set.univ
            (Scf.Loop.for k0_t1_loop (k0_t1_ok i h1) ⟨⟩ (k0_t1_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h1) >>= kk) Q) := by
  iintro ⟨Hm, HF⟩ Hk
  imod (iss_zero c (slot i) ys tab) $$ HF with HI
  iapply (Scf.wp_for_bind Idealize.ShloMosaic.frame (wpE defs₀ 𝒱 (c : Thread nD τ) none) Set.univ k0_t1_loop.lb k0_t1_loop.ub k0_t1_loop.st (k0_t1_ok i h1) ()
    (k0_t1_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h1)
    (fun k _ => iprop((arg1.view.loc (c : Thread nD τ) ↦[arg1.view.set]{q} f) ∗ Iss c (slot i) ys tab (8 * k)))
    (fun t _ => trip1_step 𝒱 i arg1 harg1 arg2 harg2 arg4 harg4 arg5 harg5 arg6 harg6 arg7 harg7 arg9 harg9 arg10 harg10 c ys hg hf h1 t)) $$ [Hm HI]
  · isplitl [Hm]; · iexact Hm
    iexact HI
  iintro %acc ⟨Hm, HI⟩
  iapply Hk
  isplitl [Hm]; · iexact Hm
  iapply (iss_flying c (slot i) ys tab)
  iexact HI

/-- A batch started for the next point. -/
theorem wp_fetch2 (c : Dev nD) (ys : Buf (Elt F) (ysL c)) {tab : ℕ → ℕ} (hg : Good tab) {q : PosShare TreeShare}
    {f : Buf (Elt F) (arg2.view.loc (c : Thread nD τ))} (hf : Reads arg2 f tab) (h2 : k0_cond2 i = 1#1) {β : Type}
    {kk : Unit → Prog (TpuEff nD τ sig (Elt F) Λ₀ .tc) β} {Q : β → sProp 𝕄} :
    iprop((arg2.view.loc (c : Thread nD τ) ↦[arg2.view.set]{q} f) ∗ Free c (slot' i) ys)
      ⊢ iprop((iprop((arg2.view.loc (c : Thread nD τ) ↦[arg2.view.set]{q} f) ∗ Flying c (slot' i) ys tab)
            -∗ wp frame (wpE defs₀ 𝒱 (c : Thread nD τ) none) Set.univ (kk ()) Q)
        -∗ wp frame (wpE defs₀ 𝒱 (c : Thread nD τ) none) Set.univ
            (Scf.Loop.for k0_t2_loop (k0_t2_ok i h2) ⟨⟩ (k0_t2_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h2) >>= kk) Q) := by
  iintro ⟨Hm, HF⟩ Hk
  imod (iss_zero c (slot' i) ys tab) $$ HF with HI
  iapply (Scf.wp_for_bind Idealize.ShloMosaic.frame (wpE defs₀ 𝒱 (c : Thread nD τ) none) Set.univ k0_t2_loop.lb k0_t2_loop.ub k0_t2_loop.st (k0_t2_ok i h2) ()
    (k0_t2_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h2)
    (fun k _ => iprop((arg2.view.loc (c : Thread nD τ) ↦[arg2.view.set]{q} f) ∗ Iss c (slot' i) ys tab (8 * k)))
    (fun t _ => trip2_step 𝒱 i arg1 harg1 arg2 harg2 arg4 harg4 arg5 harg5 arg6 harg6 arg7 harg7 arg9 harg9 arg10 harg10 c ys hg hf h2 t)) $$ [Hm HI]
  · isplitl [Hm]; · iexact Hm
    iexact HI
  iintro %acc ⟨Hm, HI⟩
  iapply Hk
  isplitl [Hm]; · iexact Hm
  iapply (iss_flying c (slot' i) ys tab)
  iexact HI

/-- The batch of the point waited for. -/
theorem wp_drain (c : Dev nD) (ys : Buf (Elt F) (ysL c)) (tab : ℕ → ℕ) {β : Type}
    {kk : Unit → Prog (TpuEff nD τ sig (Elt F) Λ₀ .tc) β} {Q : β → sProp 𝕄} :
    iprop(Flying c (slot i) ys tab ∗ ∃ W, owes (c : Thread nD τ) (0 : CellTallies nD τ sig Unit) W)
      ⊢ iprop((iprop(Landed c (slot i) ys tab ∗ ∃ W, owes (c : Thread nD τ) (0 : CellTallies nD τ sig Unit) W)
            -∗ wp frame (wpE defs₀ 𝒱 (c : Thread nD τ) none) Set.univ (kk ()) Q)
        -∗ wp frame (wpE defs₀ 𝒱 (c : Thread nD τ) none) Set.univ
            (Scf.Loop.for k0_t3_loop k0_t3_ok ⟨⟩ (k0_t3_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3) >>= kk) Q) := by
  unfold Flying
  iintro ⟨⟨HB, Hy, Hr⟩, HW⟩ Hk
  iapply (Scf.wp_for_bind Idealize.ShloMosaic.frame (wpE defs₀ 𝒱 (c : Thread nD τ) none) Set.univ k0_t3_loop.lb k0_t3_loop.ub k0_t3_loop.st k0_t3_ok ()
    (k0_t3_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3)
    (fun k _ => Arr c (slot i) ys tab (8 * k))
    (fun t _ => trip3_step 𝒱 i arg1 harg1 arg2 harg2 arg4 harg4 arg5 harg5 arg6 harg6 arg7 harg7 arg9 harg9 arg10 harg10 c ys tab t)) $$ [HB HW]
  · unfold Arr
    isplitl [HB] <;> iassumption
  iintro %acc HA
  unfold Arr
  icases HA with ⟨HB, HW⟩
  imod (collect c (slot i) ys tab) $$ [HB Hy Hr] with HL
  · isplitl [HB]; · iexact HB
    isplitl [Hy] <;> iassumption
  iapply Hk
  isplitl [HL] <;> iassumption

end Loops

end Cert.KernelIdeal.Hand
-- ==== Proof.Pure.lean ====
/-
  What one chunk of the accumulation stores, and what one block of the result holds, element by element.
-/
module

public import proofs.«01_k».proof.Proof.Slots
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

variable {F : FTy → Type} [FloatOps F]

/-- One of the two bf16 numbers of a word. -/
def part (p : ℕ) (x : BitVec 32) : F .f32 := FloatOps.extf .f32 (by decide) (FloatOps.ofBits .bf16 (x.extractLsb' (p * 16) 16))

/-- Eight terms summed in order. -/
def sum8 (f : Fin 8 → F .f32) : F .f32 :=
  FloatOps.addf (FloatOps.addf (FloatOps.addf (FloatOps.addf (FloatOps.addf (FloatOps.addf (FloatOps.addf (f 0) (f 1)) (f 2)) (f 3)) (f 4)) (f 5)) (f 6)) (f 7)

theorem chunk_lo (w : Vec F S64x8 .f32) (b0 b1 b2 b3 b4 b5 b6 b7 : Vec F S1x1x64x128 .i32) (r : Fin 64) (l : Fin 128) :
    k0_pay27 (k0_pay21 (k0_pay2 w) (k0_pay9 w b0 b1 b2) (k0_pay12 b3) (k0_pay14 w) b4 b5 b6) (k0_pay24 b7) (k0_pay26 (k0_pay2 w)) (ix2 r l)
      = sum8 fun k => FloatOps.mulf (w (ix2 r k)) (part 0 ((![b0, b1, b2, b3, b4, b5, b6, b7] k) (ix4 0 0 r l))) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, sum8, part]

theorem chunk_hi (w : Vec F S64x8 .f32) (b0 b1 b2 b3 b4 b5 b6 b7 : Vec F S1x1x64x128 .i32) (r : Fin 64) (l : Fin 128) :
    k0_pay28 (k0_pay22 (k0_pay2 w) (k0_pay10 w b0 b1 b2) (k0_pay13 b3) (k0_pay14 w) b4 b5 b6) (k0_pay25 b7) (k0_pay26 (k0_pay2 w)) (ix2 r l)
      = sum8 fun k => FloatOps.mulf (w (ix2 r k)) (part 1 ((![b0, b1, b2, b3, b4, b5, b6, b7] k) (ix4 0 0 r l))) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, sum8, part]

/-- One element of the result: the shared part with the gated sum added. -/
def cellOf (y g a : F .f32) : F .f32 := FloatOps.addf y (FloatOps.mulf g a)

theorem out_0 (g : Vec F S1x1x1024 .f32) (y : Vec F S1x256x128 .f32) (a : Vec F S256x128 .f32) (r : Fin 256) (l : Fin 128) :
    k0_pay31 (k0_pay30 g y a) (ix3 0 r l) = cellOf (y (ix3 0 r l)) (g (ix3 0 0 ⟨0 + l.val, by omega⟩)) (a (ix2 r l)) := by
  pointwise [k0_pay31, k0_pay30, k0_pay29, cellOf]

theorem out_1 (g : Vec F S1x1x1024 .f32) (y : Vec F S1x256x128 .f32) (a : Vec F S256x128 .f32) (r : Fin 256) (l : Fin 128) :
    k0_pay33 (k0_pay29 g) y a (ix3 0 r l) = cellOf (y (ix3 0 r l)) (g (ix3 0 0 ⟨128 + l.val, by omega⟩)) (a (ix2 r l)) := by
  pointwise [k0_pay33, k0_pay29, cellOf]

theorem out_2 (g : Vec F S1x1x1024 .f32) (y : Vec F S1x256x128 .f32) (a : Vec F S256x128 .f32) (r : Fin 256) (l : Fin 128) :
    k0_pay36 (k0_pay29 g) y a (ix3 0 r l) = cellOf (y (ix3 0 r l)) (g (ix3 0 0 ⟨256 + l.val, by omega⟩)) (a (ix2 r l)) := by
  pointwise [k0_pay36, k0_pay29, cellOf]

theorem out_3 (g : Vec F S1x1x1024 .f32) (y : Vec F S1x256x128 .f32) (a : Vec F S256x128 .f32) (r : Fin 256) (l : Fin 128) :
    k0_pay38 (k0_pay29 g) y a (ix3 0 r l) = cellOf (y (ix3 0 r l)) (g (ix3 0 0 ⟨384 + l.val, by omega⟩)) (a (ix2 r l)) := by
  pointwise [k0_pay38, k0_pay29, cellOf]

theorem out_4 (g : Vec F S1x1x1024 .f32) (y : Vec F S1x256x128 .f32) (a : Vec F S256x128 .f32) (r : Fin 256) (l : Fin 128) :
    k0_pay32 (k0_pay29 g) y a (ix3 0 r l) = cellOf (y (ix3 0 r l)) (g (ix3 0 0 ⟨512 + l.val, by omega⟩)) (a (ix2 r l)) := by
  pointwise [k0_pay32, k0_pay29, cellOf]

theorem out_5 (g : Vec F S1x1x1024 .f32) (y : Vec F S1x256x128 .f32) (a : Vec F S256x128 .f32) (r : Fin 256) (l : Fin 128) :
    k0_pay35 (k0_pay34 (k0_pay29 g) y a) (ix3 0 r l) = cellOf (y (ix3 0 r l)) (g (ix3 0 0 ⟨640 + l.val, by omega⟩)) (a (ix2 r l)) := by
  pointwise [k0_pay35, k0_pay34, k0_pay29, cellOf]

theorem out_6 (g : Vec F S1x1x1024 .f32) (y : Vec F S1x256x128 .f32) (a : Vec F S256x128 .f32) (r : Fin 256) (l : Fin 128) :
    k0_pay37 (k0_pay29 g) y a (ix3 0 r l) = cellOf (y (ix3 0 r l)) (g (ix3 0 0 ⟨768 + l.val, by omega⟩)) (a (ix2 r l)) := by
  pointwise [k0_pay37, k0_pay29, cellOf]

theorem out_7 (g : Vec F S1x1x1024 .f32) (y : Vec F S1x256x128 .f32) (a : Vec F S256x128 .f32) (r : Fin 256) (l : Fin 128) :
    k0_pay1 (k0_pay29 g) y a (ix3 0 r l) = cellOf (y (ix3 0 r l)) (g (ix3 0 0 ⟨896 + l.val, by omega⟩)) (a (ix2 r l)) := by
  pointwise [k0_pay1, k0_pay29, cellOf]

end Cert.KernelIdeal.Hand
-- ==== Proof.Accum.lean ====
/-
  The accumulation: sixteen chunks of 64 rows, each written once.
-/
module

public import proofs.«01_k».proof.Proof.Loops
public import proofs.«01_k».proof.Proof.Pure

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

variable {F : FTy → Type} [FloatOps F]

local notation "𝕄" => MT nD τ sig Unit (Elt F) ℕ (Pipeline.UD sig nD τ) ℕ

/-- Half `p` of the weighted sum of the eight gathered rows, at a line. -/
def total (p : ℕ) (s : ℕ) (w : S1024x8.Idx → Elt F .f32) (b : S2x8x1024x128.Idx → Elt F .i32) : S1024x128.Idx → Elt F .f32 := fun y =>
  sum8 fun k => FloatOps.mulf (w (ix2 (⟨(y 0).val, (y 0).isLt⟩ : Fin 1024) k))
    (part p (b (ix4 (⟨s % 2, Nat.mod_lt _ (by decide)⟩ : Fin 2) k (⟨(y 0).val, (y 0).isLt⟩ : Fin 1024) (⟨(y 1).val, (y 1).isLt⟩ : Fin 128))))

/-- The first `k` chunks of a scratch array hold `g`. -/
def Upto (m : Memref sig .tc .vmem S1024x128 .f32) (c : Dev nD) (g : S1024x128.Idx → Elt F .f32) (k : ℕ) : sProp 𝕄 :=
  iprop(∃ f, ⌜∀ y : S1024x128.Idx, (y 0).val < 64 * k → m.view.read (Elt F) f y = g y⌝ ∗ (m.view.loc (c : Thread nD τ) ↦[m.view.set]{fullShare} f))

theorem chunk_sub (i : grid0.Coords) {k r : ℕ} {o : Fin 4 → ℕ} (e : o = ![par i, k, r, 0]) (h : ∀ a, o a + S1x1x64x128.size a ≤ S2x8x1024x128.size a) :
    (bufM.access (Rect.unit (s := S2x8x1024x128) o S1x1x64x128.size h)).set ⊆ rest (par i) 0 := by
  intro y hy
  have e1 : (bufM.access (Rect.unit (s := S2x8x1024x128) o S1x1x64x128.size h)).set = (Rect.unit (s := S2x8x1024x128) o S1x1x64x128.size h).set :=
    View.set_slice_whole _ _
  rw [e1, Rect.mem_set_unit] at hy
  have h0 := hy 0
  subst e
  rw [mem_rest]
  have h1 : par i ≤ (y 0).val ∧ (y 0).val < par i + 1 := h0
  omega

theorem upto_store {m : Memref sig .tc .vmem S1024x128 .f32} {c : Dev nD} {g : S1024x128.Idx → Elt F .f32} {k : ℕ} {f : Buf (Elt F) (m.view.loc (c : Thread nD τ))}
    (hf : ∀ y : S1024x128.Idx, (y 0).val < 64 * k → m.view.read (Elt F) f y = g y) {o : Fin 2 → ℕ} (e : o = ![64 * k, 0])
    (h : ∀ a, o a + S64x128.size a ≤ S1024x128.size a) {v : S64x128.Idx → Elt F .f32}
    (hv : ∀ (r : Fin 64) (l : Fin 128) (hr : 64 * k + r.val < 1024), v (ix2 r l) = g (ix2 (⟨64 * k + r.val, hr⟩ : Fin 1024) l)) :
    ∀ y : S1024x128.Idx, (y 0).val < 64 * (k + 1) →
      m.view.read (Elt F) (m.view.writes (Elt F) f [⟨Rect.unit (s := S1024x128) o S64x128.size h, v⟩]) y = g y := by
  subst e
  intro y hy
  have hy0 : (y 0).val < 1024 := (y 0).isLt
  have hy1 : (y 1).val < 128 := (y 1).isLt
  by_cases hlt : (y 0).val < 64 * k
  · rw [View.read_writes_cons_miss_of_axis _ _ _ _ y 0 (64 * k) 64 rfl rfl rfl (Or.inl hlt)]
    exact hf y hlt
  · rw [View.read_writes_cons_hit_of_coords m.view f (Rect.unit (s := S1024x128) ![64 * k, 0] S64x128.size h) v []
      (ix2 (⟨(y 0).val - 64 * k, by omega⟩ : Fin 64) (⟨(y 1).val, hy1⟩ : Fin 128)) y]
    · rw [hv _ _ (by show 64 * k + ((y 0).val - 64 * k) < 1024; omega)]
      congr 1
      funext a; apply Fin.ext; fin_cases a
      · show 64 * k + ((y 0).val - 64 * k) = (y 0).val; omega
      · rfl
    · intro a; fin_cases a
      · show (y 0).val = 64 * k + 1 * ((y 0).val - 64 * k); omega
      · show (y 1).val = 0 + 1 * (y 1).val; omega

section Trip4
variable (𝒱 : Variants)
variable (i : grid0.Coords) (arg1 : Memref sig .tc .smem S1x8x256 .i32) (harg1 : arg1.IsWhole) (arg2 : Memref sig .tc .smem S1x8x256 .i32) (harg2 : arg2.IsWhole) (arg4 : Memref sig .tc .vmem S1024x8 .f32) (harg4 : arg4.IsWhole) (arg5 : Memref sig .tc .vmem S1x256x1024 .f32) (harg5 : arg5.IsWhole) (arg6 : Memref sig .tc .vmem S1x6x1024 .f32) (harg6 : arg6.IsWhole) (arg7 : Memref sig .tc .vmem S1x256x1024 .f32) (harg7 : arg7.IsWhole) (arg9 : Memref sig .tc .vmem S1024x128 .f32) (harg9 : arg9.IsWhole) (arg10 : Memref sig .tc .vmem S1024x128 .f32) (harg10 : arg10.IsWhole)

theorem read_w {c : Dev nD} (fw : Buf (Elt F) (arg4.view.loc (c : Thread nD τ))) {o : Fin 2 → ℕ} {k : ℕ} (e : o = ![64 * k, 0]) (h : ∀ a, o a + S64x8.size a ≤ S1024x8.size a)
    (r : Fin 64) (q : Fin 8) (hr : 64 * k + r.val < 1024) :
    (arg4.access (Rect.unit (s := S1024x8) o S64x8.size h)).read (Elt F) fw (ix2 r q) = arg4.view.read (Elt F) fw (ix2 (⟨64 * k + r.val, hr⟩ : Fin 1024) q) := by
  subst e
  show arg4.view.read (Elt F) fw ((Rect.unit (s := S1024x8) ![64 * k, 0] S64x8.size h).emb (ix2 r q)) = _
  congr 1
  funext a; apply Fin.ext; fin_cases a
  · show 64 * k + 1 * r.val = 64 * k + r.val; omega
  · show 0 + 1 * q.val = q.val; omega

theorem read_b (b : S2x8x1024x128.Idx → Elt F .i32) {o : Fin 4 → ℕ} {k q : ℕ} (hq : q < 8) (e : o = ![par i, q, 64 * k, 0]) (h : ∀ a, o a + S1x1x64x128.size a ≤ S2x8x1024x128.size a)
    (r : Fin 64) (l : Fin 128) (hr : 64 * k + r.val < 1024) :
    (bufM.access (Rect.unit (s := S2x8x1024x128) o S1x1x64x128.size h)).read (Elt F) b (ix4 0 0 r l)
      = b (ix4 (⟨par i % 2, Nat.mod_lt _ (by decide)⟩ : Fin 2) (⟨q, hq⟩ : Fin 8) (⟨64 * k + r.val, hr⟩ : Fin 1024) l) := by
  subst e
  show b ((Rect.unit (s := S2x8x1024x128) ![par i, q, 64 * k, 0] S1x1x64x128.size h).emb (ix4 0 0 r l)) = _
  congr 1
  funext a; apply Fin.ext; fin_cases a
  · show par i + 1 * 0 = par i % 2; unfold par; omega
  · show q + 1 * 0 = q; omega
  · show 64 * k + 1 * r.val = 64 * k + r.val; omega
  · show 0 + 1 * l.val = l.val; omega

theorem gather_eq {c : Dev nD} (fw : Buf (Elt F) (arg4.view.loc (c : Thread nD τ))) (b : S2x8x1024x128.Idx → Elt F .i32) (t : Fin k0_t4_loop.trips)
    (r : Fin 64) (l : Fin 128) (hr : 64 * t.val + r.val < 1024) (p : ℕ) :
    (sum8 fun k => FloatOps.mulf ((arg4.access (Rect.unit (s := S1024x8) (k0_off74 t) S64x8.size (k0_off74_inb t))).read (Elt F) fw (ix2 r k))
      (part p ((![(bufM.access (Rect.unit (s := S2x8x1024x128) (k0_off75 i t) S1x1x64x128.size (k0_off75_inb i t))).read (Elt F) b,
        (bufM.access (Rect.unit (s := S2x8x1024x128) (k0_off76 i t) S1x1x64x128.size (k0_off76_inb i t))).read (Elt F) b,
        (bufM.access (Rect.unit (s := S2x8x1024x128) (k0_off77 i t) S1x1x64x128.size (k0_off77_inb i t))).read (Elt F) b,
        (bufM.access (Rect.unit (s := S2x8x1024x128) (k0_off78 i t) S1x1x64x128.size (k0_off78_inb i t))).read (Elt F) b,
        (bufM.access (Rect.unit (s := S2x8x1024x128) (k0_off79 i t) S1x1x64x128.size (k0_off79_inb i t))).read (Elt F) b,
        (bufM.access (Rect.unit (s := S2x8x1024x128) (k0_off80 i t) S1x1x64x128.size (k0_off80_inb i t))).read (Elt F) b,
        (bufM.access (Rect.unit (s := S2x8x1024x128) (k0_off81 i t) S1x1x64x128.size (k0_off81_inb i t))).read (Elt F) b,
        (bufM.access (Rect.unit (s := S2x8x1024x128) (k0_off82 i t) S1x1x64x128.size (k0_off82_inb i t))).read (Elt F) b] k) (ix4 0 0 r l))))
      = total p (par i) (arg4.view.read (Elt F) fw) b (ix2 (⟨64 * t.val + r.val, hr⟩ : Fin 1024) l) := by
  unfold total
  refine congrArg sum8 (funext fun k => ?_)
  rw [read_w arg4 fw (k0_off74_eq t) (k0_off74_inb t) r k hr]
  refine congrArg _ ?_
  fin_cases k
  · exact congrArg _ (read_b i b (q := 0) (by decide) (buf4_0 i t) (k0_off75_inb i t) r l hr)
  · exact congrArg _ (read_b i b (q := 1) (by decide) (buf4_1 i t) (k0_off76_inb i t) r l hr)
  · exact congrArg _ (read_b i b (q := 2) (by decide) (buf4_2 i t) (k0_off77_inb i t) r l hr)
  · exact congrArg _ (read_b i b (q := 3) (by decide) (buf4_3 i t) (k0_off78_inb i t) r l hr)
  · exact congrArg _ (read_b i b (q := 4) (by decide) (buf4_4 i t) (k0_off79_inb i t) r l hr)
  · exact congrArg _ (read_b i b (q := 5) (by decide) (buf4_5 i t) (k0_off80_inb i t) r l hr)
  · exact congrArg _ (read_b i b (q := 6) (by decide) (buf4_6 i t) (k0_off81_inb i t) r l hr)
  · exact congrArg _ (read_b i b (q := 7) (by decide) (buf4_7 i t) (k0_off82_inb i t) r l hr)

/-- What the accumulation holds on to, and how far it has come. -/
def Acc (c : Dev nD) (q : PosShare TreeShare) (fw : Buf (Elt F) (arg4.view.loc (c : Thread nD τ))) (b : Buf (Elt F) (bufL c)) (k : ℕ) : sProp 𝕄 :=
  iprop((arg4.view.loc (c : Thread nD τ) ↦[arg4.view.set]{q} fw) ∗ (bufL c ↦[rest (par i) 0]{fullShare} b)
    ∗ Upto arg9 c (total 0 (par i) (arg4.view.read (Elt F) fw) b) k ∗ Upto arg10 c (total 1 (par i) (arg4.view.read (Elt F) fw) b) k)

set_option maxHeartbeats 1600000 in
theorem trip4_step (c : Dev nD) {q : PosShare TreeShare} (fw : Buf (Elt F) (arg4.view.loc (c : Thread nD τ))) (b : Buf (Elt F) (bufL c)) (v9 : BitVec 32) (t : Fin k0_t4_loop.trips) :
    Acc i arg4 arg9 arg10 c q fw b t.val
      ⊢ wp frame (wpE defs₀ 𝒱 (c : Thread nD τ) none) Set.univ
          (k0_t4_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 v9 t ()) (fun _ => Acc i arg4 arg9 arg10 c q fw b (t.val + 1)) := by
  have ht : t.val < 16 := lt_of_lt_of_eq t.isLt trip4
  have hr : ∀ r : Fin 64, 64 * t.val + r.val < 1024 := fun r => by omega
  unfold k0_t4_body
  rw [k0_part6_eq_skeleton, k0_part7_eq_skeleton]
  unfold k0_part6_skel k0_part7_skel Acc Upto
  iintro ⟨Hw, Hb, ⟨%f9, %h9, Hl⟩, ⟨%f10, %h10, Hh⟩⟩
  iapply (wp_load_rect 𝒱 (c : Thread nD τ) none Set.univ (m := arg4) (r := Rect.unit (s := S1024x8) (k0_off74 t) S64x8.size (k0_off74_inb t)) (S := arg4.view.set) (q := q) (f := fw) (View.set_slice_subset _ _)) $$ Hw
  iintro Hw
  iapply (wp_load_rect 𝒱 (c : Thread nD τ) none Set.univ (m := bufM) (r := Rect.unit (s := S2x8x1024x128) (k0_off75 i t) S1x1x64x128.size (k0_off75_inb i t)) (S := rest (par i) 0) (q := fullShare) (f := b) (chunk_sub i (buf4_0 i t) (k0_off75_inb i t))) $$ Hb
  iintro Hb
  iapply (wp_load_rect 𝒱 (c : Thread nD τ) none Set.univ (m := bufM) (r := Rect.unit (s := S2x8x1024x128) (k0_off76 i t) S1x1x64x128.size (k0_off76_inb i t)) (S := rest (par i) 0) (q := fullShare) (f := b) (chunk_sub i (buf4_1 i t) (k0_off76_inb i t))) $$ Hb
  iintro Hb
  iapply (wp_load_rect 𝒱 (c : Thread nD τ) none Set.univ (m := bufM) (r := Rect.unit (s := S2x8x1024x128) (k0_off77 i t) S1x1x64x128.size (k0_off77_inb i t)) (S := rest (par i) 0) (q := fullShare) (f := b) (chunk_sub i (buf4_2 i t) (k0_off77_inb i t))) $$ Hb
  iintro Hb
  iapply (wp_load_rect 𝒱 (c : Thread nD τ) none Set.univ (m := bufM) (r := Rect.unit (s := S2x8x1024x128) (k0_off78 i t) S1x1x64x128.size (k0_off78_inb i t)) (S := rest (par i) 0) (q := fullShare) (f := b) (chunk_sub i (buf4_3 i t) (k0_off78_inb i t))) $$ Hb
  iintro Hb
  iapply (wp_load_rect 𝒱 (c : Thread nD τ) none Set.univ (m := bufM) (r := Rect.unit (s := S2x8x1024x128) (k0_off79 i t) S1x1x64x128.size (k0_off79_inb i t)) (S := rest (par i) 0) (q := fullShare) (f := b) (chunk_sub i (buf4_4 i t) (k0_off79_inb i t))) $$ Hb
  iintro Hb
  iapply (wp_load_rect 𝒱 (c : Thread nD τ) none Set.univ (m := bufM) (r := Rect.unit (s := S2x8x1024x128) (k0_off80 i t) S1x1x64x128.size (k0_off80_inb i t)) (S := rest (par i) 0) (q := fullShare) (f := b) (chunk_sub i (buf4_5 i t) (k0_off80_inb i t))) $$ Hb
  iintro Hb
  iapply (wp_load_rect 𝒱 (c : Thread nD τ) none Set.univ (m := bufM) (r := Rect.unit (s := S2x8x1024x128) (k0_off81 i t) S1x1x64x128.size (k0_off81_inb i t)) (S := rest (par i) 0) (q := fullShare) (f := b) (chunk_sub i (buf4_6 i t) (k0_off81_inb i t))) $$ Hb
  iintro Hb
  iapply (wp_load_rect 𝒱 (c : Thread nD τ) none Set.univ (m := bufM) (r := Rect.unit (s := S2x8x1024x128) (k0_off82 i t) S1x1x64x128.size (k0_off82_inb i t)) (S := rest (par i) 0) (q := fullShare) (f := b) (chunk_sub i (buf4_7 i t) (k0_off82_inb i t))) $$ Hb
  iintro Hb
  iapply (wp_load_rect 𝒱 (c : Thread nD τ) none Set.univ (m := arg9) (r := Rect.unit (s := S1024x128) (k0_off83 t) S64x128.size (k0_off83_inb t)) (S := arg9.view.set) (q := fullShare) (f := f9) (View.set_slice_subset _ _)) $$ Hl
  iintro Hl
  iapply (wp_store_writes₀ 𝒱 (c : Thread nD τ) none Set.univ (m := arg9) (S := arg9.view.set) (f := f9) (View.set_slice_subset _ _)) $$ Hl
  iintro Hl
  iapply (wp_load_rect 𝒱 (c : Thread nD τ) none Set.univ (m := arg10) (r := Rect.unit (s := S1024x128) (k0_off83 t) S64x128.size (k0_off83_inb t)) (S := arg10.view.set) (q := fullShare) (f := f10) (View.set_slice_subset _ _)) $$ Hh
  iintro Hh
  iapply (wp_store_writes₀ 𝒱 (c : Thread nD τ) none Set.univ (m := arg10) (S := arg10.view.set) (f := f10) (View.set_slice_subset _ _)) $$ Hh
  iintro Hh
  simp only [ret_bind']
  sl_step
  isplitl [Hw]; · iexact Hw
  isplitl [Hb]; · iexact Hb
  isplitl [Hl]
  · iexists _
    isplitr
    rotate_left
    · iexact Hl
    · ipureintro
      refine upto_store (c := c) h9 (k0_off83_eq t) (k0_off83_inb t) fun r l hr => ?_
      rw [chunk_lo]
      exact gather_eq i arg4 fw b t r l hr 0
  · iexists _
    isplitr
    rotate_left
    · iexact Hh
    · ipureintro
      refine upto_store (c := c) h10 (k0_off83_eq t) (k0_off83_inb t) fun r l hr => ?_
      rw [chunk_hi]
      exact gather_eq i arg4 fw b t r l hr 1

end Trip4

end Cert.KernelIdeal.Hand
-- ==== Proof.Tail.lean ====
/-
  The eight column blocks of a result block: read, gated, added and stored.
-/
module

public import proofs.«01_k».proof.Proof.Accum

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

set_option maxRecDepth 16384

variable {F : FTy → Type} [FloatOps F]

local notation "𝕄" => MT nD τ sig Unit (Elt F) ℕ (Pipeline.UD sig nD τ) ℕ

/-- The block of the result: columns below 512 from the low halves, the others from the high ones; a row's four lines hold four column blocks. -/
def outB (y5 : S1x256x1024.Idx → Elt F .f32) (g : S1x6x1024.Idx → Elt F .f32) (lo hi : S1024x128.Idx → Elt F .f32) : S1x256x1024.Idx → Elt F .f32 := fun y =>
  have h1 : (y 1).val < 256 := (y 1).isLt
  have h2 : (y 2).val < 1024 := (y 2).isLt
  cellOf (y5 y) (g (ix3 0 5 (⟨(y 2).val, h2⟩ : Fin 1024)))
    ((if (y 2).val < 512 then lo else hi) (ix2 (⟨4 * (y 1).val + (y 2).val % 512 / 128, by omega⟩ : Fin 1024) (⟨(y 2).val % 128, by omega⟩ : Fin 128)))

theorem outB_lo (y5 : S1x256x1024.Idx → Elt F .f32) (g : S1x6x1024.Idx → Elt F .f32) (lo hi : S1024x128.Idx → Elt F .f32) {q : ℕ} (hq : q < 4) (r : Fin 256) (l : Fin 128) :
    outB y5 g lo hi (ix3 0 r ⟨128 * q + l.val, by omega⟩)
      = cellOf (y5 (ix3 0 r ⟨128 * q + l.val, by omega⟩)) (g (ix3 0 5 ⟨128 * q + l.val, by omega⟩)) (lo (ix2 ⟨4 * r.val + q, by omega⟩ l)) := by
  show cellOf _ _ ((if 128 * q + l.val < 512 then lo else hi) _) = _
  rw [if_pos (by omega)]
  congr 2
  funext a; apply Fin.ext; fin_cases a
  · show 4 * r.val + (128 * q + l.val) % 512 / 128 = 4 * r.val + q; omega
  · show (128 * q + l.val) % 128 = l.val; omega

theorem outB_hi (y5 : S1x256x1024.Idx → Elt F .f32) (g : S1x6x1024.Idx → Elt F .f32) (lo hi : S1024x128.Idx → Elt F .f32) {q : ℕ} (hq : q < 4) (r : Fin 256) (l : Fin 128) :
    outB y5 g lo hi (ix3 0 r ⟨512 + 128 * q + l.val, by omega⟩)
      = cellOf (y5 (ix3 0 r ⟨512 + 128 * q + l.val, by omega⟩)) (g (ix3 0 5 ⟨512 + 128 * q + l.val, by omega⟩)) (hi (ix2 ⟨4 * r.val + q, by omega⟩ l)) := by
  show cellOf _ _ ((if 512 + 128 * q + l.val < 512 then lo else hi) _) = _
  rw [if_neg (by omega)]
  congr 2
  funext a; apply Fin.ext; fin_cases a
  · show 4 * r.val + (512 + 128 * q + l.val) % 512 / 128 = 4 * r.val + q; omega
  · show (512 + 128 * q + l.val) % 128 = l.val; omega

/-- The column blocks `js` of a result block hold `G`. -/
def Outs (m : Memref sig .tc .vmem S1x256x1024 .f32) (c : Dev nD) (G : S1x256x1024.Idx → Elt F .f32) (js : List ℕ) : sProp 𝕄 :=
  iprop(∃ f, ⌜∀ y : S1x256x1024.Idx, (y 2).val / 128 ∈ js → m.view.read (Elt F) f y = G y⌝ ∗ (m.view.loc (c : Thread nD τ) ↦[m.view.set]{fullShare} f))

theorem outs_store {m : Memref sig .tc .vmem S1x256x1024 .f32} {c : Dev nD} {G : S1x256x1024.Idx → Elt F .f32} {js : List ℕ} {f : Buf (Elt F) (m.view.loc (c : Thread nD τ))}
    (hf : ∀ y : S1x256x1024.Idx, (y 2).val / 128 ∈ js → m.view.read (Elt F) f y = G y) {j off : ℕ} (hoff : off = 128 * j)
    (h : ∀ a, (![0, 0, off] : Fin 3 → ℕ) a + S1x256x128.size a ≤ S1x256x1024.size a) {v : S1x256x128.Idx → Elt F .f32}
    (hv : ∀ (r : Fin 256) (l : Fin 128) (hl : off + l.val < 1024), v (ix3 0 r l) = G (ix3 0 r ⟨off + l.val, hl⟩)) :
    ∀ y : S1x256x1024.Idx, (y 2).val / 128 ∈ j :: js →
      m.view.read (Elt F) (m.view.writes (Elt F) f [⟨Rect.unit (s := S1x256x1024) ![0, 0, off] S1x256x128.size h, v⟩]) y = G y := by
  intro y hy
  have hy0 : (y 0).val < 1 := (y 0).isLt
  have hy1 : (y 1).val < 256 := (y 1).isLt
  have hy2 : (y 2).val < 1024 := (y 2).isLt
  by_cases hj : (y 2).val / 128 = j
  · rw [View.read_writes_cons_hit_of_coords m.view f (Rect.unit (s := S1x256x1024) ![0, 0, off] S1x256x128.size h) v []
      (ix3 (0 : Fin 1) (⟨(y 1).val, hy1⟩ : Fin 256) (⟨(y 2).val - off, by omega⟩ : Fin 128)) y]
    · rw [hv _ _ (by show off + ((y 2).val - off) < 1024; omega)]
      congr 1
      funext a; apply Fin.ext; fin_cases a
      · show 0 = (y 0).val; omega
      · rfl
      · show off + ((y 2).val - off) = (y 2).val; omega
    · intro a; fin_cases a
      · show (y 0).val = 0 + 1 * 0; omega
      · show (y 1).val = 0 + 1 * (y 1).val; omega
      · show (y 2).val = off + 1 * ((y 2).val - off); omega
  · rw [View.read_writes_cons_miss_of_axis _ _ _ _ y 2 off 128 rfl rfl rfl (by omega)]
    exact hf y ((List.mem_cons.mp hy).resolve_left hj)

variable {Λ : Labels} {defs : Defs nD τ sig (Elt F) Λ} (𝒱 : Variants)

/-- One column block: the shared part's block, every fourth line of a scratch array, a dead read of the output, the store. -/
theorem wp_block (c : Dev nD) {arg5 arg7 : Memref sig .tc .vmem S1x256x1024 .f32} {m : Memref sig .tc .vmem S1024x128 .f32}
    {q5 qm : PosShare TreeShare} {f5 : Buf (Elt F) (arg5.view.loc (c : Thread nD τ))} {fm : Buf (Elt F) (m.view.loc (c : Thread nD τ))}
    {G : S1x256x1024.Idx → Elt F .f32} {js : List ℕ} (off : ℕ) {j : ℕ} (hoff : off = 128 * j) {q : ℕ} (hq4 : q < 4)
    {y5 : S1x256x1024.Idx → Elt F .f32} {g : S1x6x1024.Idx → Elt F .f32} {gm : S1024x128.Idx → Elt F .f32}
    (P : Vec F S1x256x128 .f32 → Vec F S256x128 .f32 → FVec F S1x256x128 .f32)
    (h5 : arg5.view.read (Elt F) f5 = y5) (hm : m.view.read (Elt F) fm = gm)
    (hP : ∀ v a (r : Fin 256) (l : Fin 128) (hl : off + l.val < 1024), P v a (ix3 0 r l) = cellOf (v (ix3 0 r l)) (g (ix3 0 5 ⟨off + l.val, hl⟩)) (a (ix2 r l)))
    (hG : ∀ (r : Fin 256) (l : Fin 128) (hl : off + l.val < 1024), G (ix3 0 r ⟨off + l.val, hl⟩)
      = cellOf (y5 (ix3 0 r ⟨off + l.val, hl⟩)) (g (ix3 0 5 ⟨off + l.val, hl⟩)) (gm (ix2 ⟨4 * r.val + q, by omega⟩ l)))
    {ho : ∀ a, (![0, 0, off] : Fin 3 → ℕ) a + S1x256x128.size a ≤ S1x256x1024.size a}
    {hs : ∀ a, S256x128.size a = 0 ∨ (![q, 0] : Fin 2 → ℕ) a + (![4, 1] : Fin 2 → ℕ) a * (S256x128.size a - 1) < S1024x128.size a}
    {α : Type} {k : PUnit → Prog (TpuEff nD τ sig (Elt F) Λ .tc) α} {Q : α → sProp 𝕄} :
    iprop((arg5.view.loc (c : Thread nD τ) ↦[arg5.view.set]{q5} f5) ∗ (m.view.loc (c : Thread nD τ) ↦[m.view.set]{qm} fm) ∗ Outs arg7 c G js)
      ⊢ iprop((iprop((arg5.view.loc (c : Thread nD τ) ↦[arg5.view.set]{q5} f5) ∗ (m.view.loc (c : Thread nD τ) ↦[m.view.set]{qm} fm) ∗ Outs arg7 c G (j :: js))
            -∗ wp frame (wpE defs 𝒱 (c : Thread nD τ) none) Set.univ (k ⟨⟩) Q)
        -∗ wp frame (wpE defs 𝒱 (c : Thread nD τ) none) Set.univ
            (.op (.load arg5 (Rect.unit (s := S1x256x1024) ![0, 0, off] S1x256x128.size ho).toLoadRect (View.loadsAt_vmem h_S1x256x128)) fun v =>
              .op (.load m (⟨![q, 0], S256x128.size, ![4, 1], hs⟩ : LoadRect S1024x128) (View.loadsAt_vmem h_S256x128)) fun a =>
              .op (.load arg7 (Rect.unit (s := S1x256x1024) ![0, 0, off] S1x256x128.size ho).toLoadRect (View.loadsAt_vmem h_S1x256x128)) fun _ =>
              .op (.store arg7 (Rect.unit (s := S1x256x1024) ![0, 0, off] S1x256x128.size ho) (P v a) Finset.univ (View.stores_vmem_bits_univ h_S1x256x128 rfl) (.inl rfl)) k) Q) := by
  unfold Outs
  iintro ⟨H5, Hm, %f, %hf, Ho⟩ Hk
  iapply (wp_load_rect 𝒱 (c : Thread nD τ) none Set.univ (m := arg5) (r := Rect.unit (s := S1x256x1024) ![0, 0, off] S1x256x128.size ho) (S := arg5.view.set) (q := q5) (f := f5) (View.set_slice_subset _ _)) $$ H5
  iintro H5
  iapply (wp_load 𝒱 (c : Thread nD τ) none Set.univ (m := m) (r := (⟨![q, 0], S256x128.size, ![4, 1], hs⟩ : LoadRect S1024x128)) (S := m.view.set) (q := qm) (f := fm) (View.setOn_subset_set _ _)) $$ Hm
  iintro Hm
  iapply (wp_load_rect 𝒱 (c : Thread nD τ) none Set.univ (m := arg7) (r := Rect.unit (s := S1x256x1024) ![0, 0, off] S1x256x128.size ho) (S := arg7.view.set) (q := fullShare) (f := f) (View.set_slice_subset _ _)) $$ Ho
  iintro Ho
  iapply (wp_store_writes₀ 𝒱 (c : Thread nD τ) none Set.univ (m := arg7) (S := arg7.view.set) (f := f) (View.set_slice_subset _ _)) $$ Ho
  iintro Ho
  iapply Hk
  isplitl [H5]; · iexact H5
  isplitl [Hm]; · iexact Hm
  iexists _
  isplitr
  rotate_left
  · iexact Ho
  · ipureintro
    refine outs_store (c := c) hf hoff ho fun r l hl => ?_
    rw [hP _ _ r l hl, hG r l hl, ← h5, ← hm]
    have e1 : (arg5.access (Rect.unit (s := S1x256x1024) ![0, 0, off] S1x256x128.size ho)).read (Elt F) f5 (ix3 0 r l)
        = arg5.view.read (Elt F) f5 (ix3 0 r ⟨off + l.val, hl⟩) := by
      show arg5.view.read (Elt F) f5 ((Rect.unit (s := S1x256x1024) ![0, 0, off] S1x256x128.size ho).emb (ix3 0 r l)) = _
      congr 1
      funext a; apply Fin.ext; fin_cases a
      · rfl
      · show 0 + 1 * r.val = r.val; omega
      · show off + 1 * l.val = off + l.val; omega
    have e2 : m.view.readAt (Elt F) (⟨![q, 0], S256x128.size, ![4, 1], hs⟩ : LoadRect S1024x128) fm (ix2 r l)
        = m.view.read (Elt F) fm (ix2 ⟨4 * r.val + q, by omega⟩ l) := by
      rw [View.readAt_apply]
      congr 1
      funext a; apply Fin.ext; fin_cases a
      · show q + 4 * r.val = 4 * r.val + q; omega
      · show 0 + 1 * l.val = l.val; omega
    exact congrArg₂ (fun u v => cellOf u _ v) e1 e2

end Cert.KernelIdeal.Hand
-- ==== Proof.Point.lean ====
/-
  One point of the grid, whole: the copies started and waited for, the accumulation, the result block.
-/
module

public import proofs.«01_k».proof.Proof.Tail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

set_option maxRecDepth 16384

variable {F : FTy → Type} [FloatOps F]

local notation "𝕄" => MT nD τ sig Unit (Elt F) ℕ (Pipeline.UD sig nD τ) ℕ

section Point
variable (𝒱 : Variants)
variable (i : grid0.Coords) (arg1 : Memref sig .tc .smem S1x8x256 .i32) (harg1 : arg1.IsWhole) (arg2 : Memref sig .tc .smem S1x8x256 .i32) (harg2 : arg2.IsWhole) (arg4 : Memref sig .tc .vmem S1024x8 .f32) (harg4 : arg4.IsWhole) (arg5 : Memref sig .tc .vmem S1x256x1024 .f32) (harg5 : arg5.IsWhole) (arg6 : Memref sig .tc .vmem S1x6x1024 .f32) (harg6 : arg6.IsWhole) (arg7 : Memref sig .tc .vmem S1x256x1024 .f32) (harg7 : arg7.IsWhole) (arg9 : Memref sig .tc .vmem S1024x128 .f32) (harg9 : arg9.IsWhole) (arg10 : Memref sig .tc .vmem S1024x128 .f32) (harg10 : arg10.IsWhole)

theorem outs_nil {m : Memref sig .tc .vmem S1x256x1024 .f32} {c : Dev nD} {G : S1x256x1024.Idx → Elt F .f32} (f : Buf (Elt F) (m.view.loc (c : Thread nD τ))) :
    (m.view.loc (c : Thread nD τ) ↦[m.view.set]{fullShare} f) ⊢ (Outs m c G [] : sProp 𝕄) := by
  unfold Outs
  iintro H
  iexists f
  isplitr
  · ipureintro; intro y hy; exact absurd hy List.not_mem_nil
  · iexact H

theorem outs_all {m : Memref sig .tc .vmem S1x256x1024 .f32} {c : Dev nD} {G : S1x256x1024.Idx → Elt F .f32} :
    Outs m c G [7, 3, 6, 2, 5, 1, 4, 0] ⊢ (iprop(∃ f, ⌜∀ y, m.view.read (Elt F) f y = G y⌝ ∗ (m.view.loc (c : Thread nD τ) ↦[m.view.set]{fullShare} f)) : sProp 𝕄) := by
  unfold Outs
  iintro ⟨%f, %hf, H⟩
  iexists f
  isplitr
  · ipureintro
    intro y
    have h2 : (y 2).val < 1024 := (y 2).isLt
    have h3 : (y 2).val / 128 < 8 := by omega
    refine hf y ?_
    generalize (y 2).val / 128 = n at h3
    revert n
    decide
  · iexact H

/-- The gates of the point's batch element. -/
def gate {c : Dev nD} (fg : Buf (Elt F) (arg6.view.loc (c : Thread nD τ))) : Vec F S1x1x1024 .f32 :=
  (arg6.access (Rect.unit (s := S1x6x1024) ![0, 5, 0] S1x1x1024.size inb_S1x6x1024_S1x1x1024_0_5_0)).read (Elt F) fg

theorem gate_eq {c : Dev nD} (fg : Buf (Elt F) (arg6.view.loc (c : Thread nD τ))) (x : Fin 1024) :
    gate arg6 fg (ix3 0 0 x) = arg6.view.read (Elt F) fg (ix3 0 5 x) := by
  show arg6.view.read (Elt F) fg ((Rect.unit (s := S1x6x1024) ![0, 5, 0] S1x1x1024.size inb_S1x6x1024_S1x1x1024_0_5_0).emb (ix3 0 0 x)) = _
  congr 1
  funext a; apply Fin.ext; fin_cases a
  · rfl
  · rfl
  · show 0 + 1 * x.val = x.val; omega

/-- The slots on the way into a point. -/
def In (c : Dev nD) (ys : Buf (Elt F) (ysL c)) (tab : ℕ → ℕ) : sProp 𝕄 :=
  iprop((if (i 0).val = 0 then Free c (slot i) ys else Flying c (slot i) ys tab) ∗ Free c (slot' i) ys)

/-- And on the way out of it. -/
def Out (c : Dev nD) (ys : Buf (Elt F) (ysL c)) (tab' : ℕ → ℕ) : sProp 𝕄 :=
  iprop(Free c (slot i) ys ∗ (if (i 0).val + 1 < 128 then Flying c (slot' i) ys tab' else Free c (slot' i) ys))

/-- Two programs in a row, and back. -/
theorem wp_seq (c : Dev nD) {β γ : Type} (p : Prog (TpuEff nD τ sig (Elt F) Λ₀ .tc) β) (k : β → Prog (TpuEff nD τ sig (Elt F) Λ₀ .tc) γ) (Q : γ → sProp 𝕄) :
    wp frame (wpE defs₀ 𝒱 (c : Thread nD τ) none) Set.univ p (fun a => wp frame (wpE defs₀ 𝒱 (c : Thread nD τ) none) Set.univ (k a) Q)
      ⊢ wp frame (wpE defs₀ 𝒱 (c : Thread nD τ) none) Set.univ (p >>= k) Q := by
  rw [wp_bind]

theorem wp_unseq (c : Dev nD) {β γ : Type} (p : Prog (TpuEff nD τ sig (Elt F) Λ₀ .tc) β) (k : β → Prog (TpuEff nD τ sig (Elt F) Λ₀ .tc) γ) (Q : γ → sProp 𝕄) :
    wp frame (wpE defs₀ 𝒱 (c : Thread nD τ) none) Set.univ (p >>= k) Q
      ⊢ wp frame (wpE defs₀ 𝒱 (c : Thread nD τ) none) Set.univ p (fun a => wp frame (wpE defs₀ 𝒱 (c : Thread nD τ) none) Set.univ (k a) Q) := by
  rw [wp_bind]

theorem wp_first (c : Dev nD) (ys : Buf (Elt F) (ysL c)) {tab : ℕ → ℕ} (hg : Good tab) {q : PosShare TreeShare}
    {f : Buf (Elt F) (arg1.view.loc (c : Thread nD τ))} (hf : Reads arg1 f tab) {β : Type}
    {kk : Prog (TpuEff nD τ sig (Elt F) Λ₀ .tc) β} {Q : β → sProp 𝕄} :
    iprop((arg1.view.loc (c : Thread nD τ) ↦[arg1.view.set]{q} f) ∗ (if (i 0).val = 0 then Free c (slot i) ys else Flying c (slot i) ys tab))
      ⊢ iprop((iprop((arg1.view.loc (c : Thread nD τ) ↦[arg1.view.set]{q} f) ∗ Flying c (slot i) ys tab)
            -∗ wp frame (wpE defs₀ 𝒱 (c : Thread nD τ) none) Set.univ kk Q)
        -∗ wp frame (wpE defs₀ 𝒱 (c : Thread nD τ) none) Set.univ
            (if h1 : k0_cond1 i = 1#1 then do
                Scf.Loop.for k0_t1_loop (k0_t1_ok i h1) ⟨⟩ (k0_t1_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h1)
                kk
              else kk) Q) := by
  by_cases h1 : k0_cond1 i = 1#1
  · rw [dif_pos h1, if_pos ((cond1_iff i).mp h1)]
    iintro ⟨Hm, HF⟩ Hk
    iapply (wp_fetch1 𝒱 i arg1 harg1 arg2 harg2 arg4 harg4 arg5 harg5 arg6 harg6 arg7 harg7 arg9 harg9 arg10 harg10 c ys hg hf h1) $$ [Hm HF]
    · isplitl [Hm] <;> iassumption
    iintro H
    iapply Hk
    iexact H
  · rw [dif_neg h1, if_neg (fun h => h1 ((cond1_iff i).mpr h))]
    iintro H Hk
    iapply Hk
    iexact H

theorem wp_second (c : Dev nD) (ys : Buf (Elt F) (ysL c)) {tab : ℕ → ℕ} (hg : Good tab) {q : PosShare TreeShare}
    {f : Buf (Elt F) (arg2.view.loc (c : Thread nD τ))} (hf : (i 0).val + 1 < 128 → Reads arg2 f tab) {β : Type}
    {kk : Prog (TpuEff nD τ sig (Elt F) Λ₀ .tc) β} {Q : β → sProp 𝕄} :
    iprop((arg2.view.loc (c : Thread nD τ) ↦[arg2.view.set]{q} f) ∗ Free c (slot' i) ys)
      ⊢ iprop((iprop((arg2.view.loc (c : Thread nD τ) ↦[arg2.view.set]{q} f) ∗ (if (i 0).val + 1 < 128 then Flying c (slot' i) ys tab else Free c (slot' i) ys))
            -∗ wp frame (wpE defs₀ 𝒱 (c : Thread nD τ) none) Set.univ kk Q)
        -∗ wp frame (wpE defs₀ 𝒱 (c : Thread nD τ) none) Set.univ
            (if h2 : k0_cond2 i = 1#1 then do
                Scf.Loop.for k0_t2_loop (k0_t2_ok i h2) ⟨⟩ (k0_t2_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 h2)
                kk
              else kk) Q) := by
  by_cases h2 : k0_cond2 i = 1#1
  · have h := (cond2_iff i).mp h2
    rw [dif_pos h2, if_pos h]
    iintro ⟨Hm, HF⟩ Hk
    iapply (wp_fetch2 𝒱 i arg1 harg1 arg2 harg2 arg4 harg4 arg5 harg5 arg6 harg6 arg7 harg7 arg9 harg9 arg10 harg10 c ys hg (hf h) h2) $$ [Hm HF]
    · isplitl [Hm] <;> iassumption
    iintro H
    iapply Hk
    iexact H
  · rw [dif_neg h2, if_neg (fun h => h2 ((cond2_iff i).mpr h))]
    iintro H Hk
    iapply Hk
    iexact H

/-- The accumulation run to its end. -/
theorem wp_accum (c : Dev nD) {q : PosShare TreeShare} (fw : Buf (Elt F) (arg4.view.loc (c : Thread nD τ))) (b : Buf (Elt F) (bufL c)) (v9 : BitVec 32) {β : Type}
    {kk : Unit → Prog (TpuEff nD τ sig (Elt F) Λ₀ .tc) β} {Q : β → sProp 𝕄} :
    Acc i arg4 arg9 arg10 c q fw b 0
      ⊢ iprop((Acc i arg4 arg9 arg10 c q fw b 16 -∗ wp frame (wpE defs₀ 𝒱 (c : Thread nD τ) none) Set.univ (kk ()) Q)
        -∗ wp frame (wpE defs₀ 𝒱 (c : Thread nD τ) none) Set.univ
            (Scf.Loop.for k0_t4_loop k0_t4_ok ⟨⟩ (k0_t4_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 v9) >>= kk) Q) := by
  iintro HA Hk
  iapply (Scf.wp_for_bind Idealize.ShloMosaic.frame (wpE defs₀ 𝒱 (c : Thread nD τ) none) Set.univ k0_t4_loop.lb k0_t4_loop.ub k0_t4_loop.st k0_t4_ok ()
    (k0_t4_body (F := F) i arg1 harg1 arg2 harg2 ysM (Memref.isWhole_whole main_arg1) arg4 harg4 arg5 harg5 arg6 harg6 arg7 harg7 bufM (Memref.isWhole_whole cc0_scratch0) arg9 harg9 arg10 harg10 cc0_scratch3 v9)
    (fun k _ => Acc i arg4 arg9 arg10 c q fw b k)
    (fun t _ => trip4_step 𝒱 i arg1 harg1 arg2 harg2 arg4 harg4 arg5 harg5 arg6 harg6 arg7 harg7 arg9 harg9 arg10 harg10 c fw b v9 t)) $$ HA
  iintro %acc HA
  iapply Hk
  iexact HA

theorem upto_all {m : Memref sig .tc .vmem S1024x128 .f32} {c : Dev nD} {g : S1024x128.Idx → Elt F .f32} {f : Buf (Elt F) (m.view.loc (c : Thread nD τ))}
    (h : ∀ y : S1024x128.Idx, (y 0).val < 64 * 16 → m.view.read (Elt F) f y = g y) : m.view.read (Elt F) f = g :=
  funext fun y => h y (y 0).isLt

set_option maxHeartbeats 3200000 in
theorem point (c : Dev nD) (ys : Buf (Elt F) (ysL c)) {tab tab' : ℕ → ℕ} (hg : Good tab) (hg' : Good tab') {q1 q2 q4 q5 q6 : PosShare TreeShare}
    {f1 : Buf (Elt F) (arg1.view.loc (c : Thread nD τ))} (hf1 : Reads arg1 f1 tab)
    {f2 : Buf (Elt F) (arg2.view.loc (c : Thread nD τ))} (hf2 : (i 0).val + 1 < 128 → Reads arg2 f2 tab')
    (fw : Buf (Elt F) (arg4.view.loc (c : Thread nD τ))) (f5 : Buf (Elt F) (arg5.view.loc (c : Thread nD τ))) (fg : Buf (Elt F) (arg6.view.loc (c : Thread nD τ))) :
    iprop((arg1.view.loc (c : Thread nD τ) ↦[arg1.view.set]{q1} f1) ∗ (arg2.view.loc (c : Thread nD τ) ↦[arg2.view.set]{q2} f2)
        ∗ (arg4.view.loc (c : Thread nD τ) ↦[arg4.view.set]{q4} fw) ∗ (arg5.view.loc (c : Thread nD τ) ↦[arg5.view.set]{q5} f5) ∗ (arg6.view.loc (c : Thread nD τ) ↦[arg6.view.set]{q6} fg)
        ∗ (∃ f, arg7.view.loc (c : Thread nD τ) ↦[arg7.view.set]{fullShare} f) ∗ (∃ f, arg9.view.loc (c : Thread nD τ) ↦[arg9.view.set]{fullShare} f)
        ∗ (∃ f, arg10.view.loc (c : Thread nD τ) ↦[arg10.view.set]{fullShare} f) ∗ In i c ys tab ∗ ∃ W, owes (c : Thread nD τ) (0 : CellTallies nD τ sig Unit) W)
      ⊢ wp frame (wpE defs₀ 𝒱 (c : Thread nD τ) none) Set.univ (cc0_combine (F := F) i arg1 harg1 arg2 harg2 ysM (Memref.isWhole_whole main_arg1) arg4 harg4 arg5 harg5 arg6 harg6 arg7 harg7 bufM (Memref.isWhole_whole cc0_scratch0) arg9 harg9 arg10 harg10 cc0_scratch3)
        (fun _ => iprop((arg1.view.loc (c : Thread nD τ) ↦[arg1.view.set]{q1} f1) ∗ (arg2.view.loc (c : Thread nD τ) ↦[arg2.view.set]{q2} f2)
        ∗ (arg4.view.loc (c : Thread nD τ) ↦[arg4.view.set]{q4} fw) ∗ (arg5.view.loc (c : Thread nD τ) ↦[arg5.view.set]{q5} f5) ∗ (arg6.view.loc (c : Thread nD τ) ↦[arg6.view.set]{q6} fg)
        ∗ (∃ f, ⌜∀ y, arg7.view.read (Elt F) f y = outB (arg5.view.read (Elt F) f5) (arg6.view.read (Elt F) fg)
              (total 0 (par i) (arg4.view.read (Elt F) fw) (land ys tab)) (total 1 (par i) (arg4.view.read (Elt F) fw) (land ys tab)) y⌝
            ∗ (arg7.view.loc (c : Thread nD τ) ↦[arg7.view.set]{fullShare} f))
        ∗ (∃ f, arg9.view.loc (c : Thread nD τ) ↦[arg9.view.set]{fullShare} f)
        ∗ (∃ f, arg10.view.loc (c : Thread nD τ) ↦[arg10.view.set]{fullShare} f) ∗ Out i c ys tab' ∗ ∃ W, owes (c : Thread nD τ) (0 : CellTallies nD τ sig Unit) W)) := by
  rw [cc0_combine_eq_skeleton]
  unfold cc0_combine_skel
  rw [k0_part8_eq_skeleton, k0_part9_eq_skeleton, k0_part10_eq_skeleton]
  unfold k0_part8_skel k0_part9_skel k0_part10_skel
  iintro ⟨H1, H2, H4, H5, H6, ⟨%f7, Ho⟩, ⟨%f9, Hl⟩, ⟨%f10, Hh⟩, HIn, HW⟩
  unfold In Out
  icases HIn with ⟨Hs, Hs'⟩
  iapply (wp_seq 𝒱 c)
  iapply (wp_first 𝒱 i arg1 harg1 arg2 harg2 arg4 harg4 arg5 harg5 arg6 harg6 arg7 harg7 arg9 harg9 arg10 harg10 c ys hg hf1) $$ [H1 Hs]
  · isplitl [H1] <;> iassumption
  iintro ⟨H1, Hs⟩
  iapply (wp_second 𝒱 i arg1 harg1 arg2 harg2 arg4 harg4 arg5 harg5 arg6 harg6 arg7 harg7 arg9 harg9 arg10 harg10 c ys hg' hf2) $$ [H2 Hs']
  · isplitl [H2] <;> iassumption
  iintro ⟨H2, Hs'⟩
  iapply (wp_drain 𝒱 i arg1 harg1 arg2 harg2 arg4 harg4 arg5 harg5 arg6 harg6 arg7 harg7 arg9 harg9 arg10 harg10 c ys tab) $$ [Hs HW]
  · isplitl [Hs] <;> iassumption
  unfold Landed
  iintro ⟨⟨Hb, Hc, Hy⟩, HW⟩
  iapply (wp_accum 𝒱 i arg1 harg1 arg2 harg2 arg4 harg4 arg5 harg5 arg6 harg6 arg7 harg7 arg9 harg9 arg10 harg10 c fw (land ys tab) _) $$ [H4 Hb Hl Hh]
  · unfold Acc Upto
    isplitl [H4]; · iexact H4
    isplitl [Hb]; · iexact Hb
    isplitl [Hl]
    · iexists f9; isplitr
      · ipureintro; intro y hy; exact absurd hy (Nat.not_lt_zero _)
      · iexact Hl
    · iexists f10; isplitr
      · ipureintro; intro y hy; exact absurd hy (Nat.not_lt_zero _)
      · iexact Hh
  unfold Acc Upto
  iintro ⟨H4, Hb, ⟨%g9, %h9, Hl⟩, ⟨%g10, %h10, Hh⟩⟩
  have e9 := upto_all (c := c) h9
  have e10 := upto_all (c := c) h10
  iapply (wp_unseq 𝒱 c)
  iapply (wp_load_rect 𝒱 (c : Thread nD τ) none Set.univ (m := arg6) (r := Rect.unit (s := S1x6x1024) ![0, 5, 0] S1x1x1024.size inb_S1x6x1024_S1x1x1024_0_5_0) (S := arg6.view.set) (q := q6) (f := fg) (View.set_slice_subset _ _)) $$ H6
  iintro H6
  ihave Ho := (show _ ⊢ Outs arg7 c (outB (arg5.view.read (Elt F) f5) (arg6.view.read (Elt F) fg)
              (total 0 (par i) (arg4.view.read (Elt F) fw) (land ys tab)) (total 1 (par i) (arg4.view.read (Elt F) fw) (land ys tab))) [] from outs_nil f7) $$ Ho
  iapply (wp_block 𝒱 c (arg5 := arg5) (arg7 := arg7) (m := arg9) 0 (j := 0) rfl (q := 0) (by decide) (g := arg6.view.read (Elt F) fg) (fun v a => k0_pay31 (k0_pay30 (gate arg6 fg) v a)) rfl e9
    (fun v a r l hl => (out_0 (gate arg6 fg) v a r l).trans (by rw [gate_eq])) (fun r l hl => outB_lo _ _ _ _ (by decide : 0 < 4) r l)) $$ [H5 Hl Ho]
  · isplitl [H5]; · iexact H5
    isplitl [Hl] <;> iassumption
  iintro ⟨H5, Hl, Ho⟩
  iapply (wp_block 𝒱 c (arg5 := arg5) (arg7 := arg7) (m := arg10) 512 (j := 4) rfl (q := 0) (by decide) (g := arg6.view.read (Elt F) fg) (fun v a => k0_pay32 (k0_pay29 (gate arg6 fg)) v a) rfl e10
    (fun v a r l hl => (out_4 (gate arg6 fg) v a r l).trans (by rw [gate_eq])) (fun r l hl => outB_hi _ _ _ _ (by decide : 0 < 4) r l)) $$ [H5 Hh Ho]
  · isplitl [H5]; · iexact H5
    isplitl [Hh] <;> iassumption
  iintro ⟨H5, Hh, Ho⟩
  iapply (wp_block 𝒱 c (arg5 := arg5) (arg7 := arg7) (m := arg9) 128 (j := 1) rfl (q := 1) (by decide) (g := arg6.view.read (Elt F) fg) (fun v a => k0_pay33 (k0_pay29 (gate arg6 fg)) v a) rfl e9
    (fun v a r l hl => (out_1 (gate arg6 fg) v a r l).trans (by rw [gate_eq])) (fun r l hl => outB_lo _ _ _ _ (by decide : 1 < 4) r l)) $$ [H5 Hl Ho]
  · isplitl [H5]; · iexact H5
    isplitl [Hl] <;> iassumption
  iintro ⟨H5, Hl, Ho⟩
  iapply (wp_block 𝒱 c (arg5 := arg5) (arg7 := arg7) (m := arg10) 640 (j := 5) rfl (q := 1) (by decide) (g := arg6.view.read (Elt F) fg) (fun v a => k0_pay35 (k0_pay34 (k0_pay29 (gate arg6 fg)) v a)) rfl e10
    (fun v a r l hl => (out_5 (gate arg6 fg) v a r l).trans (by rw [gate_eq])) (fun r l hl => outB_hi _ _ _ _ (by decide : 1 < 4) r l)) $$ [H5 Hh Ho]
  · isplitl [H5]; · iexact H5
    isplitl [Hh] <;> iassumption
  iintro ⟨H5, Hh, Ho⟩
  iapply (wp_block 𝒱 c (arg5 := arg5) (arg7 := arg7) (m := arg9) 256 (j := 2) rfl (q := 2) (by decide) (g := arg6.view.read (Elt F) fg) (fun v a => k0_pay36 (k0_pay29 (gate arg6 fg)) v a) rfl e9
    (fun v a r l hl => (out_2 (gate arg6 fg) v a r l).trans (by rw [gate_eq])) (fun r l hl => outB_lo _ _ _ _ (by decide : 2 < 4) r l)) $$ [H5 Hl Ho]
  · isplitl [H5]; · iexact H5
    isplitl [Hl] <;> iassumption
  iintro ⟨H5, Hl, Ho⟩
  iapply (wp_block 𝒱 c (arg5 := arg5) (arg7 := arg7) (m := arg10) 768 (j := 6) rfl (q := 2) (by decide) (g := arg6.view.read (Elt F) fg) (fun v a => k0_pay37 (k0_pay29 (gate arg6 fg)) v a) rfl e10
    (fun v a r l hl => (out_6 (gate arg6 fg) v a r l).trans (by rw [gate_eq])) (fun r l hl => outB_hi _ _ _ _ (by decide : 2 < 4) r l)) $$ [H5 Hh Ho]
  · isplitl [H5]; · iexact H5
    isplitl [Hh] <;> iassumption
  iintro ⟨H5, Hh, Ho⟩
  iapply (wp_block 𝒱 c (arg5 := arg5) (arg7 := arg7) (m := arg9) 384 (j := 3) rfl (q := 3) (by decide) (g := arg6.view.read (Elt F) fg) (fun v a => k0_pay38 (k0_pay29 (gate arg6 fg)) v a) rfl e9
    (fun v a r l hl => (out_3 (gate arg6 fg) v a r l).trans (by rw [gate_eq])) (fun r l hl => outB_lo _ _ _ _ (by decide : 3 < 4) r l)) $$ [H5 Hl Ho]
  · isplitl [H5]; · iexact H5
    isplitl [Hl] <;> iassumption
  iintro ⟨H5, Hl, Ho⟩
  iapply (wp_block 𝒱 c (arg5 := arg5) (arg7 := arg7) (m := arg10) 896 (j := 7) rfl (q := 3) (by decide) (g := arg6.view.read (Elt F) fg) (fun v a => k0_pay1 (k0_pay29 (gate arg6 fg)) v a) rfl e10
    (fun v a r l hl => (out_7 (gate arg6 fg) v a r l).trans (by rw [gate_eq])) (fun r l hl => outB_hi _ _ _ _ (by decide : 3 < 4) r l)) $$ [H5 Hh Ho]
  · isplitl [H5]; · iexact H5
    isplitl [Hh] <;> iassumption
  iintro ⟨H5, Hh, Ho⟩
  simp only [ret_bind']
  sl_step
  isplitl [H1]; · iexact H1
  isplitl [H2]; · iexact H2
  isplitl [H4]; · iexact H4
  isplitl [H5]; · iexact H5
  isplitl [H6]; · iexact H6
  isplitl [Ho]
  · iapply (outs_all (F := F))
    iexact Ho
  isplitl [Hl]; · iexists _; iexact Hl
  isplitl [Hh]; · iexists _; iexact Hh
  isplitl [Hs' Hb Hc Hy]
  · isplitl [Hb Hc Hy]
    · iapply (landed_free c (slot i) ys tab)
      unfold Landed
      isplitl [Hb]; · iexact Hb
      isplitl [Hc] <;> iassumption
    · iexact Hs'
  iexact HW

end Point

end Cert.KernelIdeal.Hand
-- ==== Proof.Run.lean ====
/-
  The whole grid: what each point finds and leaves, and the launch.
-/
module

public import proofs.«01_k».proof.Proof.Point
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! ## The tables of the points -/

/-- Where copy `j` of point `T` starts reading: token `j / 8` of the point's tile, choice `j % 8`. -/
def tabOf (D : S64x8x512.Idx → BitVec 32) (T j : ℕ) : ℕ :=
  (D (ix3 (⟨T / 2 % 64, Nat.mod_lt _ (by decide)⟩ : Fin 64) (⟨j % 8, Nat.mod_lt _ (by decide)⟩ : Fin 8) (⟨(256 * (T % 2) + j / 8) % 512, Nat.mod_lt _ (by decide)⟩ : Fin 512))).toNat

/-- Every word names the first of four whole lines of the source. -/
def Fine (D : S64x8x512.Idx → BitVec 32) : Prop := ∀ y, 4 ∣ (D y).toNat ∧ (D y).toNat + 4 ≤ 1572864

theorem good_of_fine {D : S64x8x512.Idx → BitVec 32} (h : Fine D) (T : ℕ) : Good (tabOf D T) := fun _ _ => h _

theorem idx : ∀ t : Fin cfg0.N, win0_0.index t = ![t.val / 2, 0, t.val % 2] ∧ win0_1.index t = ![(min (t.val + 1) 127) / 2, 0, (min (t.val + 1) 127) % 2]
    ∧ win0_2.index t = ![t.val, 0] ∧ win0_3.index t = ![t.val / 8, t.val % 8, 0] ∧ win0_4.index t = ![t.val / 8, 0, 0] ∧ win0_5.index t = ![t.val / 8, t.val % 8, 0]
    ∧ t.val < 128 := (by decide +kernel : ∀ t : Fin grid0.N, _)

theorem coord : ∀ t : Fin cfg0.N, (grid0.coords t 0).val = t.val := (by decide +kernel : ∀ t : Fin grid0.N, _)

variable (m : (ℓ : Loc nD τ sig) → Buf (Elt F) ℓ) (ρ : Dev nD → PrngReg)

/-- The places, the rows. -/
abbrev DD (c : Dev nD) : S64x8x512.Idx → BitVec 32 := V m c main_arg0
abbrev YS (c : Dev nD) : Buf (Elt F) (ysL c) := V m c main_arg1

theorem reads_0 (c : Dev nD) (t : Fin cfg0.N) {f : Buf (Elt F) ((st0_0 t).view.loc (c : Thread nD τ))}
    (hf : (st0_0 t).view.read (Elt F) f = iblk m c 0 t) : Reads (st0_0 t) f (tabOf (DD m c) t.val) := by
  intro k x
  have hk := k.isLt
  have hx := x.isLt
  have e : (iblk m c 0 t (ix3 (0 : Fin 1) k x) : BitVec 32) = DD m c (ix3 (⟨t.val / 2 % 64, Nat.mod_lt _ (by decide)⟩ : Fin 64) (⟨(8 * x.val + k.val) % 8, Nat.mod_lt _ (by decide)⟩ : Fin 8)
      (⟨(256 * (t.val % 2) + (8 * x.val + k.val) / 8) % 512, Nat.mod_lt _ (by decide)⟩ : Fin 512)) := by
    blk_ext [iblk, idx t]
  unfold tabOf
  rw [← e]
  exact congrArg BitVec.toNat (congrFun hf (ix3 (0 : Fin 1) k x))

theorem reads_1 (c : Dev nD) (t : Fin cfg0.N) {f : Buf (Elt F) ((st0_1 t).view.loc (c : Thread nD τ))}
    (hf : (st0_1 t).view.read (Elt F) f = iblk m c 1 t) (ht : t.val + 1 < 128) : Reads (st0_1 t) f (tabOf (DD m c) (t.val + 1)) := by
  intro k x
  have hk := k.isLt
  have hx := x.isLt
  have hm : min (t.val + 1) 127 = t.val + 1 := by omega
  have e : (iblk m c 1 t (ix3 (0 : Fin 1) k x) : BitVec 32) = DD m c (ix3 (⟨(t.val + 1) / 2 % 64, Nat.mod_lt _ (by decide)⟩ : Fin 64) (⟨(8 * x.val + k.val) % 8, Nat.mod_lt _ (by decide)⟩ : Fin 8)
      (⟨(256 * ((t.val + 1) % 2) + (8 * x.val + k.val) / 8) % 512, Nat.mod_lt _ (by decide)⟩ : Fin 512)) := by
    blk_ext [iblk, idx t, hm]
  unfold tabOf
  rw [← e]
  exact congrArg BitVec.toNat (congrFun hf (ix3 (0 : Fin 1) k x))

end Cert.KernelIdeal.Hand

end
-- ==== Proof.Launched.lean ====
/-
  The launch: what each point is given and gives back, and the run of the program.
-/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The two slots between points -/

/-- The slots before point `T`: its own rows are on their way unless it is the first, the other slot is free. -/
def St (c : Dev nD) (T : ℕ) : sProp 𝕄 :=
  iprop((if 0 < T ∧ T < 128 then Flying c ⟨T % 2, Nat.mod_lt _ (by decide)⟩ (YS m c) (tabOf (DD m c) T) else Free c ⟨T % 2, Nat.mod_lt _ (by decide)⟩ (YS m c))
    ∗ Free c ⟨1 - T % 2, by omega⟩ (YS m c))

theorem slot_eq (t : Fin cfg0.N) : slot (grid0.coords t) = ⟨t.val % 2, Nat.mod_lt _ (by decide)⟩ := by
  exact Fin.ext (congrArg (· % 2) (coord t))
theorem slot'_eq (t : Fin cfg0.N) : slot' (grid0.coords t) = ⟨1 - t.val % 2, by omega⟩ := by
  exact Fin.ext (congrArg (fun n => 1 - n % 2) (coord t))

theorem st_in (c : Dev nD) (t : Fin cfg0.N) : St m c t.val = In (grid0.coords t) c (YS m c) (tabOf (DD m c) t.val) := by
  have ht : t.val < 128 := (idx t).2.2.2.2.2.2
  unfold St In
  rw [slot_eq, slot'_eq, coord]
  by_cases h : t.val = 0
  · rw [if_neg (by omega), if_pos h]
  · rw [if_pos (by omega), if_neg h]

theorem out_st (c : Dev nD) (t : Fin cfg0.N) : Out (grid0.coords t) c (YS m c) (tabOf (DD m c) (t.val + 1)) ⊢ (St m c (t.val + 1) : sProp 𝕄) := by
  unfold St Out
  rw [slot_eq, slot'_eq, coord]
  have e : (⟨1 - t.val % 2, by omega⟩ : Fin 2) = ⟨(t.val + 1) % 2, Nat.mod_lt _ (by decide)⟩ := Fin.ext (by show 1 - t.val % 2 = (t.val + 1) % 2; omega)
  have e' : (⟨t.val % 2, Nat.mod_lt _ (by decide)⟩ : Fin 2) = ⟨1 - (t.val + 1) % 2, by omega⟩ := Fin.ext (by show t.val % 2 = 1 - (t.val + 1) % 2; omega)
  rw [e, e']
  have ec : (0 < t.val + 1 ∧ t.val + 1 < 128) ↔ t.val + 1 < 128 := ⟨fun h => h.2, fun h => ⟨Nat.succ_pos _, h⟩⟩
  simp only [ec]
  iintro ⟨Ha, Hb⟩
  isplitl [Hb] <;> iassumption

theorem st_0 (c : Dev nD) : St m c 0 = (iprop(Free c 0 (YS m c) ∗ Free c 1 (YS m c)) : sProp 𝕄) := by unfold St; rw [if_neg (by decide)]; rfl
theorem st_128 (c : Dev nD) : St m c 128 = (iprop(Free c 0 (YS m c) ∗ Free c 1 (YS m c)) : sProp 𝕄) := by unfold St; rw [if_neg (by decide)]; rfl

/-- Both slots free: the rows' buffer, the two cells at zero, the source whole. -/
def Idle (c : Dev nD) : sProp 𝕄 :=
  iprop((∃ f : Buf (Elt F) (bufL c), bufL c ↦{fullShare} f) ∗ (semVal ((c : Thread nD τ), SemLoc.dma (cell 0)) 0 ∗ semVal ((c : Thread nD τ), SemLoc.dma (cell 1)) 0)
    ∗ (ysL c ↦{fullShare} YS m c))

theorem rests_disj : Disjoint (rest 0 0) (rest 1 0) := by
  rw [Finset.disjoint_left]; intro y h h'; rw [mem_rest] at h h'; omega
theorem rests_cover : rest 0 0 ∪ rest 1 0 = Finset.univ := by
  ext y
  have h : (y 0).val < 2 := (y 0).isLt
  simp only [Finset.mem_union, mem_rest, Finset.mem_univ, iff_true]
  omega

theorem idle_free (c : Dev nD) : Idle m c ⊢ (iprop(Free c 0 (YS m c) ∗ Free c 1 (YS m c)) : sProp 𝕄) := by
  unfold Idle Free half
  rw [if_pos rfl, if_neg (by decide)]
  iintro ⟨⟨%f, Hb⟩, ⟨Hs, Hs'⟩, Hy⟩
  ihave Hy' := (pointsTo_share (ℓ := ysL c) (PosShare.mem_left_op_right fullShare)).1 $$ Hy
  icases Hy' with ⟨Hy, Hy'⟩
  ihave Hb' := (Entails.of_eq (congrArg (fun S => (bufL c ↦[S]{fullShare} f : sProp 𝕄)) rests_cover.symm)) $$ Hb
  ihave Hb'' := (pointsTo_union (ℓ := bufL c) rests_disj).1 $$ Hb'
  icases Hb'' with ⟨Hb, Hb'⟩
  isplitl [Hb Hs Hy]
  · isplitl [Hb]; · iexists f; iexact Hb
    isplitl [Hs] <;> iassumption
  · isplitl [Hb']; · iexists f; iexact Hb'
    isplitl [Hs'] <;> iassumption

theorem rests_join (c : Dev nD) (f f' : Buf (Elt F) (bufL c)) :
    iprop((bufL c ↦[rest 0 0]{fullShare} f) ∗ (bufL c ↦[rest 1 0]{fullShare} f')) ⊢ (iprop(∃ g : Buf (Elt F) (bufL c), bufL c ↦{fullShare} g) : sProp 𝕄) := by
  have h := pointsTo_join (nD := nD) (Ix := Unit) (Name := ℕ) (U := Pipeline.UD sig nD τ) (Lvl := ℕ) (ℓ := bufL c) (q := fullShare) (f := f) (g := f') rests_disj
  rw [rests_cover] at h
  exact h.trans (exists_intro _)

theorem free_idle (c : Dev nD) : iprop(Free c 0 (YS m c) ∗ Free c 1 (YS m c)) ⊢ (Idle m c : sProp 𝕄) := by
  unfold Idle Free half
  rw [if_pos rfl, if_neg (by decide)]
  iintro ⟨⟨⟨%f, Hb⟩, Hs, Hy⟩, ⟨%f', Hb'⟩, Hs', Hy'⟩
  isplitl [Hb Hb']
  · iapply (rests_join c f f')
    isplitl [Hb]; · iexact Hb
    iexact Hb'
  isplitl [Hs Hs']
  · isplitl [Hs] <;> iassumption
  iapply (pointsTo_share (ℓ := ysL c) (PosShare.mem_left_op_right fullShare)).2
  isplitl [Hy] <;> iassumption

/-! ## The launch's own cells and its one array left where it is -/

abbrev osem0 : Fin 2 → SemLoc sig := fun j => (![SemLoc.dma (cell 0), SemLoc.dma (cell 1)] : Fin 2 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = (ysL c ↦{fullShare} YS m c) := by
  rw [BI.bigSep_eq_bigSepL_of_eq [main_arg1] (by decide) (by decide)]; rfl

/-- What every point is lent besides its blocks: the slots, the two accumulators, the generator's register. -/
def Lent (c : Dev nD) (S : sProp 𝕄) : sProp 𝕄 :=
  iprop(S ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ r, prngReg c r))

theorem phi_in (c : Dev nD) : Pipeline.ΦD osem0 spec0 H0 (V m) c ⊢ (Lent c (St m c 0) : sProp 𝕄) := by
  rw [Pipeline.ΦD_eq, scopedRest0_eq, ownSems0_eq, hbmPts0_eq]
  unfold Lent
  iintro ⟨⟨Hb, Hl, Hh⟩, Hg, Hs, Hy⟩
  isplitl [Hb Hs Hy]
  · ihave H := (idle_free m c) $$ [Hb Hs Hy]
    · unfold Idle
      isplitl [Hb]; · iexact Hb
      isplitl [Hs] <;> iassumption
    iapply (Entails.of_eq (st_0 m c).symm)
    iexact H
  isplitl [Hl]; · iexact Hl
  isplitl [Hh] <;> iassumption

theorem phi_out (c : Dev nD) : Lent c (St m c 128) ⊢ (Pipeline.ΦD osem0 spec0 H0 (V m) c : sProp 𝕄) := by
  rw [Pipeline.ΦD_eq, scopedRest0_eq, ownSems0_eq, hbmPts0_eq]
  unfold Lent
  iintro ⟨Hst, Hl, Hh, Hg⟩
  ihave H := ((Entails.of_eq (st_128 m c)).trans (free_idle m c)) $$ Hst
  unfold Idle
  icases H with ⟨Hb, Hs, Hy⟩
  isplitl [Hb Hl Hh]
  · isplitl [Hb]; · iexact Hb
    isplitl [Hl] <;> iassumption
  isplitl [Hg]; · iexact Hg
  isplitl [Hs] <;> iassumption

/-! ## What the region's arrays hold -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The block a point leaves: the shared part plus the gate times the gathered and weighted rows. -/
def blockAt (c : Dev nD) (t : Fin cfg0.N) : S1x256x1024.Idx → Elt F .f32 :=
  outB (iblk m c 3 t) (iblk m c 4 t) (total 0 (t.val % 2) (iblk m c 2 t) (land (YS m c) (tabOf (DD m c) t.val)))
    (total 1 (t.val % 2) (iblk m c 2 t) (land (YS m c) (tabOf (DD m c) t.val)))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockAt m c t
  Φ T := Lent c (St m c T.val)
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t))

theorem scratch_eq (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

theorem sound_body (hD : ∀ c, Fine (DD m c)) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Lent c (St m c (t.val + 1)) from rfl, after_0, after_1, after_2, after_3, after_4, after_5]
  rw [show (dats m 0 c).Φ t.castSucc = Lent c (St m c t.val) from rfl]
  simp only [before_0, before_1, before_2, before_3, before_4]
  unfold Dat.owesAt Pipeline.owesWithin
  rw [show (dats m 0 c).owed t.castSucc = 0 from rfl, show (dats m 0 c).owed t.succ = 0 from rfl, st_in]
  unfold Lent owns
  iintro ⟨⟨HI, ⟨%fl, Hl⟩, ⟨%fh, Hh⟩, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  ihave Hwp := (point Variants.none (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (Memref.whole cc0_scratch1) (Memref.isWhole_whole _) (Memref.whole cc0_scratch2) (Memref.isWhole_whole _)
    c (YS m c) (good_of_fine (hD c) t.val) (good_of_fine (hD c) (t.val + 1)) (reads_0 m c t e0)
    (fun h => reads_1 m c t e1 (by rw [coord t] at h; exact h)) f2 f3 f4) $$ [H0 H1 H2 H3 H4 H5 Hl Hh HI HW]
  · isplitl [H0]; · iexact H0
    isplitl [H1]; · iexact H1
    isplitl [H2]; · iexact H2
    isplitl [H3]; · iexact H3
    isplitl [H4]; · iexact H4
    isplitl [H5]; · iexists f5; iexact H5
    isplitl [Hl]; · iexists fl; iapply (Entails.of_eq (scratch_eq c cc0_scratch1 fl).symm); iexact Hl
    isplitl [Hh]; · iexists fh; iapply (Entails.of_eq (scratch_eq c cc0_scratch2 fh).symm); iexact Hh
    isplitl [HI]; · iexact HI
    iexists W; iexact HW
  iapply (wp_wand _ _ _) $$ Hwp
  iintro %a ⟨H0, H1, H2, H3, H4, ⟨%f, %ef, H5⟩, ⟨%gl, Hl⟩, ⟨%gh, Hh⟩, HO, ⟨%W', HW'⟩⟩
  isplitl [HO Hl Hh Hg]
  · isplitl [HO]; · iapply (out_st m c t); iexact HO
    isplitl [Hl]; · iexists gl; iapply (Entails.of_eq (scratch_eq c cc0_scratch1 gl)); iexact Hl
    isplitl [Hh]; · iexists gh; iapply (Entails.of_eq (scratch_eq c cc0_scratch2 gh)); iexact Hh
    iexact Hg
  isplitl [HW']
  · iexists W'; isplitr; · ipureintro; exact fun _ _ => Or.inl trivial
    iexact HW'
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists f
  isplitr
  · ipureintro
    funext y
    rw [ef y, e2, e3, e4, show par (grid0.coords t) = t.val % 2 from congrArg (· % 2) (coord t)]
    rfl
  · iexact H5

theorem defs₀_row (t : Fin cfg0.N) : defs₀ (F := F) .tc cfg0.body (cfg0.bodyArgs t (cfg0.slots t)) = bodyAt0 t := by
  unfold defs₀; rw [Defs.onTc_tc]

theorem body_obligation (hD : ∀ c, Fine (DD m c)) (c : Dev nD) : BodyObligation (dats (F := F) m 0 c) (defs₀ (F := F)) Variants.none () Set.univ := fun t => by
  rw [bigSep_W0, bigSep_W0, defs₀_row]
  exact triple_restated (sound_body m hD c t) rfl .rfl fun _ => .rfl

/-! ## The run -/

set_option backward.isDefEq.respectTransparency.types false in
theorem run_main (hD : ∀ c, Fine (DD m c)) :
    θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hD c).loose) (hq := fun _ _ _ => rfl)
    (howed := fun _ _ => rfl) (V := V m) (hmain := hmainD m Variants.none) (hA := A_eq m)
    (hin := fun c => phi_in m c) (hout := fun c => phi_out m c)

end Cert.KernelIdeal.Hand

end
-- ==== Proof.Range.lean ====
/-
  What the precondition says: every word of the places names the first of four whole lines.
-/
module

public import proofs.«01_k».proof.Proof.Launched
public import proofs.«01_k».proof.Proof.Gen.Pre_in_range
public import proofs.«01_k».proof.Pre_in_range
public import Idealize.ShloMosaic.Lib.ReduceAll
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The remainder as it is computed: the truncated one, moved up when it is negative. -/
def floorRem (v : BitVec 32) : BitVec 32 :=
  if IntOp.andi (IntOp.cmpi .ne (IntOp.cmpi .slt (IntOp.remsi .host v 4#32) 0#32) (IntOp.cmpi .slt 4#32 0#32)) (IntOp.cmpi .ne (IntOp.remsi .host v 4#32) 0#32) = 1#1
  then IntOp.addi (IntOp.remsi .host v 4#32) 4#32 else IntOp.remsi .host v 4#32

theorem andi_one {a b : BitVec 1} (h : IntOp.andi a b = 1#1) : a = 1#1 ∧ b = 1#1 := by
  revert a b; decide

theorem toNat_of_sge {v : BitVec 32} (h : IntOp.cmpi .sge v 0#32 = 1#1) : v.toNat < 2 ^ 31 := by
  rw [WordCmp.cmpi_sge_eq, WordCmp.ofBool_eq_one_iff, decide_eq_true_iff] at h
  have e := BitVec.toInt_eq_toNat_cond v
  have := v.isLt
  simp at h
  split at e <;> omega

theorem remsi_four {v : BitVec 32} (h : v.toNat < 2 ^ 31) : IntOp.remsi .host v 4#32 = BitVec.ofNat 32 (v.toNat % 4) := by
  have hv : v.msb = false := by rw [BitVec.msb_eq_false_iff_two_mul_lt]; omega
  have hc : ¬ IntOp.SDivCorner v 4#32 := by rintro (e | ⟨-, e⟩) <;> exact absurd e (by decide)
  unfold IntOp.remsi
  rw [if_neg hc, BitVec.srem_eq, hv, show (4#32).msb = false from by decide]
  apply BitVec.eq_of_toNat_eq
  show (v % 4#32).toNat = _
  rw [BitVec.toNat_umod, BitVec.toNat_ofNat]; show v.toNat % 4 = v.toNat % 4 % 2 ^ 32; omega

theorem floorRem_zero {v : BitVec 32} (h : v.toNat < 2 ^ 31) (e : IntOp.cmpi .eq (floorRem v) 0#32 = 1#1) : 4 ∣ v.toNat := by
  rw [WordCmp.cmpi_eq_eq, WordCmp.ofBool_eq_one_iff, decide_eq_true_iff] at e
  unfold floorRem at e
  rw [remsi_four h] at e
  have h4 : v.toNat % 4 < 4 := Nat.mod_lt _ (by decide)
  have key : ∀ r : Fin 4, (if IntOp.andi (IntOp.cmpi .ne (IntOp.cmpi .slt (BitVec.ofNat 32 r.val) 0#32) (IntOp.cmpi .slt 4#32 0#32)) (IntOp.cmpi .ne (BitVec.ofNat 32 r.val) 0#32) = 1#1
      then IntOp.addi (BitVec.ofNat 32 r.val) 4#32 else BitVec.ofNat 32 r.val) = 0#32 → r.val = 0 := by decide
  have := key ⟨v.toNat % 4, h4⟩ e
  exact Nat.dvd_of_mod_eq_zero this

theorem fine_of_pre (D : IVec S64x8x512 32) (ys : IVec S1572864x128 32) (w : FVec F S64x8x512 .f32) (yp : FVec F S16x2048x1024 .f32) (md : FVec F S16x6144 .f32)
    (h : Cert.Pre_in_range.fn (F := F) D ys w yp md = fun _ => 1#1) : Fine D := by
  intro y
  have e := Host.reduce_andi_all (t := ⟨0, ![]⟩) _ _ _ _ _ (congrFun h (fun i => i.elim0)) y
  have e' : IntOp.andi (IntOp.andi (IntOp.cmpi .sge (D y) 0#32) (IntOp.cmpi .sle (D y) 1572860#32)) (IntOp.cmpi .eq (floorRem (D y)) 0#32) = 1#1 := e
  obtain ⟨ea, er⟩ := andi_one e'
  obtain ⟨e0, e1⟩ := andi_one ea
  have hv := toNat_of_sge e0
  refine ⟨floorRem_zero hv er, ?_⟩
  rw [WordCmp.cmpi_sle_eq, WordCmp.ofBool_eq_one_iff, decide_eq_true_iff, WordCmp.toInt_eq_toNat_of_lt_half (by simpa using hv)] at e1
  have : (1572860#32).toInt = 1572860 := by decide
  omega

end Cert.KernelIdeal.Hand

end
-- ==== Proof.Frames.lean ====
/-
  The frames of the kernel at both instances, from the one run.
-/
module

public import proofs.«01_k».proof.Defs
public import proofs.«01_k».proof.Proof.Range
public import proofs.«01_k».proof.Proof.Gen.Kernel
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem fine_main (c : Dev nD)
    (h : Cert.Pre_in_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1) : Fine (DD m c) := by
  have e : DD m c = m ((c : Thread nD τ).loc main_arg0) := V_main_arg0 m c
  rw [e]
  exact fine_of_pre _ _ _ _ _ h

/-- The arguments are left as they were. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans (((dats m 0 c).arrAt_in 0 rfl _).trans ((A_eq m c 0).trans (V_main_arg0 m c))),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).1 3).trans (((dats m 0 c).arrAt_in 3 rfl _).trans ((A_eq m c 3).trans (V_main_arg3 m c))),
   ((h c).2 main_arg4 (Pipeline.mem_restRefs_of main_arg4 (by decide) (by decide))).trans (V_main_arg4 m c)⟩

end Cert.KernelIdeal.Hand

namespace Cert.Proof

open Idealize.ShloMosaic Idealize.SL.Sem

attribute [local instance] Cert.Kernel.Gen.facts Cert.KernelIdeal.Gen.facts Cert.Pre_in_range.Gen.facts

theorem frame_ideal : Cert.quiescent_KernelIdeal := fun m ρ hp =>
  (θ_run Cert.KernelIdeal.defs _ _).mono (fun r h => ⟨fun c => Cert.KernelIdeal.Hand.args_kept m h.1 c, h.2⟩)
    (Cert.KernelIdeal.Hand.run_main (F := Ideal) m ρ fun c => Cert.KernelIdeal.Hand.fine_main m c (hp c))

/-- The two programs' body tables are one. -/
theorem table₀ : Cert.Kernel.defs₀ (F := Bits) = Cert.KernelIdeal.defs₀ (F := Bits) :=
  funext fun p => match p with
    | .tc => funext fun ℓ => match ℓ with
      | (0 : Fin 1) => funext fun a => match a with
        | (t, s) => (rfl : Cert.Kernel.defs₀ (F := Bits) .tc (0 : Fin 1) (t, s) = Cert.KernelIdeal.defs₀ (F := Bits) .tc (0 : Fin 1) (t, s))
    | .scScalar _ => rfl
    | .scVector _ _ => rfl

theorem table : Cert.KernelIdeal.defs (F := Bits) = Cert.Kernel.defs (F := Bits) :=
  congrArg (Pipeline.defs (Cert.KernelIdeal.pcfgs (F := Bits))) table₀.symm

theorem frame_kernel : Cert.quiescent_Kernel := fun m ρ hp =>
  have h := (θ_run Cert.KernelIdeal.defs _ _).mono
    (fun r h => (⟨fun c => Cert.KernelIdeal.Hand.args_kept m h.1 c, h.2⟩ : (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0))
    (Cert.KernelIdeal.Hand.run_main (F := Bits) m ρ fun c => Cert.KernelIdeal.Hand.fine_main m c (hp c))
  table ▸ h

end Cert.Proof

end
-- ==== Proof.Value.lean ====
/-
  What the kernel leaves in its result, cell by cell.
-/
module

public import proofs.«01_k».proof.Proof.Launched
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The word behind choice `k` of token `T` at column `x`: line `x % 512 / 128` of the four from its place on, lane `x % 128`. -/
def wordAt (D : S64x8x512.Idx → BitVec 32) (Y : S1572864x128.Idx → BitVec 32) (T : Fin 32768) (k : Fin 8) (x : Fin 1024) : BitVec 32 :=
  Y (ix2 (⟨((D (ix3 (⟨T.val / 512, by omega⟩ : Fin 64) k (⟨T.val % 512, by omega⟩ : Fin 512))).toNat + x.val % 512 / 128) % 1572864, Nat.mod_lt _ (by decide)⟩ : Fin 1572864)
    (⟨x.val % 128, by omega⟩ : Fin 128))

/-- The eight weighted rows of token `T` at column `x`. -/
def rowsAt (D : S64x8x512.Idx → BitVec 32) (Y : S1572864x128.Idx → BitVec 32) (W : FVec Ideal S64x8x512 .f32) (T : Fin 32768) (x : Fin 1024) : EReal :=
  ∑ k : Fin 8, W (ix3 (⟨T.val / 512, by omega⟩ : Fin 64) k (⟨T.val % 512, by omega⟩ : Fin 512))
    * Ideal.ofBits .bf16 ((wordAt D Y T k x).extractLsb' (if x.val < 512 then 0 else 16) 16)

/-- One cell of the result: the shared part plus the gate times the eight weighted rows. -/
def resultAt (D : S64x8x512.Idx → BitVec 32) (Y : S1572864x128.Idx → BitVec 32) (W : FVec Ideal S64x8x512 .f32) (P : FVec Ideal S16x2048x1024 .f32) (M : FVec Ideal S16x6144 .f32)
    (b : Fin 16) (r : Fin 2048) (x : Fin 1024) : EReal :=
  P (ix3 b r x) + M (ix2 b (⟨5120 + x.val, by omega⟩ : Fin 6144)) * rowsAt D Y W ⟨2048 * b.val + r.val, by omega⟩ x

theorem sum8_ideal (f : Fin 8 → Ideal .f32) : sum8 f = ∑ k : Fin 8, f k := by
  rw [Fin.sum_univ_eight]; rfl

variable (m : (ℓ : Loc nD τ sig) → Buf (Elt Ideal) ℓ)

theorem weights (c : Dev nD) (R : Fin 131072) (k : Fin 8) : (V m c main_v4 : FVec Ideal S131072x8 .f32) (ix2 R k)
    = (m ((c : Thread nD τ).loc main_arg2) : FVec Ideal S64x8x512 .f32) (ix3 (⟨R.val / 4 / 512, by omega⟩ : Fin 64) k (⟨R.val / 4 % 512, by omega⟩ : Fin 512)) := by
  entry_read
  pointwise
  blk_ext

theorem gates (c : Dev nD) (b : Fin 16) (s : Fin 6) (x : Fin 1024) : (V m c main_v0 : FVec Ideal S16x6x1024 .f32) (ix3 b s x)
    = (m ((c : Thread nD τ).loc main_arg4) : FVec Ideal S16x6144 .f32) (ix2 b (⟨1024 * s.val + x.val, by omega⟩ : Fin 6144)) := by
  entry_read
  pointwise
  blk_ext

/-- What the kernel leaves. -/
def kernelAt (c : Dev nD) : S16x2048x1024.Idx → Elt Ideal .f32 := fun y =>
  resultAt (DD m c) (YS m c) (m ((c : Thread nD τ).loc main_arg2)) (m ((c : Thread nD τ).loc main_arg3)) (m ((c : Thread nD τ).loc main_arg4))
    (⟨(y 0).val, (y 0).isLt⟩ : Fin 16) (⟨(y 1).val, (y 1).isLt⟩ : Fin 2048) (⟨(y 2).val, (y 2).isLt⟩ : Fin 1024)

theorem shared_block (c : Dev nD) (t : Fin cfg0.N) (r : Fin 256) (x : Fin 1024) (h : 256 * (t.val % 8) + r.val < 2048) (h' : t.val / 8 < 16) :
    (iblk m c 3 t : FVec Ideal S1x256x1024 .f32) (ix3 (0 : Fin 1) r x) = (m ((c : Thread nD τ).loc main_arg3) : FVec Ideal S16x2048x1024 .f32) (ix3 (⟨t.val / 8, h'⟩ : Fin 16) (⟨256 * (t.val % 8) + r.val, h⟩ : Fin 2048) x) := by
  blk_ext [iblk, V, idx t]

theorem gate_block (c : Dev nD) (t : Fin cfg0.N) (x : Fin 1024) (h' : t.val / 8 < 16) :
    (iblk m c 4 t : FVec Ideal S1x6x1024 .f32) (ix3 (0 : Fin 1) (5 : Fin 6) x) = (m ((c : Thread nD τ).loc main_arg4) : FVec Ideal S16x6144 .f32) (ix2 (⟨t.val / 8, h'⟩ : Fin 16) (⟨5120 + x.val, by omega⟩ : Fin 6144)) := by
  have e : (iblk m c 4 t : FVec Ideal S1x6x1024 .f32) (ix3 (0 : Fin 1) (5 : Fin 6) x) = (V m c main_v0 : FVec Ideal S16x6x1024 .f32) (ix3 (⟨t.val / 8, h'⟩ : Fin 16) (5 : Fin 6) x) := by
    blk_ext [iblk, idx t]
  rw [e, gates]
  rfl

theorem weight_block (c : Dev nD) (t : Fin cfg0.N) (R : Fin 1024) (k : Fin 8) (h : 1024 * t.val + R.val < 131072) :
    (iblk m c 2 t : FVec Ideal S1024x8 .f32) (ix2 R k) = (m ((c : Thread nD τ).loc main_arg2) : FVec Ideal S64x8x512 .f32)
      (ix3 (⟨(1024 * t.val + R.val) / 4 / 512, by omega⟩ : Fin 64) k (⟨(1024 * t.val + R.val) / 4 % 512, by omega⟩ : Fin 512)) := by
  have e : (iblk m c 2 t : FVec Ideal S1024x8 .f32) (ix2 R k) = (V m c main_v4 : FVec Ideal S131072x8 .f32) (ix2 (⟨1024 * t.val + R.val, h⟩ : Fin 131072) k) := by
    blk_ext [iblk, idx t]
  rw [e, weights]

/-- One accumulator, in the tokens' own coordinates. -/
theorem total_at (c : Dev nD) (t : Fin cfg0.N) (p : ℕ) (r : Fin 256) (x : Fin 1024) (hp : p * 16 = if x.val < 512 then 0 else 16) (hR : 4 * r.val + x.val % 512 / 128 < 1024) (hT : 256 * t.val + r.val < 32768) :
    (total p (t.val % 2) (iblk m c 2 t) (land (YS m c) (tabOf (DD m c) t.val)) (ix2 (⟨4 * r.val + x.val % 512 / 128, hR⟩ : Fin 1024) (⟨x.val % 128, by omega⟩ : Fin 128)) : EReal)
      = rowsAt (DD m c) (YS m c) (m ((c : Thread nD τ).loc main_arg2)) ⟨256 * t.val + r.val, hT⟩ x := by
  have ht : t.val < 128 := (idx t).2.2.2.2.2.2
  unfold total rowsAt
  rw [sum8_ideal, ← hp]
  refine Finset.sum_congr rfl fun k _ => ?_
  have e1 := weight_block m c t ⟨4 * r.val + x.val % 512 / 128, hR⟩ k (by show 1024 * t.val + (4 * r.val + x.val % 512 / 128) < 131072; omega)
  have e2 : land (YS m c) (tabOf (DD m c) t.val) (ix4 (⟨t.val % 2 % 2, Nat.mod_lt _ (by decide)⟩ : Fin 2) k (⟨4 * r.val + x.val % 512 / 128, hR⟩ : Fin 1024) (⟨x.val % 128, by omega⟩ : Fin 128))
      = wordAt (DD m c) (YS m c) ⟨256 * t.val + r.val, hT⟩ k x := by
    have hk := k.isLt
    have e3 : tabOf (DD m c) t.val (8 * ((4 * r.val + x.val % 512 / 128) / 4) + k.val)
        = (DD m c (ix3 (⟨(256 * t.val + r.val) / 512, by omega⟩ : Fin 64) k (⟨(256 * t.val + r.val) % 512, by omega⟩ : Fin 512))).toNat := by
      unfold tabOf
      congr 2
      funext a
      match a with
      | ⟨0, _⟩ => exact Fin.ext (by show t.val / 2 % 64 = (256 * t.val + r.val) / 512; omega)
      | ⟨1, _⟩ => exact Fin.ext (by show (8 * ((4 * r.val + x.val % 512 / 128) / 4) + k.val) % 8 = k.val; omega)
      | ⟨2, _⟩ => exact Fin.ext (by show (256 * (t.val % 2) + (8 * ((4 * r.val + x.val % 512 / 128) / 4) + k.val) / 8) % 512 = (256 * t.val + r.val) % 512; omega)
    unfold land wordAt
    refine congrArg (YS m c) (congrArg₂ ix2 (Fin.ext ?_) rfl)
    show (tabOf (DD m c) t.val (8 * ((4 * r.val + x.val % 512 / 128) / 4) + k.val) + (4 * r.val + x.val % 512 / 128) % 4) % 1572864 = _
    rw [e3]
    show (_ + (4 * r.val + x.val % 512 / 128) % 4) % 1572864 = (_ + x.val % 512 / 128) % 1572864
    congr 2
    omega
  refine congrArg₂ (fun a b : EReal => a * b) (e1.trans ?_) (congrArg (fun w : BitVec 32 => Ideal.ofBits .bf16 (w.extractLsb' (p * 16) 16)) e2)
  refine congrArg _ (congrArg₂ (fun a b => ix3 a k b) (Fin.ext ?_) (Fin.ext ?_))
  · show (1024 * t.val + (4 * r.val + x.val % 512 / 128)) / 4 / 512 = (256 * t.val + r.val) / 512
    omega
  · show (1024 * t.val + (4 * r.val + x.val % 512 / 128)) / 4 % 512 = (256 * t.val + r.val) % 512
    omega

theorem block_at (c : Dev nD) (t : Fin cfg0.N) (r : Fin 256) (x : Fin 1024) (h : 256 * (t.val % 8) + r.val < 2048) (h' : t.val / 8 < 16) :
    (blockAt m c t (ix3 (0 : Fin 1) r x) : EReal) = resultAt (DD m c) (YS m c) (m ((c : Thread nD τ).loc main_arg2)) (m ((c : Thread nD τ).loc main_arg3)) (m ((c : Thread nD τ).loc main_arg4))
      ⟨t.val / 8, h'⟩ ⟨256 * (t.val % 8) + r.val, h⟩ x := by
  have ht : t.val < 128 := (idx t).2.2.2.2.2.2
  have hR : 4 * r.val + x.val % 512 / 128 < 1024 := by omega
  have hT : 256 * t.val + r.val < 32768 := by omega
  have eT : 2048 * (t.val / 8) + (256 * (t.val % 8) + r.val) = 256 * t.val + r.val := by omega
  have key : ((if x.val < 512 then total 0 (t.val % 2) (iblk m c 2 t) (land (YS m c) (tabOf (DD m c) t.val)) else total 1 (t.val % 2) (iblk m c 2 t) (land (YS m c) (tabOf (DD m c) t.val)))
      (ix2 (⟨4 * r.val + x.val % 512 / 128, hR⟩ : Fin 1024) (⟨x.val % 128, by omega⟩ : Fin 128)) : EReal)
      = rowsAt (DD m c) (YS m c) (m ((c : Thread nD τ).loc main_arg2)) ⟨2048 * (t.val / 8) + (256 * (t.val % 8) + r.val), by omega⟩ x := by
    simp only [eT]
    by_cases hx : x.val < 512
    · rw [if_pos hx]
      exact total_at m c t 0 r x (by rw [if_pos hx]) hR hT
    · rw [if_neg hx]
      exact total_at m c t 1 r x (by rw [if_neg hx]) hR hT
  exact congrArg₂ (fun a b : EReal => a + b) (shared_block m c t r x h h') (congrArg₂ (fun a b : EReal => a * b) (gate_block m c t x h') key)

theorem final (c : Dev nD) : (dats m 0 c).arrAt 5 (cfgs 0).N = kernelAt m c := by
  refine (dats m 0 c).arrAt_eq_of_covers 5 _ (by decide +kernel) fun t _ y => ?_
  have ht : t.val < 128 := (idx t).2.2.2.2.2.2
  blk_simp
  rw [after_5]
  have h1 : (y 1).val < 256 := (y 1).isLt
  have h2 : (y 2).val < 1024 := (y 2).isLt
  have ey : y = ix3 (0 : Fin 1) (⟨(y 1).val, h1⟩ : Fin 256) (⟨(y 2).val, h2⟩ : Fin 1024) := by
    funext a
    match a with
    | ⟨0, _⟩ => exact Fin.ext (by have : (y 0).val < 1 := (y 0).isLt; show (y 0).val = 0; omega)
    | ⟨1, _⟩ => rfl
    | ⟨2, _⟩ => rfl
  have eo : ∀ a, ((((win0_5.blk t).view.emb y) a : Fin _) : ℕ) = win0_5.index t a * S1x256x1024.size a + (y a).val := by
    intro a; blk_simp
  have e0 := eo 0
  have e1 := eo 1
  have e2 := eo 2
  rw [(idx t).2.2.2.2.2.1] at e0 e1 e2
  have e0' : (((win0_5.blk t).view.emb y 0 : Fin _) : ℕ) = t.val / 8 := e0.trans (by have : (y 0).val < 1 := (y 0).isLt; show t.val / 8 * 1 + (y 0).val = _; omega)
  have e1' : (((win0_5.blk t).view.emb y 1 : Fin _) : ℕ) = 256 * (t.val % 8) + (y 1).val := e1.trans (by show t.val % 8 * 256 + (y 1).val = _; omega)
  have e2' : (((win0_5.blk t).view.emb y 2 : Fin _) : ℕ) = (y 2).val := e2.trans (by show 0 * 1024 + (y 2).val = _; omega)
  refine (congrArg (blockAt m c t) ey).trans ((block_at m c t ⟨(y 1).val, h1⟩ ⟨(y 2).val, h2⟩ (by show 256 * (t.val % 8) + (y 1).val < 2048; omega) (by omega)).trans ?_)
  unfold kernelAt
  congr 1
  · exact Fin.ext e0'.symm
  · exact Fin.ext e1'.symm
  · exact Fin.ext e2'.symm

end Cert.KernelIdeal.Hand

end
-- ==== Proof.Plain.lean ====
/-
  What the reference leaves in its result, cell by cell.
-/
module

public import proofs.«01_k».proof.Proof.Value
public import proofs.«01_k».proof.Proof.Range
public import proofs.«01_k».proof.Proof.Gen.ReferenceIdeal
public import proofs.«01_k».proof.Proof.Gen.ReferenceIdeal.Run

@[expose] public section

set_option maxRecDepth 16384

noncomputable section

namespace Cert.KernelIdeal.Hand

open Cert.ReferenceIdeal Cert.ReferenceIdeal.Gen
open Idealize.ShloMosaic

/-! ## A sixteen-bit number read as the upper half of a word -/

theorem wide (h : BitVec 16) (w : BitVec 32) (e : w.toNat = h.toNat * 65536) : Ideal.ofBits .bf16 h = Ideal.ofBits .f32 w := by
  have hn : (h.extractLsb' 15 1) = (w.extractLsb' 31 1) := by
    apply BitVec.eq_of_toNat_eq
    simp only [BitVec.extractLsb'_toNat, Nat.shiftRight_eq_div_pow, e]
    omega
  have hx : (h.extractLsb' 7 8).toNat = (w.extractLsb' 23 8).toNat := by
    simp only [BitVec.extractLsb'_toNat, Nat.shiftRight_eq_div_pow, e]
    omega
  have hf : (w.extractLsb' 0 23).toNat = (h.extractLsb' 0 7).toNat * 65536 := by
    simp only [BitVec.extractLsb'_toNat, Nat.shiftRight_eq_div_pow, e]
    omega
  show Ideal.ieee 8 7 h = Ideal.ieee 8 23 w
  unfold Ideal.ieee
  simp only [Nat.reduceAdd]
  rw [hn, hx, hf]
  generalize (h.extractLsb' 0 7).toNat = f
  generalize (w.extractLsb' 23 8).toNat = x
  generalize (w.extractLsb' 31 1 == 1#1) = n
  have z : ∀ (k : ℤ), (2 : ℝ) ^ (k - 7) = 65536 * (2 : ℝ) ^ (k - 23) := fun k => by
    rw [show k - 7 = 16 + (k - 23) by omega, zpow_add₀ (by norm_num)]
    norm_num
  by_cases h1 : x = 2 ^ 8 - 1
  · rw [if_pos h1, if_pos h1]
    by_cases h2 : f = 0
    · rw [if_pos h2, if_pos (show f * 65536 = 0 by rw [h2, Nat.zero_mul])]
    · rw [if_neg h2, if_neg (show ¬ f * 65536 = 0 from Nat.mul_ne_zero h2 (by decide))]
  · rw [if_neg h1, if_neg h1]
    by_cases h2 : x = 0
    · rw [if_pos h2, if_pos h2]
      congr 1
      have := z (1 - (2 ^ (8 - 1) - 1))
      push_cast at this ⊢
      rw [this]
      ring
    · rw [if_neg h2, if_neg h2]
      congr 1
      have := z ((x : ℤ) - (2 ^ (8 - 1) - 1))
      push_cast at this ⊢
      rw [this]
      ring

theorem low_half (w : BitVec 32) : Ideal.ofBits .f32 (IntOp.shli .host w 16#32) = Ideal.ofBits .bf16 (w.extractLsb' 0 16) := by
  refine (wide _ _ ?_).symm
  show (w <<< (16 : ℕ)).toNat = _
  simp only [BitVec.toNat_shiftLeft, BitVec.extractLsb'_toNat, Nat.shiftLeft_eq, Nat.shiftRight_eq_div_pow]
  omega

theorem high_half (w : BitVec 32) : Ideal.ofBits .f32 (IntOp.andi w 4294901760#32) = Ideal.ofBits .bf16 (w.extractLsb' 16 16) := by
  refine (wide _ _ ?_).symm
  have e : IntOp.andi w 4294901760#32 = (w >>> (16 : ℕ)) <<< (16 : ℕ) := by
    show w &&& 4294901760#32 = _
    have hc : ∀ i : Fin 32, (4294901760#32).getLsbD i.val = decide (16 ≤ i.val) := by decide
    apply BitVec.eq_of_getLsbD_eq
    intro i hi
    rw [BitVec.getLsbD_and, hc ⟨i, hi⟩, BitVec.getLsbD_shiftLeft, BitVec.getLsbD_ushiftRight]
    by_cases h : 16 ≤ i
    · simp [h, hi, show ¬ i < 16 by omega, show 16 + (i - 16) = i by omega]
    · simp [h, show i < 16 by omega]
  rw [e]
  have := w.isLt
  simp only [BitVec.toNat_shiftLeft, BitVec.toNat_ushiftRight, BitVec.extractLsb'_toNat, Nat.shiftLeft_eq, Nat.shiftRight_eq_div_pow]
  omega

/-! ## The place of a token's choice -/

/-- The sign of a word, and the quotient by four as it is computed: the truncated one, moved down when signs differ and something is left over. -/
def signOf (v : BitVec 32) : BitVec 32 := if v = 0 then 0 else if v.msb then -1 else 1
def floorDiv (v : BitVec 32) : BitVec 32 :=
  if IntOp.andi (IntOp.cmpi .ne (signOf v) (signOf 4#32)) (IntOp.cmpi .ne (IntOp.remsi .host v 4#32) 0#32) = 1#1
  then IntOp.subi (IntOp.divsi .host v 4#32) 1#32 else IntOp.divsi .host v 4#32

theorem floorDiv_eq {v : BitVec 32} (h : v.toNat < 2 ^ 31) (h4 : 4 ∣ v.toNat) : floorDiv v = BitVec.ofNat 32 (v.toNat / 4) := by
  have hv : v.msb = false := by rw [BitVec.msb_eq_false_iff_two_mul_lt]; omega
  have hc : ¬ IntOp.SDivCorner v 4#32 := by rintro (e | ⟨-, e⟩) <;> exact absurd e (by decide)
  have ed : IntOp.divsi .host v 4#32 = BitVec.ofNat 32 (v.toNat / 4) := by
    unfold IntOp.divsi
    rw [if_neg hc, BitVec.sdiv_eq, hv, show (4#32).msb = false from by decide]
    apply BitVec.eq_of_toNat_eq
    show (v / 4#32).toNat = _
    rw [BitVec.toNat_udiv, BitVec.toNat_ofNat]; show v.toNat / 4 = v.toNat / 4 % 2 ^ 32; omega
  unfold floorDiv
  rw [remsi_four h, Nat.mod_eq_zero_of_dvd h4, ed]
  generalize IntOp.cmpi .ne (signOf v) (signOf 4#32) = b
  have : ∀ b : BitVec 1, ¬ IntOp.andi b (IntOp.cmpi .ne (BitVec.ofNat 32 0) 0#32) = 1#1 := by decide
  rw [if_neg (this b)]

/-! ## The rows taken -/

theorem take_rows {α : Type} (x : S393216x1024.Idx → α) (ix : IVec S32768x8x1 32) (a : Fin 32768) (k : Fin 8) (j : Fin 1024) :
    Host.gather gather_S393216x1024_S32768x8x1_S32768x8x1024_2_0_n_n_0_2_11024 x ix (ix3 a k j)
      = x (ix2 (⟨min (ix (ix3 a k (0 : Fin 1))).toInt.toNat (393216 - 1), by omega⟩ : Fin 393216) j) := by
  unfold Host.gather
  refine congrArg x (funext fun b => Fin.ext ?_)
  match b with
  | ⟨0, _⟩ =>
    show GatherDims.start _ (ix3 a k j) ix 0 + GatherDims.batchCoord _ (ix3 a k j) 0 + GatherDims.offCoord _ (ix3 a k j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S393216x1024_S32768x8x1_S32768x8x1024_2_0_n_n_0_2_11024.startIndexMap from List.mem_singleton.mpr rfl)]
    have hsi : ∀ q, GatherDims.siIdx gather_S393216x1024_S32768x8x1_S32768x8x1024_2_0_n_n_0_2_11024 (ix3 a k j) q = ix3 a k (0 : Fin 1) := by
      intro q
      funext b; refine Fin.ext ?_
      match b with
      | ⟨0, _⟩ => rfl
      | ⟨1, _⟩ => rfl
      | ⟨2, _⟩ => exact Nat.lt_one_iff.mp q.isLt
    rw [hsi]
    rfl
  | ⟨1, _⟩ =>
    show GatherDims.start _ (ix3 a k j) ix 1 + GatherDims.batchCoord _ (ix3 a k j) 1 + GatherDims.offCoord _ (ix3 a k j) 1 = j.val
    rw [GatherDims.batchCoord_eq_zero _ _ _ List.not_mem_nil]
    unfold GatherDims.start
    rw [dif_neg (show ¬ (1 : Fin 2) ∈ gather_S393216x1024_S32768x8x1_S32768x8x1024_2_0_n_n_0_2_11024.startIndexMap from fun h => absurd (List.mem_singleton.mp h) (by decide))]
    unfold GatherDims.offCoord
    rw [dif_pos (show (1 : Fin 2) ∈ gather_S393216x1024_S32768x8x1_S32768x8x1024_2_0_n_n_0_2_11024.sKept from (GatherDims.mem_sKept _ _).mpr ⟨fun h => absurd (List.mem_singleton.mp h) (show ¬ (1 : Fin 2) = 0 by decide), List.not_mem_nil⟩)]
    show 0 + 0 + _ = _
    simp only [Nat.zero_add]
    rfl

theorem take_at {α : Type} (x : S393216x1024.Idx → α) (ix : IVec S32768x8x1 32) (a : Fin 32768) (k : Fin 8) (j : Fin 1024) {v : BitVec 32} (h : ix (ix3 a k (0 : Fin 1)) = v) :
    Host.gather gather_S393216x1024_S32768x8x1_S32768x8x1024_2_0_n_n_0_2_11024 x ix (ix3 a k j) = x (ix2 (⟨min v.toInt.toNat (393216 - 1), by omega⟩ : Fin 393216) j) := by
  subst h
  exact take_rows x ix a k j

/-! ## The reference's own term -/

/-- The words as rows: the lower halves, then the upper ones. -/
def table (Y : IVec S1572864x128 32) : FVec Ideal S393216x1024 .f32 :=
  concatenate S393216x1024 1 [⟨S393216x512, (bitcastToFloat (F := Ideal) .f32 (Host.shli (shapeCast _ Y shapeCasts_S1572864x128_S393216x512) (broadcastInDim S393216x512 ![] bcast_S_S393216x512 (constantI S_ 32 16#32))))⟩, ⟨S393216x512, (bitcastToFloat (F := Ideal) .f32 (andi (shapeCast _ Y shapeCasts_S1572864x128_S393216x512) (broadcastInDim S393216x512 ![] bcast_S_S393216x512 (constantI S_ 32 4294901760#32))))⟩] concatenates_S393216x512_S393216x512_S393216x1024_d1

/-- The places, a token to a line. -/
def byToken (D : IVec S64x8x512 32) : IVec S32768x8 32 := shapeCast _ (transpose S64x512x8 [0, 2, 1] D transposes_S64x8x512_S64x512x8_0_2_1) shapeCasts_S64x512x8_S32768x8

def quotients (A : IVec S32768x8 32) : IVec S32768x8 32 :=
  select (andi (cmpi .ne (signi A) (broadcastInDim S32768x8 ![] bcast_S_S32768x8 (signi (id (constantI S_ 32 4#32))))) (cmpi .ne (Host.remsi A (broadcastInDim S32768x8 ![] bcast_S_S32768x8 (id (constantI S_ 32 4#32)))) (broadcastInDim S32768x8 ![] bcast_S_S32768x8 (constantI S_ 32 0#32)))) (subi (Host.divsi A (broadcastInDim S32768x8 ![] bcast_S_S32768x8 (id (constantI S_ 32 4#32)))) (broadcastInDim S32768x8 ![] bcast_S_S32768x8 (constantI S_ 32 1#32))) (Host.divsi A (broadcastInDim S32768x8 ![] bcast_S_S32768x8 (id (constantI S_ 32 4#32))))

def plain (D : IVec S64x8x512 32) (Y : IVec S1572864x128 32) (W : FVec Ideal S64x8x512 .f32) (P : FVec Ideal S16x2048x1024 .f32) (M : FVec Ideal S16x6144 .f32) : FVec Ideal S16x2048x1024 .f32 :=
  addf P (mulf (broadcastInDim S16x2048x1024 ![0, 1, 2] bcast_S16x1x1024_S16x2048x1024_0_1_2 (extractStridedSlice S16x1x1024 ![0, 0, 5120] (broadcastInDim S16x1x6144 ![0, 2] bcast_S16x6144_S16x1x6144_0_2 M) slices_S16x1x6144_S16x1x1024_0_0_5120)) (shapeCast _ (Host.reduceAdd (mulf (broadcastInDim S32768x8x1024 ![0, 1, 2] bcast_S32768x8x1_S32768x8x1024_0_1_2 (broadcastInDim S32768x8x1 ![0, 1] bcast_S32768x8_S32768x8x1_0_1 (shapeCast _ (transpose S64x512x8 [0, 2, 1] W transposes_S64x8x512_S64x512x8_0_2_1) shapeCasts_S64x512x8_S32768x8))) (Host.gather gather_S393216x1024_S32768x8x1_S32768x8x1024_2_0_n_n_0_2_11024 (table Y) (broadcastInDim S32768x8x1 ![0, 1] bcast_S32768x8_S32768x8x1_0_1 (quotients (byToken D))))) (constant S_ .f32 0x00000000#32) reducesTo_S32768x8x1024_S32768x1024_d1 h_S_) shapeCasts_S32768x1024_S16x2048x1024))

theorem quotients_at (A : IVec S32768x8 32) (a : Fin 32768) (k : Fin 8) : quotients A (ix2 a k) = floorDiv (A (ix2 a k)) := rfl

theorem byToken_at (D : IVec S64x8x512 32) (a : Fin 32768) (k : Fin 8) : byToken D (ix2 a k) = D (ix3 (⟨a.val / 512, by omega⟩ : Fin 64) k (⟨a.val % 512, by omega⟩ : Fin 512)) := by
  unfold byToken
  pointwise

theorem table_at (Y : IVec S1572864x128 32) (p : Fin 393216) (x : Fin 1024) :
    table Y (ix2 p x) = Ideal.ofBits .bf16 ((Y (ix2 (⟨4 * p.val + x.val % 512 / 128, by omega⟩ : Fin 1572864) (⟨x.val % 128, by omega⟩ : Fin 128))).extractLsb' (if x.val < 512 then 0 else 16) 16) := by
  unfold table
  pointwise
  by_cases h : x.val < 512
  · rw [dif_pos h, if_pos h, low_half]
    refine congrArg (fun w : BitVec 32 => Ideal.ofBits .bf16 (w.extractLsb' 0 16)) (congrArg Y (congrArg₂ ix2 (Fin.ext ?_) rfl))
    show p.val * 4 + x.val / 128 = 4 * p.val + x.val % 512 / 128
    omega
  · rw [dif_neg h, if_neg h, high_half]
    refine congrArg (fun w : BitVec 32 => Ideal.ofBits .bf16 (w.extractLsb' 16 16)) (congrArg Y (congrArg₂ ix2 (Fin.ext ?_) (Fin.ext ?_)))
    · show p.val * 4 + (x.val - 512) / 128 = 4 * p.val + x.val % 512 / 128
      omega
    · show (x.val - 512) % 128 = x.val % 128
      omega

theorem row_of (Y : IVec S1572864x128 32) {v : BitVec 32} (h4 : 4 ∣ v.toNat) (hle : v.toNat + 4 ≤ 1572864) (x : Fin 1024) :
    table Y (ix2 (⟨min (floorDiv v).toInt.toNat (393216 - 1), by omega⟩ : Fin 393216) x)
      = Ideal.ofBits .bf16 ((Y (ix2 (⟨(v.toNat + x.val % 512 / 128) % 1572864, Nat.mod_lt _ (by decide)⟩ : Fin 1572864) (⟨x.val % 128, by omega⟩ : Fin 128))).extractLsb' (if x.val < 512 then 0 else 16) 16) := by
  rw [table_at]
  have hq : (BitVec.ofNat 32 (v.toNat / 4)).toNat = v.toNat / 4 := by rw [BitVec.toNat_ofNat]; omega
  have hi : (BitVec.ofNat 32 (v.toNat / 4)).toInt.toNat = v.toNat / 4 := by
    rw [WordCmp.toInt_eq_toNat_of_lt_half (by omega), hq]; rfl
  refine congrArg (fun w : BitVec 32 => Ideal.ofBits .bf16 (w.extractLsb' (if x.val < 512 then 0 else 16) 16)) (congrArg Y (congrArg₂ ix2 (Fin.ext ?_) rfl))
  show 4 * min (floorDiv v).toInt.toNat (393216 - 1) + x.val % 512 / 128 = (v.toNat + x.val % 512 / 128) % 1572864
  rw [floorDiv_eq (by omega) h4, hi]
  omega

theorem row_at (D : IVec S64x8x512 32) (Y : IVec S1572864x128 32) (hD : Fine D) (T : Fin 32768) (k : Fin 8) (x : Fin 1024) :
    Host.gather gather_S393216x1024_S32768x8x1_S32768x8x1024_2_0_n_n_0_2_11024 (table Y) (broadcastInDim S32768x8x1 ![0, 1] bcast_S32768x8_S32768x8x1_0_1 (quotients (byToken D))) (ix3 T k x)
      = Ideal.ofBits .bf16 ((wordAt D Y T k x).extractLsb' (if x.val < 512 then 0 else 16) 16) := by
  have e : broadcastInDim S32768x8x1 ![0, 1] bcast_S32768x8_S32768x8x1_0_1 (quotients (byToken D)) (ix3 T k (0 : Fin 1)) = quotients (byToken D) (ix2 T k) := by
    generalize quotients (byToken D) = A
    pointwise
  rw [quotients_at, byToken_at] at e
  rw [take_at _ _ T k x e]
  clear e
  exact row_of Y (hD _).1 (hD _).2 x

theorem plain_at (D : IVec S64x8x512 32) (Y : IVec S1572864x128 32) (W : FVec Ideal S64x8x512 .f32) (P : FVec Ideal S16x2048x1024 .f32) (M : FVec Ideal S16x6144 .f32) (hD : Fine D)
    (b : Fin 16) (r : Fin 2048) (x : Fin 1024) : (plain D Y W P M (ix3 b r x) : EReal) = resultAt D Y W P M b r x := by
  unfold plain
  pointwise
  unfold resultAt rowsAt
  have e0 : b.val * 2048 + r.val = 2048 * b.val + r.val := by omega
  simp only [e0]
  refine congrArg (fun s : EReal => P (ix3 b r x) + M (ix2 b (⟨5120 + x.val, by omega⟩ : Fin 6144)) * s) (Finset.sum_congr rfl fun k _ => ?_)
  rw [row_at D Y hD]

theorem plain_eq (m : (ℓ : Loc Cert.KernelIdeal.nD Cert.KernelIdeal.τ Cert.KernelIdeal.sig) → Buf (Elt Ideal) ℓ) (c : Dev Cert.KernelIdeal.nD) (hD : Fine (DD m c)) :
    plain (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = kernelAt m c := by
  have ed : DD m c = m ((c.tc : Thread Cert.KernelIdeal.nD Cert.KernelIdeal.τ).loc Cert.KernelIdeal.main_arg0) := Cert.KernelIdeal.Gen.V_main_arg0 m c
  have ey : YS m c = m ((c.tc : Thread Cert.KernelIdeal.nD Cert.KernelIdeal.τ).loc Cert.KernelIdeal.main_arg1) := Cert.KernelIdeal.Gen.V_main_arg1 m c
  funext y
  unfold kernelAt
  rw [ey, ed]
  rw [ed] at hD
  have e : y = ix3 (⟨(y 0).val, (y 0).isLt⟩ : Fin 16) (⟨(y 1).val, (y 1).isLt⟩ : Fin 2048) (⟨(y 2).val, (y 2).isLt⟩ : Fin 1024) := by
    funext a
    match a with
    | ⟨0, _⟩ => rfl
    | ⟨1, _⟩ => rfl
    | ⟨2, _⟩ => rfl
  exact (congrArg _ e).trans (plain_at _ _ _ _ _ hD _ _ _)

end Cert.KernelIdeal.Hand

end
-- ==== Proof.MixRows.lean ====
/-
  What one grid point of the mixer's projections computes from the blocks it reads, entry by entry.
-/
module

public import proofs.«01_k».proof.Proof.Gen.MixerInIdeal.Skeleton
public import Idealize.ShloMosaic.Lib.Pointwise

@[expose] public section

set_option maxRecDepth 16384

noncomputable section

namespace Cert.MixerInIdeal.Hand

open Cert.MixerInIdeal Cert.MixerInIdeal.Gen
open Idealize.ShloMosaic Idealize.ShloMosaic.TcCoe

/-- A row `x` divided by its root mean square, times `g` and one plus `sc`, plus `sh`. -/
def normRow (x sh sc g : Fin 1024 → EReal) (d : Fin 1024) : EReal :=
  x d * Ideal.rsqrt (Ideal.div (∑ k : Fin 1024, x k * x k) (Ideal.ofBits .f32 0x44800000#32) + Ideal.ofBits .f32 0x358637BD#32) * g d * (1 + sc d) + sh d

theorem pay6_at (v0 v2 : FVec Ideal S1x1x1024 .f32) (v4 : FVec Ideal S1x1024 .f32) (v6 : FVec Ideal S1x512x1024 .f32) (i : Fin 512) (d : Fin 1024) :
    (k0_pay6 (F := Ideal) v0 v2 v4 v6 (ix2 i d) : EReal)
      = normRow (fun d => v6 (ix3 0 i d)) (fun d => v0 (ix3 0 0 d)) (fun d => v2 (ix3 0 0 d)) (fun d => v4 (ix2 0 d)) d := by
  pointwise [k0_pay6, k0_pay3, k0_pay4, k0_pay5, normRow]

theorem pay25_at (v0 v2 : FVec Ideal S1x1x1024 .f32) (v4 : FVec Ideal S1x1024 .f32) (x : FVec Ideal S1x8x1024 .f32) (i : Fin 8) (d : Fin 1024) :
    (k0_pay25 (F := Ideal) (k0_pay3 v0) (k0_pay4 v2) (k0_pay5 v4) x (ix2 i d) : EReal)
      = normRow (fun d => x (ix3 0 i d)) (fun d => v0 (ix3 0 0 d)) (fun d => v2 (ix3 0 0 d)) (fun d => v4 (ix2 0 d)) d := by
  pointwise [k0_pay25, k0_pay3, k0_pay4, k0_pay5, normRow]

theorem pay26_at (v0 v2 : FVec Ideal S1x1x1024 .f32) (v4 : FVec Ideal S1x1024 .f32) (x : FVec Ideal S1x8x1024 .f32) (i : Fin 8) (d : Fin 1024) :
    (k0_pay26 (F := Ideal) (k0_pay3 v0) (k0_pay4 v2) (k0_pay5 v4) x (ix2 i d) : EReal)
      = normRow (fun d => x (ix3 0 i d)) (fun d => v0 (ix3 0 0 d)) (fun d => v2 (ix3 0 0 d)) (fun d => v4 (ix2 0 d)) d := by
  pointwise [k0_pay26, k0_pay3, k0_pay4, k0_pay5, normRow]

theorem pay8_at (h : FVec Ideal S512x1024 .bf16) (w : FVec Ideal S1024x768 .bf16) (i : Fin 512) (n : Fin 768) :
    (k0_pay8 (F := Ideal) (k0_pay7 h w) (ix2 i n) : EReal) = ∑ d : Fin 1024, (h (ix2 i d) : EReal) * w (ix2 d n) := by
  pointwise [k0_pay7, k0_pay8]

theorem pay9_at (h : FVec Ideal S512x1024 .bf16) (w : FVec Ideal S1024x1536 .bf16) (i : Fin 512) (n : Fin 1536) :
    (k0_pay9 (F := Ideal) h w (ix2 i n) : EReal) = ∑ d : Fin 1024, (h (ix2 i d) : EReal) * w (ix2 d n) := by
  pointwise [k0_pay9]

theorem pay23_at (h : FVec Ideal S512x1024 .bf16) (w : FVec Ideal S1024x2048 .bf16) (i : Fin 512) (n : Fin 2048) :
    (k0_pay23 (F := Ideal) h w (ix2 i n) : EReal) = ∑ d : Fin 1024, (h (ix2 i d) : EReal) * w (ix2 d n) := by
  pointwise [k0_pay23]

theorem pay22_at (v : FVec Ideal S512x128 .f32) (i : Fin 512) (n : Fin 128) :
    (k0_pay22 (F := Ideal) v (ix3 0 i n) : EReal) = v (ix2 i n) := by
  pointwise [k0_pay22]

/-- The logistic function. -/
def sigm (x : EReal) : EReal := Ideal.div 1 (1 + Ideal.exp (-x))

theorem pay1_at (v : FVec Ideal S512x1024 .f32) (i : Fin 512) (n : Fin 1024) :
    (k0_pay1 (F := Ideal) v (ix3 0 i n) : EReal) = sigm (v (ix2 i n)) := by
  pointwise [k0_pay1, sigm]
  rfl

theorem pay2_at (cb cv : FVec Ideal S512x512 .f32) (co : FVec Ideal S512x1024 .bf16) (gc : FVec Ideal S512x1024 .f32) (i : Fin 512) (n : Fin 1024) :
    (k0_pay2 (F := Ideal) cb cv co gc (ix3 0 i n) : EReal)
      = sigm (gc (ix2 i n)) * ∑ k : Fin 512, ((cb (ix2 i k) : EReal) * cv (ix2 i k)) * co (ix2 k n) := by
  pointwise [k0_pay2, sigm]
  rfl

theorem pay24_at (a b : FVec Ideal S512x512 .f32) (i : Fin 512) (k : Fin 512) : (k0_pay24 (F := Ideal) a b (ix2 i k) : EReal) = (a (ix2 i k) : EReal) * b (ix2 i k) := by
  pointwise [k0_pay24]

/-! ## The results, entry by entry, of the arguments -/

/-- Column `n` of the input projection of row `r` of batch `b`. -/
def projAt (X : FVec Ideal S16x2048x1024 .f32) (M : FVec Ideal S16x6144 .f32) (G : FVec Ideal S1024 .f32) (W : FVec Ideal S1024x4352 .f32) (b : Fin 16) (r : Fin 2048) (n : Fin 4352) : EReal :=
  ∑ d : Fin 1024, normRow (fun d => X (ix3 b r d)) (fun d => M (ix2 b (⟨d.val, by omega⟩ : Fin 6144))) (fun d => M (ix2 b (⟨1024 + d.val, by omega⟩ : Fin 6144))) (fun d => G (ix1 d)) d * W (ix2 d n)

/-- The convolution's input: the product of two parts of the projection. -/
def prodAt (P : Fin 2048 → Fin 4352 → EReal) (r : Fin 2048) (k : Fin 512) : EReal :=
  P r ⟨1280 + k.val, by omega⟩ * P r ⟨1792 + k.val, by omega⟩

/-- A convolution of three rows, `U` being zero before the first row and after the last. -/
def convAt (C : FVec Ideal S3x512 .f32) (U : Fin 2048 → Fin 512 → EReal) (r : Fin 2048) (k : Fin 512) : EReal :=
  C (ix2 0 k) * (if h : 1 ≤ r.val then U ⟨r.val - 1, by omega⟩ k else 0) + C (ix2 1 k) * U r k + C (ix2 2 k) * (if h : r.val + 1 < 2048 then U ⟨r.val + 1, h⟩ k else 0)

/-- The gated convolution's output. -/
def gatedAt (P : Fin 2048 → Fin 4352 → EReal) (C : FVec Ideal S3x512 .f32) (O : FVec Ideal S512x1024 .f32) (r : Fin 2048) (n : Fin 1024) : EReal :=
  sigm (P r ⟨3328 + n.val, by omega⟩) * ∑ k : Fin 512, (P r ⟨768 + k.val, by omega⟩ * convAt C (prodAt P) r k) * O (ix2 k n)

/-- The convolution's rows of tile `j`: inside the tile, the row before it and the row after it, each from its own product. -/
theorem pay28_at (j : Fin 4) (u : FVec Ideal S512x512 .f32) (hp hn : FVec Ideal S8x1024 .bf16) (wp wn : FVec Ideal S1024x1024 .bf16) (w0 w1 w2 : FVec Ideal S1x512 .f32)
    (C : FVec Ideal S3x512 .f32) (U : Fin 2048 → Fin 512 → EReal) (k : Fin 512)
    (e0 : (w0 (ix2 0 k) : EReal) = C (ix2 0 k)) (e1 : (w1 (ix2 0 k) : EReal) = C (ix2 1 k)) (e2 : (w2 (ix2 0 k) : EReal) = C (ix2 2 k))
    (hu : ∀ i : Fin 512, (u (ix2 i k) : EReal) = U ⟨512 * j.val + i.val, by omega⟩ k)
    (before : ∀ h : 1 ≤ j.val, (∑ x : Fin 1024, (hp (ix2 7 x) : EReal) * wp (ix2 x (⟨k.val, by omega⟩ : Fin 1024))) * (∑ x : Fin 1024, (hp (ix2 7 x) : EReal) * wp (ix2 x (⟨512 + k.val, by omega⟩ : Fin 1024))) = U ⟨512 * j.val - 1, by omega⟩ k)
    (after : ∀ h : j.val < 3, (∑ x : Fin 1024, (hn (ix2 0 x) : EReal) * wn (ix2 x (⟨k.val, by omega⟩ : Fin 1024))) * (∑ x : Fin 1024, (hn (ix2 0 x) : EReal) * wn (ix2 x (⟨512 + k.val, by omega⟩ : Fin 1024))) = U ⟨512 * j.val + 512, by omega⟩ k)
    (i : Fin 512) :
    (k0_pay28 (F := Ideal) (BitVec.ofNat 32 j.val) u hp hn (k0_pay27 wp) wn w0 w1 w2 (ix2 i k) : EReal) = convAt C U ⟨512 * j.val + i.val, by omega⟩ k := by
  pointwise [k0_pay28, k0_pay27, convAt]
  have g0 : IntOp.cmpi CmpIPredicate.eq (BitVec.ofNat 32 i.val) 0#32 = if i.val = 0 then 1#1 else 0#1 := by
    revert i; decide +kernel
  have g1 : IntOp.cmpi CmpIPredicate.eq (BitVec.ofNat 32 i.val) 511#32 = if i.val = 511 then 1#1 else 0#1 := by
    revert i; decide +kernel
  have g2 : Scalar.cmpi CmpIPredicate.sgt (BitVec.ofNat 32 j.val) 0#32 = if 1 ≤ j.val then 1#1 else 0#1 := by
    clear hu before after; revert j; decide +kernel
  have g3 : Scalar.cmpi CmpIPredicate.slt (BitVec.ofNat 32 j.val) 3#32 = if j.val < 3 then 1#1 else 0#1 := by
    clear hu before after; revert j; decide +kernel
  rw [g0, g1, g2, g3, e0, e1, e2, hu i]
  have one : ∀ a b : EReal, Scalar.select 1#1 a b = a := fun _ _ => rfl
  have zero : ∀ a b : EReal, Scalar.select 0#1 a b = b := fun _ _ => rfl
  congr 1
  · congr 2
    by_cases h : i.val = 0
    · rw [if_pos h, one]
      by_cases h' : 1 ≤ j.val
      · rw [if_pos h', one, dif_pos (show 1 ≤ 512 * j.val + i.val by omega), before h']
        exact congrArg (U · k) (Fin.ext (show 512 * j.val - 1 = 512 * j.val + i.val - 1 by omega))
      · rw [if_neg h', zero, dif_neg (show ¬ 1 ≤ 512 * j.val + i.val by omega)]
    · rw [if_neg h, zero, hu, dif_pos (show 1 ≤ 512 * j.val + i.val by omega)]
      exact congrArg (U · k) (Fin.ext (show 512 * j.val + (i.val + 512 - 1) % 512 = 512 * j.val + i.val - 1 by omega))
  · congr 1
    by_cases h : i.val = 511
    · rw [if_pos h, one]
      by_cases h' : j.val < 3
      · rw [if_pos h', one, dif_pos (show 512 * j.val + i.val + 1 < 2048 by omega), after h']
        exact congrArg (U · k) (Fin.ext (show 512 * j.val + 512 = 512 * j.val + i.val + 1 by omega))
      · rw [if_neg h', zero, dif_neg (show ¬ 512 * j.val + i.val + 1 < 2048 by omega)]
    · rw [if_neg h, zero, hu, dif_pos (show 512 * j.val + i.val + 1 < 2048 by omega)]
      exact congrArg (U · k) (Fin.ext (show 512 * j.val + (i.val + 512 - 511) % 512 = 512 * j.val + i.val + 1 by omega))

end Cert.MixerInIdeal.Hand

end
-- ==== Proof.MixValue.lean ====
/-
  What the mixer's projections leave in their results, entry by entry.
-/
module

public import proofs.«01_k».proof.Proof.MixRows
public import proofs.«01_k».proof.Proof.Gen.MixerInIdeal.Frame
public import Idealize.ShloMosaic.Lib.Pipeline.ValueKit
public import Idealize.ShloMosaic.Lib.Claim
public import Idealize.ShloMosaic.Lib.Pipeline.ReadBack

@[expose] public section

set_option maxRecDepth 16384

noncomputable section

namespace Cert.MixerInIdeal.Hand

open Cert.MixerInIdeal Cert.MixerInIdeal.Gen
open Idealize.ShloMosaic Idealize.ShloMosaic.TcCoe Idealize.SL.Sem
open Idealize.ShloMosaic.Pipeline (Dat)

theorem idx : ∀ t : Fin cfg0.N, win0_0.index t = ![t.val / 4, t.val % 4, 0] ∧ win0_1.index t = ![t.val / 4, 64 * (t.val % 4) - 1, 0] ∧ win0_2.index t = ![t.val / 4, min (64 * (t.val % 4 + 1)) 255, 0]
    ∧ win0_3.index t = ![t.val / 4, 0, 0] ∧ win0_4.index t = ![0, 0] ∧ win0_5.index t = ![0, 0] ∧ win0_10.index t = ![0, 0] ∧ win0_11.index t = ![0, 0]
    ∧ win0_14.index t = ![t.val / 4, t.val % 4, 0] ∧ win0_15.index t = ![t.val / 4, t.val % 4, 0] ∧ win0_16.index t = ![t.val / 4, t.val % 4, 0]
    ∧ (grid0.coords t 1).val = t.val % 4 ∧ t.val < 64 :=
  (by decide +kernel : ∀ t : Fin grid0.N, _)

variable (m : (ℓ : Loc nD τ sig) → Buf (Elt Ideal) ℓ)

theorem mods (c : Dev nD) (b : Fin 16) (s : Fin 6) (d : Fin 1024) : (V m c main_v0 : FVec Ideal S16x6x1024 .f32) (ix3 b s d)
    = (m ((c : Thread nD τ).loc main_arg1) : FVec Ideal S16x6144 .f32) (ix2 b (⟨1024 * s.val + d.val, by omega⟩ : Fin 6144)) := by
  entry_read
  pointwise
  blk_ext

theorem gains (c : Dev nD) (d : Fin 1024) : (V m c main_v1 : FVec Ideal S1x1024 .f32) (ix2 0 d)
    = (m ((c : Thread nD τ).loc main_arg2) : FVec Ideal S1024 .f32) (ix1 d) := by
  entry_read
  pointwise

theorem weights (c : Dev nD) (d : Fin 1024) (n : Fin 4352) : ((V m c main_v2 : FVec Ideal S1024x4352 .bf16) (ix2 d n) : EReal)
    = (m ((c : Thread nD τ).loc main_arg3) : FVec Ideal S1024x4352 .f32) (ix2 d n) := by
  entry_read
  pointwise

theorem outw (c : Dev nD) (d : Fin 512) (n : Fin 1024) : ((V m c main_v11 : FVec Ideal S512x1024 .bf16) (ix2 d n) : EReal)
    = (m ((c : Thread nD τ).loc main_arg9) : FVec Ideal S512x1024 .f32) (ix2 d n) := by
  entry_read
  pointwise

/-- The input projection of the arguments. -/
def proj (c : Dev nD) (b : Fin 16) (r : Fin 2048) (n : Fin 4352) : EReal :=
  projAt (m ((c : Thread nD τ).loc main_arg0)) (m ((c : Thread nD τ).loc main_arg1)) (m ((c : Thread nD τ).loc main_arg2)) (m ((c : Thread nD τ).loc main_arg3)) b r n

/-- The values. -/
def valuesOf (c : Dev nD) : S16x2048x128.Idx → Elt Ideal .bf16 := fun y =>
  proj m c (⟨(y 0).val, (y 0).isLt⟩ : Fin 16) (⟨(y 1).val, (y 1).isLt⟩ : Fin 2048) (⟨640 + (y 2).val, Nat.add_lt_of_lt_sub' (Nat.lt_of_lt_of_le (y 2).isLt (show 128 ≤ 4352 - 640 by decide))⟩ : Fin 4352)

/-- The attention's gate. -/
def gatesOf (c : Dev nD) : S16x2048x1024.Idx → Elt Ideal .bf16 := fun y =>
  sigm (proj m c (⟨(y 0).val, (y 0).isLt⟩ : Fin 16) (⟨(y 1).val, (y 1).isLt⟩ : Fin 2048) (⟨2304 + (y 2).val, Nat.add_lt_of_lt_sub' (Nat.lt_of_lt_of_le (y 2).isLt (show 1024 ≤ 4352 - 2304 by decide))⟩ : Fin 4352))

/-- The gated convolution. -/
def convsOf (c : Dev nD) : S16x2048x1024.Idx → Elt Ideal .bf16 := fun y =>
  gatedAt (proj m c (⟨(y 0).val, (y 0).isLt⟩ : Fin 16)) (m ((c : Thread nD τ).loc main_arg8)) (m ((c : Thread nD τ).loc main_arg9)) (⟨(y 1).val, (y 1).isLt⟩ : Fin 2048) (⟨(y 2).val, (y 2).isLt⟩ : Fin 1024)

/-! ## The blocks of a grid point -/

/-- Row `r` of batch `b` as it enters the projection. -/
def rowOf (c : Dev nD) (b : Fin 16) (r : Fin 2048) (d : Fin 1024) : EReal :=
  normRow (fun d => (m ((c : Thread nD τ).loc main_arg0) : FVec Ideal S16x2048x1024 .f32) (ix3 b r d))
    (fun d => (m ((c : Thread nD τ).loc main_arg1) : FVec Ideal S16x6144 .f32) (ix2 b (⟨d.val, by omega⟩ : Fin 6144)))
    (fun d => (m ((c : Thread nD τ).loc main_arg1) : FVec Ideal S16x6144 .f32) (ix2 b (⟨1024 + d.val, by omega⟩ : Fin 6144)))
    (fun d => (m ((c : Thread nD τ).loc main_arg2) : FVec Ideal S1024 .f32) (ix1 d)) d

/-- The batch and the tile of grid point `t`. -/
def batch (t : Fin cfg0.N) : Fin 16 := ⟨t.val / 4, by have := (idx t).2.2.2.2.2.2.2.2.2.2.2.2; omega⟩
def tile (t : Fin cfg0.N) : Fin 4 := ⟨t.val % 4, by omega⟩

/-- The row of the batch that is row `i` of the tile. -/
def rowIn (t : Fin cfg0.N) (i : Fin 512) : Fin 2048 := ⟨512 * (tile t).val + i.val, by have := (tile t).isLt; omega⟩

theorem mods_block (c : Dev nD) (t : Fin cfg0.N) (s : Fin 6) (d : Fin 1024) : (iblk m c 3 t : FVec Ideal S1x6x1024 .f32) (ix3 0 s d)
    = (m ((c : Thread nD τ).loc main_arg1) : FVec Ideal S16x6144 .f32) (ix2 (batch t) (⟨1024 * s.val + d.val, by omega⟩ : Fin 6144)) := by
  refine Eq.trans ?_ (mods m c (batch t) s d)
  blk_ext [iblk, V, idx t, batch]

theorem gains_block (c : Dev nD) (t : Fin cfg0.N) (d : Fin 1024) : (iblk m c 4 t : FVec Ideal S1x1024 .f32) (ix2 0 d)
    = (m ((c : Thread nD τ).loc main_arg2) : FVec Ideal S1024 .f32) (ix1 d) := by
  refine Eq.trans ?_ (gains m c d)
  blk_ext [iblk, V, idx t]

theorem weights_block (c : Dev nD) (t : Fin cfg0.N) (d : Fin 1024) (n : Fin 4352) : ((iblk m c 5 t : FVec Ideal S1024x4352 .bf16) (ix2 d n) : EReal)
    = (m ((c : Thread nD τ).loc main_arg3) : FVec Ideal S1024x4352 .f32) (ix2 d n) := by
  refine Eq.trans ?_ (weights m c d n)
  blk_ext [iblk, V, idx t]

theorem outw_block (c : Dev nD) (t : Fin cfg0.N) (d : Fin 512) (n : Fin 1024) : ((iblk m c 11 t : FVec Ideal S512x1024 .bf16) (ix2 d n) : EReal)
    = (m ((c : Thread nD τ).loc main_arg9) : FVec Ideal S512x1024 .f32) (ix2 d n) := by
  refine Eq.trans ?_ (outw m c d n)
  blk_ext [iblk, V, idx t]

theorem taps_block (c : Dev nD) (t : Fin cfg0.N) (s : Fin 3) (k : Fin 512) : (iblk m c 10 t : FVec Ideal S3x512 .f32) (ix2 s k)
    = (m ((c : Thread nD τ).loc main_arg8) : FVec Ideal S3x512 .f32) (ix2 s k) := by
  blk_ext [iblk, V, idx t]

theorem rows_block (c : Dev nD) (t : Fin cfg0.N) (i : Fin 512) (d : Fin 1024) : (iblk m c 0 t : FVec Ideal S1x512x1024 .f32) (ix3 0 i d)
    = (m ((c : Thread nD τ).loc main_arg0) : FVec Ideal S16x2048x1024 .f32) (ix3 (batch t) (⟨512 * (tile t).val + i.val, by have := (tile t).isLt; omega⟩ : Fin 2048) d) := by
  blk_ext [iblk, V, idx t, batch, tile]

/-- The row before the tile's first is the last of the eight that are read there. -/
theorem before_block (c : Dev nD) (t : Fin cfg0.N) (h : 1 ≤ (tile t).val) (d : Fin 1024) : (iblk m c 1 t : FVec Ideal S1x8x1024 .f32) (ix3 0 7 d)
    = (m ((c : Thread nD τ).loc main_arg0) : FVec Ideal S16x2048x1024 .f32) (ix3 (batch t) (⟨512 * (tile t).val - 1, by have := (tile t).isLt; omega⟩ : Fin 2048) d) := by
  have h' : 1 ≤ t.val % 4 := h
  blk_ext [iblk, V, idx t, batch, tile]

/-- The row after the tile's last is the first of the eight that are read there. -/
theorem after_block (c : Dev nD) (t : Fin cfg0.N) (h : (tile t).val < 3) (d : Fin 1024) : (iblk m c 2 t : FVec Ideal S1x8x1024 .f32) (ix3 0 0 d)
    = (m ((c : Thread nD τ).loc main_arg0) : FVec Ideal S16x2048x1024 .f32) (ix3 (batch t) (⟨512 * (tile t).val + 512, by omega⟩ : Fin 2048) d) := by
  have h' : t.val % 4 < 3 := h
  blk_ext [iblk, V, idx t, batch, tile]

/-- The first two rows of the modulation. -/
structure Mods (c : Dev nD) (t : Fin cfg0.N) (v0 v2 : FVec Ideal S1x1x1024 .f32) : Prop where
  shift : ∀ d : Fin 1024, v0 (ix3 0 0 d) = (iblk m c 3 t : FVec Ideal S1x6x1024 .f32) (ix3 0 0 d)
  scale : ∀ d : Fin 1024, v2 (ix3 0 0 d) = (iblk m c 3 t : FVec Ideal S1x6x1024 .f32) (ix3 0 1 d)

theorem normRow_congr {x x' sh sh' sc sc' g g' : Fin 1024 → EReal} (hx : ∀ d, x d = x' d) (hs : ∀ d, sh d = sh' d) (hc : ∀ d, sc d = sc' d) (hg : ∀ d, g d = g' d) (d : Fin 1024) :
    normRow x sh sc g d = normRow x' sh' sc' g' d := by
  rw [funext hx, funext hs, funext hc, funext hg]

theorem row_of (c : Dev nD) (t : Fin cfg0.N) (v0 v2 : FVec Ideal S1x1x1024 .f32) (hv : Mods m c t v0 v2) (r : Fin 2048) (x : Fin 1024 → EReal)
    (hx : ∀ d, x d = (m ((c : Thread nD τ).loc main_arg0) : FVec Ideal S16x2048x1024 .f32) (ix3 (batch t) r d)) (d : Fin 1024) :
    normRow x (fun d => v0 (ix3 0 0 d)) (fun d => v2 (ix3 0 0 d)) (fun d => (iblk m c 4 t : FVec Ideal S1x1024 .f32) (ix2 0 d)) d = rowOf m c (batch t) r d := by
  refine normRow_congr hx (fun d => (hv.shift d).trans ((mods_block m c t 0 d).trans ?_)) (fun d => (hv.scale d).trans ((mods_block m c t 1 d).trans ?_)) (fun d => gains_block m c t d) d
  · exact congrArg (fun n => (m ((c : Thread nD τ).loc main_arg1) : FVec Ideal S16x6144 .f32) (ix2 (batch t) n)) (Fin.ext (by show 1024 * 0 + d.val = d.val; omega))
  · exact congrArg (fun n => (m ((c : Thread nD τ).loc main_arg1) : FVec Ideal S16x6144 .f32) (ix2 (batch t) n)) (Fin.ext (by show 1024 * 1 + d.val = 1024 + d.val; omega))

/-- A row's product with a column of the weights is the projection's entry. -/
theorem proj_of (c : Dev nD) (b : Fin 16) (r : Fin 2048) (n : Fin 4352) (h w : Fin 1024 → EReal) (hh : ∀ d, h d = rowOf m c b r d)
    (hw : ∀ d, w d = (m ((c : Thread nD τ).loc main_arg3) : FVec Ideal S1024x4352 .f32) (ix2 d n)) : ∑ d : Fin 1024, h d * w d = proj m c b r n := by
  rw [funext hh, funext hw]
  rfl

theorem main_row (c : Dev nD) (t : Fin cfg0.N) (v0 v2 : FVec Ideal S1x1x1024 .f32) (hv : Mods m c t v0 v2) (i : Fin 512) (d : Fin 1024) :
    (k0_pay6 (F := Ideal) v0 v2 (iblk m c 4 t) (iblk m c 0 t) (ix2 i d) : EReal)
      = rowOf m c (batch t) (⟨512 * (tile t).val + i.val, by have := (tile t).isLt; omega⟩ : Fin 2048) d :=
  (pay6_at v0 v2 _ _ i d).trans (row_of m c t v0 v2 hv _ _ (fun d => rows_block m c t i d) d)

theorem before_row (c : Dev nD) (t : Fin cfg0.N) (v0 v2 : FVec Ideal S1x1x1024 .f32) (hv : Mods m c t v0 v2) (h : 1 ≤ (tile t).val) (d : Fin 1024) :
    (k0_pay25 (F := Ideal) (k0_pay3 v0) (k0_pay4 v2) (k0_pay5 (iblk m c 4 t)) (iblk m c 1 t) (ix2 7 d) : EReal)
      = rowOf m c (batch t) (⟨512 * (tile t).val - 1, by have := (tile t).isLt; omega⟩ : Fin 2048) d :=
  (pay25_at v0 v2 _ _ 7 d).trans (row_of m c t v0 v2 hv _ _ (fun d => before_block m c t h d) d)

theorem after_row (c : Dev nD) (t : Fin cfg0.N) (v0 v2 : FVec Ideal S1x1x1024 .f32) (hv : Mods m c t v0 v2) (h : (tile t).val < 3) (d : Fin 1024) :
    (k0_pay26 (F := Ideal) (k0_pay3 v0) (k0_pay4 v2) (k0_pay5 (iblk m c 4 t)) (iblk m c 2 t) (ix2 0 d) : EReal)
      = rowOf m c (batch t) (⟨512 * (tile t).val + 512, by omega⟩ : Fin 2048) d :=
  (pay26_at v0 v2 _ _ 0 d).trans (row_of m c t v0 v2 hv _ _ (fun d => after_block m c t h d) d)

/-- `w` is the weights' columns from `o` on. -/
def Cols (c : Dev nD) {N : ℕ} (w : (⟨2, ![1024, N]⟩ : Shape).Idx → EReal) (o : ℕ) : Prop :=
  ∀ (d : Fin 1024) (n : Fin N) (h : o + n.val < 4352), w (ix2 d n) = (m ((c : Thread nD τ).loc main_arg3) : FVec Ideal S1024x4352 .f32) (ix2 d (⟨o + n.val, h⟩ : Fin 4352))

theorem first_cols (c : Dev nD) (t : Fin cfg0.N) (v0 v2 : FVec Ideal S1x1x1024 .f32) (hv : Mods m c t v0 v2) (w : FVec Ideal S1024x768 .bf16) (o : ℕ) (ho : o + 768 ≤ 4352) (hw : Cols m c w o) (i : Fin 512) (n : Fin 768) :
    (k0_pay8 (F := Ideal) (k0_pay7 (k0_pay6 v0 v2 (iblk m c 4 t) (iblk m c 0 t)) w) (ix2 i n) : EReal) = proj m c (batch t) (rowIn t i) (⟨o + n.val, by omega⟩ : Fin 4352) :=
  (pay8_at _ w i n).trans (proj_of m c _ _ _ _ _ (fun d => main_row m c t v0 v2 hv i d) (fun d => hw d n _))

theorem conv_cols (c : Dev nD) (t : Fin cfg0.N) (v0 v2 : FVec Ideal S1x1x1024 .f32) (hv : Mods m c t v0 v2) (w : FVec Ideal S1024x1536 .bf16) (o : ℕ) (ho : o + 1536 ≤ 4352) (hw : Cols m c w o) (i : Fin 512) (n : Fin 1536) :
    (k0_pay9 (F := Ideal) (k0_pay6 v0 v2 (iblk m c 4 t) (iblk m c 0 t)) w (ix2 i n) : EReal) = proj m c (batch t) (rowIn t i) (⟨o + n.val, by omega⟩ : Fin 4352) :=
  (pay9_at _ w i n).trans (proj_of m c _ _ _ _ _ (fun d => main_row m c t v0 v2 hv i d) (fun d => hw d n _))

theorem gate_cols (c : Dev nD) (t : Fin cfg0.N) (v0 v2 : FVec Ideal S1x1x1024 .f32) (hv : Mods m c t v0 v2) (w : FVec Ideal S1024x2048 .bf16) (o : ℕ) (ho : o + 2048 ≤ 4352) (hw : Cols m c w o) (i : Fin 512) (n : Fin 2048) :
    (k0_pay23 (F := Ideal) (k0_pay6 v0 v2 (iblk m c 4 t) (iblk m c 0 t)) w (ix2 i n) : EReal) = proj m c (batch t) (rowIn t i) (⟨o + n.val, by omega⟩ : Fin 4352) :=
  (pay23_at _ w i n).trans (proj_of m c _ _ _ _ _ (fun d => main_row m c t v0 v2 hv i d) (fun d => hw d n _))

/-- The gated convolution of a tile, its parts given entry by entry. -/
theorem conv_of (c : Dev nD) (t : Fin cfg0.N) (v0 v2 : FVec Ideal S1x1x1024 .f32) (hv : Mods m c t v0 v2) (cb a b : FVec Ideal S512x512 .f32) (gc : FVec Ideal S512x1024 .f32)
    (wp : FVec Ideal S1024x1024 .bf16) (hw : Cols m c wp 1280) (w0 w1 w2 : FVec Ideal S1x512 .f32)
    (e0 : ∀ k, w0 (ix2 0 k) = (iblk m c 10 t : FVec Ideal S3x512 .f32) (ix2 0 k)) (e1 : ∀ k, w1 (ix2 0 k) = (iblk m c 10 t : FVec Ideal S3x512 .f32) (ix2 1 k)) (e2 : ∀ k, w2 (ix2 0 k) = (iblk m c 10 t : FVec Ideal S3x512 .f32) (ix2 2 k))
    (hcb : ∀ (i : Fin 512) (k : Fin 512), (cb (ix2 i k) : EReal) = proj m c (batch t) (rowIn t i) (⟨768 + k.val, by omega⟩ : Fin 4352))
    (ha : ∀ (i : Fin 512) (k : Fin 512), (a (ix2 i k) : EReal) = proj m c (batch t) (rowIn t i) (⟨1280 + k.val, by omega⟩ : Fin 4352))
    (hb : ∀ (i : Fin 512) (k : Fin 512), (b (ix2 i k) : EReal) = proj m c (batch t) (rowIn t i) (⟨1792 + k.val, by omega⟩ : Fin 4352))
    (hgc : ∀ (i : Fin 512) (n : Fin 1024), (gc (ix2 i n) : EReal) = proj m c (batch t) (rowIn t i) (⟨3328 + n.val, by omega⟩ : Fin 4352))
    (i : Fin 512) (n : Fin 1024) :
    (k0_pay2 (F := Ideal) cb (k0_pay28 (BitVec.ofNat 32 (tile t).val) (k0_pay24 a b) (k0_pay25 (k0_pay3 v0) (k0_pay4 v2) (k0_pay5 (iblk m c 4 t)) (iblk m c 1 t))
        (k0_pay26 (k0_pay3 v0) (k0_pay4 v2) (k0_pay5 (iblk m c 4 t)) (iblk m c 2 t)) (k0_pay27 wp) wp w0 w1 w2) (iblk m c 11 t) gc (ix3 0 i n) : EReal)
      = gatedAt (proj m c (batch t)) (m ((c : Thread nD τ).loc main_arg8)) (m ((c : Thread nD τ).loc main_arg9)) (rowIn t i) n := by
  refine (pay2_at _ _ _ _ i n).trans (congrArg₂ (fun a b : EReal => a * b) (congrArg sigm (hgc i n)) (Finset.sum_congr rfl fun k _ => ?_))
  refine congrArg₂ (fun a b : EReal => a * b) (congrArg₂ (fun a b : EReal => a * b) (hcb i k) ?_) (outw_block m c t k n)
  have col : ∀ (e : ℕ) (he : e + k.val < 1024) (q : Fin 4352) (hq : q.val = 1280 + (e + k.val)) (d : Fin 1024), (wp (ix2 d (⟨e + k.val, he⟩ : Fin 1024)) : EReal) = (m ((c : Thread nD τ).loc main_arg3) : FVec Ideal S1024x4352 .f32) (ix2 d q) := by
    intro e he q hq d
    refine (hw d ⟨e + k.val, he⟩ (by show 1280 + (e + k.val) < 4352; omega)).trans ?_
    exact congrArg (fun n => (m ((c : Thread nD τ).loc main_arg3) : FVec Ideal S1024x4352 .f32) (ix2 d n)) (Fin.ext hq.symm)
  have col0 : ∀ (q : Fin 4352) (hq : q.val = 1280 + k.val) (d : Fin 1024), (wp (ix2 d (⟨k.val, by omega⟩ : Fin 1024)) : EReal) = (m ((c : Thread nD τ).loc main_arg3) : FVec Ideal S1024x4352 .f32) (ix2 d q) := by
    intro q hq d
    refine (hw d ⟨k.val, by omega⟩ (by show 1280 + k.val < 4352; omega)).trans ?_
    exact congrArg (fun n => (m ((c : Thread nD τ).loc main_arg3) : FVec Ideal S1024x4352 .f32) (ix2 d n)) (Fin.ext hq.symm)
  refine pay28_at (tile t) _ _ _ _ _ _ _ _ _ (prodAt (proj m c (batch t))) k ((e0 k).trans (taps_block m c t 0 k)) ((e1 k).trans (taps_block m c t 1 k)) ((e2 k).trans (taps_block m c t 2 k))
    (fun i => (pay24_at a b i k).trans (congrArg₂ (fun a b : EReal => a * b) (ha i k) (hb i k))) (fun h => ?_) (fun h => ?_) i
  · refine congrArg₂ (fun a b : EReal => a * b) (proj_of m c (batch t) _ _ _ _ (fun d => before_row m c t v0 v2 hv h d) (col0 _ rfl)) (proj_of m c (batch t) _ _ _ _ (fun d => before_row m c t v0 v2 hv h d) (col 512 _ _ ?_))
    show 1792 + k.val = 1280 + (512 + k.val)
    omega
  · refine congrArg₂ (fun a b : EReal => a * b) (proj_of m c (batch t) _ _ _ _ (fun d => after_row m c t v0 v2 hv h d) (col0 _ rfl)) (proj_of m c (batch t) _ _ _ _ (fun d => after_row m c t v0 v2 hv h d) (col 512 _ _ ?_))
    show 1792 + k.val = 1280 + (512 + k.val)
    omega

end Cert.MixerInIdeal.Hand

end
-- ==== Proof.MixPlain.lean ====
/-
  What the mixer's reference leaves in its results, entry by entry.
-/
module

public import proofs.«01_k».proof.Proof.MixRows
public import proofs.«01_k».proof.Proof.Gen.MixerIdeal
public import Idealize.ShloMosaic.Lib.Pointwise

@[expose] public section

set_option maxRecDepth 16384

noncomputable section

namespace Cert.MixerInIdeal.Hand

open Cert.MixerIdeal Cert.MixerIdeal.Gen
open Idealize.ShloMosaic

/-- The reference's normed rows. -/
def rowsR (X : FVec Ideal S16x2048x1024 .f32) (M : FVec Ideal S16x6144 .f32) (G : FVec Ideal S1024 .f32) : FVec Ideal S16x2048x1024 .f32 :=
  (addf (mulf (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 1024] (broadcastInDim S16x1x6144 ![0, 2] bcast_S16x6144_S16x1x6144_0_2 M) slices_S16x1x6144_S16x1x1024_0_0_1024)))) (broadcastInDim S16x2048x1024 ![0, 1, 2] bcast_S16x1x1024_S16x2048x1024_0_1_2 (extractStridedSlice S16x1x1024 ![0, 0, 0] (broadcastInDim S16x1x6144 ![0, 2] bcast_S16x6144_S16x1x6144_0_2 M) slices_S16x1x6144_S16x1x1024_0_0_0)))

/-- The reference's input projection. -/
def projR (X : FVec Ideal S16x2048x1024 .f32) (M : FVec Ideal S16x6144 .f32) (G : FVec Ideal S1024 .f32) (W : FVec Ideal S1024x4352 .f32) : FVec Ideal S16x2048x4352 .f32 :=
  Host.dotGeneral dot_S16x2048x1024_S1024x4352_S16x2048x4352_2_0_01_1_n_n none (rowsR X M G) W

/-- The reference's product in front of the convolution. -/
def prodR (P : FVec Ideal S16x2048x4352 .f32) : FVec Ideal S16x2048x512 .f32 :=
  mulf (extractStridedSlice S16x2048x512 ![0, 0, 1280] P slices_S16x2048x4352_S16x2048x512_0_0_1280) (extractStridedSlice S16x2048x512 ![0, 0, 1792] P slices_S16x2048x4352_S16x2048x512_0_0_1792)

/-- The reference's gated convolution. -/
def gatedR (P : FVec Ideal S16x2048x4352 .f32) (U : FVec Ideal S16x2048x512 .f32) (C : FVec Ideal S3x512 .f32) (O : FVec Ideal S512x1024 .f32) : FVec Ideal S16x2048x1024 .bf16 :=
  truncf .bf16 (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 3328] P slices_S16x2048x4352_S16x2048x1024_0_0_3328))))) (Host.dotGeneral dot_S16x2048x512_S512x1024_S16x2048x1024_2_0_01_1_n_n none (mulf (extractStridedSlice S16x2048x512 ![0, 0, 768] P slices_S16x2048x4352_S16x2048x512_0_0_768) (addf (addf (mulf (broadcastInDim S16x2048x512 ![0, 1, 2] bcast_S1x1x512_S16x2048x512_0_1_2 (broadcastInDim S1x1x512 ![2] bcast_S512_S1x1x512_2 (shapeCast _ (extractStridedSlice S1x512 ![0, 0] C slices_S3x512_S1x512_0_0) shapeCasts_S1x512_S512))) (extractStridedSlice S16x2048x512 ![0, 0, 0] (pad S16x2049x512 ![0, 1, 0] ![0, 0, 0] ![0, 0, 0] U (sitofp .f32 (constantI S_ 32 0#32)) pads_S16x2048x512_S16x2049x512_000_100_000 h_S_) slices_S16x2049x512_S16x2048x512_0_0_0)) (mulf (broadcastInDim S16x2048x512 ![0, 1, 2] bcast_S1x1x512_S16x2048x512_0_1_2 (broadcastInDim S1x1x512 ![2] bcast_S512_S1x1x512_2 (shapeCast _ (extractStridedSlice S1x512 ![1, 0] C slices_S3x512_S1x512_1_0) shapeCasts_S1x512_S512))) U)) (mulf (broadcastInDim S16x2048x512 ![0, 1, 2] bcast_S1x1x512_S16x2048x512_0_1_2 (broadcastInDim S1x1x512 ![2] bcast_S512_S1x1x512_2 (shapeCast _ (extractStridedSlice S1x512 ![2, 0] C slices_S3x512_S1x512_2_0) shapeCasts_S1x512_S512))) (extractStridedSlice S16x2048x512 ![0, 1, 0] (pad S16x2049x512 ![0, 0, 0] ![0, 1, 0] ![0, 0, 0] U (sitofp .f32 (constantI S_ 32 0#32)) pads_S16x2048x512_S16x2049x512_000_010_000 h_S_) slices_S16x2049x512_S16x2048x512_0_1_0)))) O)) bitsLt_bf16_f32

/-- The reference's gate. -/
def gateR (P : FVec Ideal S16x2048x4352 .f32) : FVec Ideal S16x2048x1024 .bf16 :=
  truncf .bf16 (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 2304] P slices_S16x2048x4352_S16x2048x1024_0_0_2304))))) bitsLt_bf16_f32

/-- The reference's values. -/
def valueR (P : FVec Ideal S16x2048x4352 .f32) : FVec Ideal S16x2048x128 .bf16 :=
  truncf .bf16 (extractStridedSlice S16x2048x128 ![0, 0, 640] P slices_S16x2048x4352_S16x2048x128_0_0_640) bitsLt_bf16_f32

variable (X : FVec Ideal S16x2048x1024 .f32) (M : FVec Ideal S16x6144 .f32) (G : FVec Ideal S1024 .f32) (W : FVec Ideal S1024x4352 .f32)

theorem projR_at (b : Fin 16) (r : Fin 2048) (n : Fin 4352) : (projR X M G W (ix3 b r n) : EReal) = projAt X M G W b r n := by
  pointwise [projR, rowsR, projAt, normRow]

variable (P : FVec Ideal S16x2048x4352 .f32)

theorem valueR_at (b : Fin 16) (r : Fin 2048) (n : Fin 128) : (valueR P (ix3 b r n) : EReal) = P (ix3 b r (⟨640 + n.val, by omega⟩ : Fin 4352)) := by
  pointwise [valueR]

theorem gateR_at (b : Fin 16) (r : Fin 2048) (n : Fin 1024) : (gateR P (ix3 b r n) : EReal) = sigm (P (ix3 b r (⟨2304 + n.val, by omega⟩ : Fin 4352))) := by
  pointwise [gateR, sigm]

theorem prodR_at (b : Fin 16) (r : Fin 2048) (k : Fin 512) : (prodR P (ix3 b r k) : EReal) = prodAt (fun r n => P (ix3 b r n)) r k := by
  pointwise [prodR, prodAt]

theorem gatedR_at (C : FVec Ideal S3x512 .f32) (O : FVec Ideal S512x1024 .f32) (b : Fin 16) (r : Fin 2048) (n : Fin 1024) :
    (gatedR P (prodR P) C O (ix3 b r n) : EReal) = gatedAt (fun r n => P (ix3 b r n)) C O r n := by
  pointwise [gatedR, gatedAt, sigm, convAt]
  have z : (FloatOps.sitofp (F := Ideal) FTy.f32 (0#32) : EReal) = 0 := by
    show (((0#32 : BitVec 32).toInt : ℝ) : EReal) = 0
    simp
  refine congrArg _ (Finset.sum_congr rfl fun k _ => congrArg (· * (O (ix2 k n) : EReal)) (congrArg (_ * ·) ?_))
  refine congrArg₂ (fun a c : EReal => a + c) (congrArg₂ (fun a c : EReal => a + c) (congrArg (_ * ·) ?_) (congrArg (_ * ·) (prodR_at P b r k))) (congrArg (_ * ·) ?_)
  · by_cases h : 1 ≤ r.val
    · rw [dif_pos (show 1 ≤ r.val ∧ r.val - 1 < 2048 from ⟨h, by omega⟩), dif_pos h]
      exact prodR_at P b _ k
    · rw [dif_neg (fun h' => h h'.1), dif_neg h, z]
  · by_cases h : r.val + 1 < 2048
    · rw [dif_pos (show 1 + r.val < 2048 by omega), dif_pos h]
      exact (prodR_at P b _ k).trans (congrArg (prodAt (fun r n => P (ix3 b r n)) · k) (Fin.ext (Nat.add_comm 1 r.val)))
    · rw [dif_neg (show ¬ 1 + r.val < 2048 by omega), dif_neg h, z]

end Cert.MixerInIdeal.Hand

end
-- ==== Proof.MixFinal.lean ====
/-
  What the mixer's projections leave in their results, entry by entry.
-/
module

public import proofs.«01_k».proof.Proof.MixValue
public import proofs.«01_k».proof.Proof.MixPlain
public import proofs.«01_k».proof.Proof.Gen.MixerInIdeal.Frame
public import Idealize.ShloMosaic.Lib.Pipeline.ValueKit
public import Idealize.ShloMosaic.Lib.Claim
public import Idealize.ShloMosaic.Lib.Pipeline.ReadBack

@[expose] public section

set_option maxRecDepth 16384

noncomputable section

namespace Cert.MixerInIdeal.Hand

open Cert.MixerInIdeal Cert.MixerInIdeal.Gen
open Idealize.ShloMosaic Idealize.ShloMosaic.TcCoe Idealize.SL.Sem
open Idealize.ShloMosaic.Pipeline (Dat)

variable (m : (ℓ : Loc nD τ sig) → Buf (Elt Ideal) ℓ)

/-- An index of a tile's block, by its row and its column. -/
theorem block_idx {n : ℕ} (y : (⟨3, ![1, 512, n]⟩ : Shape).Idx) : y = ix3 (0 : Fin 1) (⟨(y 1).val, (y 1).isLt⟩ : Fin 512) (⟨(y 2).val, (y 2).isLt⟩ : Fin n) := by
  funext a
  match a with
  | ⟨0, _⟩ => exact Fin.ext (by have : (y 0).val < 1 := (y 0).isLt; show (y 0).val = 0; omega)
  | ⟨1, _⟩ => rfl
  | ⟨2, _⟩ => rfl

/-- Where a block's entry lies in the result. -/
theorem placed {n : ℕ} (t : Fin cfg0.N) (y : (⟨3, ![1, 512, n]⟩ : Shape).Idx) (z : (⟨3, ![16, 2048, n]⟩ : Shape).Idx)
    (h : ∀ a : Fin 3, (z a).val = (![t.val / 4, t.val % 4, 0] : Fin 3 → ℕ) a * (![1, 512, n] : Fin 3 → ℕ) a + (y a).val) :
    batch t = (⟨(z 0).val, (z 0).isLt⟩ : Fin 16) ∧ rowIn t (⟨(y 1).val, (y 1).isLt⟩ : Fin 512) = (⟨(z 1).val, (z 1).isLt⟩ : Fin 2048) ∧ (y 2).val = (z 2).val := by
  refine ⟨Fin.ext ((h 0).trans ?_).symm, Fin.ext ((h 1).trans ?_).symm, ((h 2).trans ?_).symm⟩
  · have : (y 0).val < 1 := (y 0).isLt
    show t.val / 4 * 1 + (y 0).val = t.val / 4
    omega
  · show t.val % 4 * 512 + (y 1).val = 512 * (t.val % 4) + (y 1).val
    omega
  · show 0 * n + (y 2).val = (y 2).val
    omega

theorem final14 (c : Dev nD) : (dats m 0 c).arrAt 14 (cfgs 0).N = valuesOf m c := by
  refine (dats m 0 c).arrAt_eq_of_covers 14 _ (by decide +kernel) fun t _ y => ?_
  blk_simp
  obtain ⟨p0, p1, p2⟩ := placed t y ((win0_14.blk t).view.emb y) (fun a => by rw [← (idx t).2.2.2.2.2.2.2.2.1]; blk_simp)
  rw [after0_14]; unfold outsAt0; dsimp only; frame_out
  rw [View.readCov_fill (h := by decide)]
  refine (congrArg _ (block_idx y)).trans ((pay22_at _ _ _).trans ?_)
  pointwise
  refine (first_cols m c t _ _ ⟨fun d => by pointwise, fun d => by pointwise⟩ _ 0 (by decide) (fun d n _ => by pointwise; exact weights_block m c t d _) _ _).trans ?_
  show proj m c (batch t) (rowIn t _) _ = proj m c _ _ _
  exact congr (congrArg₂ (proj m c) p0 p1) (Fin.ext (by show 0 + (640 + (y 2).val) = 640 + _; rw [p2]; exact Nat.zero_add _))

theorem final16 (c : Dev nD) : (dats m 0 c).arrAt 16 (cfgs 0).N = gatesOf m c := by
  refine (dats m 0 c).arrAt_eq_of_covers 16 _ (by decide +kernel) fun t _ y => ?_
  blk_simp
  obtain ⟨p0, p1, p2⟩ := placed t y ((win0_16.blk t).view.emb y) (fun a => by rw [← (idx t).2.2.2.2.2.2.2.2.2.2.1]; blk_simp)
  rw [after0_16]; unfold outsAt0; dsimp only; frame_out
  rw [View.readCov_fill (h := by decide)]
  refine (congrArg _ (block_idx y)).trans ((pay1_at _ _ _).trans (congrArg sigm ?_))
  pointwise
  refine (gate_cols m c t _ _ ⟨fun d => by pointwise, fun d => by pointwise⟩ _ 2304 (by decide) (fun d n _ => by pointwise; exact weights_block m c t d _) _ ⟨(y 2).val, by have : (y 2).val < 1024 := (y 2).isLt; omega⟩).trans ?_
  show proj m c (batch t) (rowIn t _) _ = proj m c _ _ _
  exact congr (congrArg₂ (proj m c) p0 p1) (Fin.ext (by show 2304 + (y 2).val = 2304 + _; rw [p2]))

theorem final15 (c : Dev nD) : (dats m 0 c).arrAt 15 (cfgs 0).N = convsOf m c := by
  refine (dats m 0 c).arrAt_eq_of_covers 15 _ (by decide +kernel) fun t _ y => ?_
  blk_simp
  obtain ⟨p0, p1, p2⟩ := placed t y ((win0_15.blk t).view.emb y) (fun a => by rw [← (idx t).2.2.2.2.2.2.2.2.2.1]; blk_simp)
  rw [after0_15]; unfold outsAt0; dsimp only; frame_out
  repeat rw [View.readCov_fill (h := by decide)]
  rw [show (grid0.coords t 1).val = (tile t).val from (idx t).2.2.2.2.2.2.2.2.2.2.2.1]
  refine (congrArg _ (block_idx y)).trans ((conv_of m c t _ _ ⟨fun d => by pointwise, fun d => by pointwise⟩ _ _ _ _ _ (fun d n _ => by pointwise; exact weights_block m c t d _) _ _ _ (fun k => by pointwise) (fun k => by pointwise) (fun k => by pointwise) (fun i k => ?_) (fun i k => ?_) (fun i k => ?_) (fun i n => ?_) _ _).trans ?_)
  · pointwise
    refine (conv_cols m c t _ _ ⟨fun d => by pointwise, fun d => by pointwise⟩ _ 768 (by decide) (fun d n _ => by pointwise; exact weights_block m c t d _) i ⟨k.val, by omega⟩).trans (congrArg _ (Fin.ext ?_))
    show 768 + (k.val) = 768 + k.val
    omega
  · pointwise
    refine (conv_cols m c t _ _ ⟨fun d => by pointwise, fun d => by pointwise⟩ _ 768 (by decide) (fun d n _ => by pointwise; exact weights_block m c t d _) i ⟨512 + k.val, by omega⟩).trans (congrArg _ (Fin.ext ?_))
    show 768 + (512 + k.val) = 1280 + k.val
    omega
  · pointwise
    refine (conv_cols m c t _ _ ⟨fun d => by pointwise, fun d => by pointwise⟩ _ 768 (by decide) (fun d n _ => by pointwise; exact weights_block m c t d _) i ⟨1024 + k.val, by omega⟩).trans (congrArg _ (Fin.ext ?_))
    show 768 + (1024 + k.val) = 1792 + k.val
    omega
  · pointwise
    refine (gate_cols m c t _ _ ⟨fun d => by pointwise, fun d => by pointwise⟩ _ 2304 (by decide) (fun d n _ => by pointwise; exact weights_block m c t d _) i ⟨1024 + n.val, by omega⟩).trans (congrArg _ (Fin.ext ?_))
    show 2304 + (1024 + n.val) = 3328 + n.val
    omega
  · show gatedAt (proj m c (batch t)) _ _ (rowIn t _) _ = gatedAt (proj m c _) _ _ _ _
    rw [p0, p1]
    exact congrArg _ (Fin.ext p2)

/-! ## The reference's results are the same -/

/-- The projection of the arguments, as an array. -/
def projOf (c : Dev nD) : FVec Ideal Cert.MixerIdeal.S16x2048x4352 .f32 :=
  projR (m ((c : Thread nD τ).loc main_arg0)) (m ((c : Thread nD τ).loc main_arg1)) (m ((c : Thread nD τ).loc main_arg2)) (m ((c : Thread nD τ).loc main_arg3))

theorem projOf_at (c : Dev nD) (b : Fin 16) (r : Fin 2048) (n : Fin 4352) : (projOf m c (ix3 b r n) : EReal) = proj m c b r n := projR_at _ _ _ _ b r n

/-- An index of an array of rank three, by its coordinates. -/
theorem idx_eq {p q n : ℕ} (y : (⟨3, ![p, q, n]⟩ : Shape).Idx) : y = ix3 (⟨(y 0).val, (y 0).isLt⟩ : Fin p) (⟨(y 1).val, (y 1).isLt⟩ : Fin q) (⟨(y 2).val, (y 2).isLt⟩ : Fin n) := by
  funext a
  match a with
  | ⟨0, _⟩ => rfl
  | ⟨1, _⟩ => rfl
  | ⟨2, _⟩ => rfl

theorem values_eq (c : Dev nD) : valueR (projOf m c) = valuesOf m c := by
  funext y
  refine (congrArg _ (idx_eq y)).trans ((valueR_at _ _ _ _).trans (projOf_at m c _ _ _))

theorem gates_eq (c : Dev nD) : gateR (projOf m c) = gatesOf m c := by
  funext y
  refine (congrArg _ (idx_eq y)).trans ((gateR_at _ _ _ _).trans (congrArg sigm (projOf_at m c _ _ _)))

theorem convs_eq (c : Dev nD) : gatedR (projOf m c) (prodR (projOf m c)) (m ((c : Thread nD τ).loc main_arg8)) (m ((c : Thread nD τ).loc main_arg9)) = convsOf m c := by
  funext y
  refine (congrArg _ (idx_eq y)).trans ((gatedR_at _ _ _ _ _ _).trans ?_)
  rw [show (fun r n => projOf m c (ix3 _ r n)) = proj m c _ from funext fun r => funext fun n => projOf_at m c _ r n]
  rfl

end Cert.MixerInIdeal.Hand

end
-- ==== Proof.AttnRows.lean ====
/-
  One head's attention over a tile's rows, entry by entry.
-/
module

public import proofs.«01_k».proof.Proof.Gen.AttentionIdeal.Skeleton
public import Idealize.ShloMosaic.Lib.Pointwise

@[expose] public section

set_option maxRecDepth 16384

noncomputable section

namespace Cert.AttentionIdeal.Hand

open Cert.AttentionIdeal Cert.AttentionIdeal.Gen
open Idealize.ShloMosaic

/-- The scores of one query against all keys. -/
def scoreAt (q : Fin 64 → EReal) (K : Fin 64 → Fin 2048 → EReal) (k : Fin 2048) : EReal := ∑ d : Fin 64, q d * K d k

/-- The largest of the scores, from the word of minus infinity on. -/
def topOf (s : Fin 2048 → EReal) : EReal := Finset.univ.fold max (Ideal.ofBits .f32 0xFF800000#32) s

/-- A key's weight: the power of two of its score's distance from the largest. -/
def weightAt (s : Fin 2048 → EReal) (k : Fin 2048) : EReal := Ideal.exp2 (s k - topOf s)

/-- The mean of the values under the weights. -/
def meanAt (s v : Fin 2048 → EReal) : EReal := Ideal.div (∑ k : Fin 2048, weightAt s k * v k) (∑ k : Fin 2048, weightAt s k)

/-- A head over 128 rows: the scores, the weights and the mean of the group's values. -/
def headOf (q : Vec Ideal S1x128x64 .bf16) (K : Vec Ideal S1x64x2048 .bf16) (v : Vec Ideal S1x2048x128 .bf16) (w : BitVec 1) : FVec Ideal S128x64 .f32 :=
  k0_pay17 (k0_pay9 (k0_pay7 (k0_pay5 q K))) w (k0_pay15 (k0_pay8 (k0_pay5 q K)) v) (k0_pay16 (k0_pay8 (k0_pay5 q K)) v)

theorem scores_at (q : Vec Ideal S1x128x64 .bf16) (K : Vec Ideal S1x64x2048 .bf16) (i : Fin 128) (k : Fin 2048) :
    (k0_pay5 q K (ix3 (0 : Fin 1) i k) : EReal) = scoreAt (fun d => q (ix3 (0 : Fin 1) i d)) (fun d k => K (ix3 (0 : Fin 1) d k)) k := by
  pointwise [k0_pay5, scoreAt]

theorem weights_at (s : Vec Ideal S1x128x2048 .f32) (i : Fin 128) (k : Fin 2048) :
    (k0_pay7 s (ix2 i k) : EReal) = weightAt (fun k => s (ix3 (0 : Fin 1) i k)) k := by
  pointwise [k0_pay7, weightAt, topOf]
  rfl

theorem head_at (q : Vec Ideal S1x128x64 .bf16) (K : Vec Ideal S1x64x2048 .bf16) (v : Vec Ideal S1x2048x128 .bf16) (w : BitVec 1) (i : Fin 128) (d : Fin 64) :
    (headOf q K v w (ix2 i d) : EReal) = meanAt (scoreAt (fun d => q (ix3 (0 : Fin 1) i d)) (fun d k => K (ix3 (0 : Fin 1) d k)))
      (fun k => if w = 1#1 then v (ix3 (0 : Fin 1) k (⟨d.val, by omega⟩ : Fin 128)) else v (ix3 (0 : Fin 1) k (⟨64 + d.val, by omega⟩ : Fin 128))) := by
  have hs : (fun k => k0_pay5 q K (ix3 (0 : Fin 1) i k)) = scoreAt (fun d => q (ix3 (0 : Fin 1) i d)) (fun d k => K (ix3 (0 : Fin 1) d k)) := funext fun k => scores_at q K i k
  pointwise [headOf, k0_pay17, k0_pay9, k0_pay15, k0_pay16, k0_pay14, k0_pay8, meanAt]
  have hw : ∀ k : Fin 2048, (k0_pay7 (k0_pay5 q K) (ix2 i k) : EReal) = weightAt (scoreAt (fun d => q (ix3 (0 : Fin 1) i d)) (fun d k => K (ix3 (0 : Fin 1) d k))) k :=
    fun k => (weights_at (k0_pay5 q K) i k).trans (congrArg (weightAt · k) hs)
  refine congrArg₂ Ideal.div ?_ (Finset.sum_congr rfl fun k _ => hw k)
  by_cases h : w = 1#1
  · refine Eq.trans (if_pos h) (Finset.sum_congr rfl fun k _ => congrArg₂ (fun a b : EReal => a * b) (hw k) (if_pos h).symm)
  · refine Eq.trans (if_neg h) (Finset.sum_congr rfl fun k _ => congrArg₂ (fun a b : EReal => a * b) (hw k) (if_neg h).symm)

/-- A head over the 128 rows from row `o` on and the 64 columns from column `n` on. -/
def headIn (x : Vec Ideal S1x512x256 .bf16) (K : Vec Ideal S1x64x2048 .bf16) (v : Vec Ideal S1x2048x128 .bf16) (w : BitVec 1) (o n : ℕ) (h : ∀ a, (![0, o, n] : Fin 3 → ℕ) a + (![1, 128, 64] : Fin 3 → ℕ) a ≤ S1x512x256.size a) : FVec Ideal S128x64 .f32 :=
  headOf (View.ld x (Rect.unit ![0, o, n] ![1, 128, 64] h)) K v w

/-- The entry of a tile's result in row `r` and column `n`. -/
def tileAt (x : Vec Ideal S1x512x256 .bf16) (K : Vec Ideal S1x64x2048 .bf16) (v : Vec Ideal S1x2048x128 .bf16) (w : BitVec 1) (r : Fin 512) (n : Fin 256) : EReal :=
  meanAt (scoreAt (fun d => x (ix3 (0 : Fin 1) r (⟨n.val / 64 * 64 + d.val, by omega⟩ : Fin 256))) (fun d k => K (ix3 (0 : Fin 1) d k)))
    (fun k => if w = 1#1 then v (ix3 (0 : Fin 1) k (⟨n.val % 64, by omega⟩ : Fin 128)) else v (ix3 (0 : Fin 1) k (⟨64 + n.val % 64, by omega⟩ : Fin 128)))

theorem headIn_at (x : Vec Ideal S1x512x256 .bf16) (K : Vec Ideal S1x64x2048 .bf16) (v : Vec Ideal S1x2048x128 .bf16) (w : BitVec 1) (o : ℕ) (j : Fin 4) (ho : o + 128 ≤ 512) (h) (i : Fin 128) (d : Fin 64) :
    (headIn x K v w o (64 * j.val) h (ix2 i d) : EReal) = tileAt x K v w ⟨o + i.val, by omega⟩ ⟨64 * j.val + d.val, by omega⟩ := by
  refine (head_at _ _ _ _ i d).trans ?_
  have e1 : (64 * j.val + d.val) / 64 = j.val := by omega
  have e2 : (64 * j.val + d.val) % 64 = d.val := by omega
  unfold tileAt
  simp only [e1, e2]
  refine congrArg (fun q : Fin 64 → EReal => meanAt (scoreAt q _) _) (funext fun e => ?_)
  pointwise
  exact congrArg (fun n : Fin 256 => (x (ix3 (0 : Fin 1) (⟨o + i.val, by omega⟩ : Fin 512) n) : EReal)) (Fin.ext (by show 64 * j.val + e.val = j.val * 64 + e.val; omega))

theorem joined_at (h0 h1 h2 h3 : FVec Ideal S128x64 .f32) (i : Fin 128) (n : Fin 256) (z : EReal)
    (e0 : ∀ d : Fin 64, n.val = d.val → h0 (ix2 i d) = z) (e1 : ∀ d : Fin 64, n.val = 64 + d.val → h1 (ix2 i d) = z)
    (e2 : ∀ d : Fin 64, n.val = 128 + d.val → h2 (ix2 i d) = z) (e3 : ∀ d : Fin 64, n.val = 192 + d.val → h3 (ix2 i d) = z) :
    (k0_pay1 h0 h1 h2 h3 (ix3 (0 : Fin 1) i n) : EReal) = z := by
  pointwise [k0_pay1]
  by_cases a0 : n.val < 64
  · rw [dif_pos a0]
    exact e0 _ rfl
  rw [dif_neg a0]
  by_cases a1 : n.val - 64 < 64
  · rw [dif_pos a1]
    exact e1 _ (by show n.val = 64 + (n.val - 64); omega)
  rw [dif_neg a1]
  by_cases a2 : n.val - 64 - 64 < 64
  · rw [dif_pos a2]
    exact e2 _ (by show n.val = 128 + (n.val - 64 - 64); omega)
  rw [dif_neg a2]
  exact e3 _ (by show n.val = 192 + (n.val - 64 - 64 - 64); omega)

/-- The four heads of a group over the 128 rows from row `o` on, side by side. -/
def rowsFrom (x : Vec Ideal S1x512x256 .bf16) (K : Vec Ideal S1x64x2048 .bf16) (v : Vec Ideal S1x2048x128 .bf16) (w : BitVec 1) (o : ℕ)
    (h : ∀ j : Fin 4, ∀ a, (![0, o, 64 * j.val] : Fin 3 → ℕ) a + (![1, 128, 64] : Fin 3 → ℕ) a ≤ S1x512x256.size a) : FVec Ideal S1x128x256 .bf16 :=
  k0_pay1 (headIn x K v w o 0 (h 0)) (headIn x K v w o 64 (h 1)) (headIn x K v w o 128 (h 2)) (headIn x K v w o 192 (h 3))

theorem rowsFrom_at (x : Vec Ideal S1x512x256 .bf16) (K : Vec Ideal S1x64x2048 .bf16) (v : Vec Ideal S1x2048x128 .bf16) (w : BitVec 1) (o : ℕ) (ho : o + 128 ≤ 512) (h) (i : Fin 128) (n : Fin 256) :
    (rowsFrom x K v w o h (ix3 (0 : Fin 1) i n) : EReal) = tileAt x K v w ⟨o + i.val, by omega⟩ n := by
  have column : ∀ (j : Fin 4) (d : Fin 64), n.val = 64 * j.val + d.val → (headIn x K v w o (64 * j.val) (h j) (ix2 i d) : EReal) = tileAt x K v w ⟨o + i.val, by omega⟩ n :=
    fun j d e => (headIn_at x K v w o j ho (h j) i d).trans (congrArg _ (Fin.ext e.symm))
  exact joined_at _ _ _ _ i n _ (fun d e => column 0 d (by show n.val = 64 * 0 + d.val; omega)) (column 1) (column 2) (column 3)

end Cert.AttentionIdeal.Hand

end
-- ==== Proof.AttnPlain.lean ====
/-
  What the attention's reference leaves in its result, entry by entry.
-/
module

public import proofs.«01_k».proof.Proof.AttnRows
public import proofs.«01_k».proof.Proof.Gen.SoftmaxIdeal
public import Idealize.ShloMosaic.Lib.Pointwise

@[expose] public section

set_option maxRecDepth 16384

noncomputable section

namespace Cert.AttentionIdeal.Hand

open Cert.SoftmaxIdeal Cert.SoftmaxIdeal.Gen
open Idealize.ShloMosaic

/-- The reference's scores: every head's queries against its group's keys. -/
def scoresR (Q : FVec Ideal S16x2048x512 .bf16) (K : FVec Ideal S16x128x2048 .bf16) : FVec Ideal S16x2x4x2048x2048 .f32 :=
  transpose S16x2x4x2048x2048 [0, 1, 4, 3, 2] (Host.dotGeneral dot_S16x2x64x2048_S16x2048x2x4x64_S16x2x2048x2048x4_2_4_3_13_01_02 none (shapeCast _ (extf .f32 K bitsLt_bf16_f32) shapeCasts_S16x128x2048_S16x2x64x2048) (shapeCast _ (extf .f32 Q bitsLt_bf16_f32) shapeCasts_S16x2048x512_S16x2048x2x4x64)) transposes_S16x2x2048x2048x4_S16x2x4x2048x2048_0_1_4_3_2

/-- The reference's weights of given scores. -/
def weightsR (S : FVec Ideal S16x2x4x2048x2048 .f32) : FVec Ideal S16x2x4x2048x2048 .f32 :=
  Host.powf (broadcastInDim S16x2x4x2048x2048 ![] bcast_S_S16x2x4x2048x2048 (constant S_ .f32 0x40000000#32)) (subf S (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (Host.reduce FloatOps.maximumf S (constant S_ .f32 0xFF800000#32) reducesTo_S16x2x4x2048x2048_S16x2x4x2048_d4 h_S_))))

/-- The reference's means of the values under given weights. -/
def meansR (E : FVec Ideal S16x2x4x2048x2048 .f32) (V : FVec Ideal S16x2048x128 .bf16) : FVec Ideal S16x2x4x2048x64 .f32 :=
  Host.divf (Host.dotGeneral dot_S16x2x4x2048x2048_S16x2048x2x64_S16x2x4x2048x64_4_1_23_3_01_02 none E (shapeCast _ (extf .f32 V bitsLt_bf16_f32) shapeCasts_S16x2048x128_S16x2048x2x64)) (broadcastInDim S16x2x4x2048x64 ![0, 1, 2, 3, 4] bcast_S16x2x4x2048x1_S16x2x4x2048x64_0_1_2_3_4 (broadcastInDim S16x2x4x2048x1 ![0, 1, 2, 3] bcast_S16x2x4x2048_S16x2x4x2048x1_0_1_2_3 (Host.reduceAdd E (constant S_ .f32 0x00000000#32) reducesTo_S16x2x4x2048x2048_S16x2x4x2048_d4 h_S_)))

/-- The reference's result of given means: the heads of a row side by side. -/
def mergedR (O : FVec Ideal S16x2x4x2048x64 .f32) : FVec Ideal S16x2048x512 .bf16 :=
  truncf .bf16 (shapeCast _ (transpose S16x2048x2x4x64 [0, 3, 1, 2, 4] O transposes_S16x2x4x2048x64_S16x2048x2x4x64_0_3_1_2_4) shapeCasts_S16x2048x2x4x64_S16x2048x512) bitsLt_bf16_f32

/-- The host's power of two is the kernel's. -/
theorem pow_two (x : EReal) : Ideal.pow (Ideal.ofBits .f32 0x40000000#32) x = Ideal.exp2 x := by
  have two : Ideal.ofBits .f32 0x40000000#32 = ((2 : ℝ) : EReal) := by
    simp [Ideal.ofBits, Ideal.ieee]
    rw [← EReal.coe_mul]
    norm_num
  rw [two]
  induction x using EReal.rec with
  | bot => rw [Ideal.pow_coe_bot, if_neg (by norm_num), if_pos (by norm_num), Ideal.exp2_bot]
  | top => rw [Ideal.pow_coe_top, if_neg (by norm_num), if_pos (by norm_num), Ideal.exp2_top]
  | coe x => rw [Ideal.pow_coe_coe, Ideal.exp2_coe]

variable (Q : FVec Ideal S16x2048x512 .bf16) (K : FVec Ideal S16x128x2048 .bf16) (V : FVec Ideal S16x2048x128 .bf16)

theorem scoresR_at (b : Fin 16) (g : Fin 2) (j : Fin 4) (r k : Fin 2048) :
    (scoresR Q K (ix5 b g j r k) : EReal) = scoreAt (fun d => Q (ix3 b r (⟨g.val * 256 + j.val * 64 + d.val, by omega⟩ : Fin 512))) (fun d k => K (ix3 b (⟨g.val * 64 + d.val, by omega⟩ : Fin 128) k)) k := by
  pointwise [scoresR, scoreAt]
  exact Finset.sum_congr rfl fun _ _ => mul_comm _ _

theorem weightsR_at (S : FVec Ideal S16x2x4x2048x2048 .f32) (b : Fin 16) (g : Fin 2) (j : Fin 4) (r k : Fin 2048) :
    (weightsR S (ix5 b g j r k) : EReal) = weightAt (fun k => S (ix5 b g j r k)) k := by
  pointwise [weightsR, weightAt, topOf]
  exact pow_two _

theorem meansR_at (E : FVec Ideal S16x2x4x2048x2048 .f32) (b : Fin 16) (g : Fin 2) (j : Fin 4) (r : Fin 2048) (d : Fin 64) :
    (meansR E V (ix5 b g j r d) : EReal) = Ideal.div (∑ k : Fin 2048, E (ix5 b g j r k) * V (ix3 b k (⟨g.val * 64 + d.val, by omega⟩ : Fin 128))) (∑ k : Fin 2048, E (ix5 b g j r k)) := by
  pointwise [meansR]

theorem mergedR_at (O : FVec Ideal S16x2x4x2048x64 .f32) (b : Fin 16) (r : Fin 2048) (n : Fin 512) :
    (mergedR O (ix3 b r n) : EReal) = O (ix5 b (⟨n.val / 256, by omega⟩ : Fin 2) (⟨n.val / 64 % 4, by omega⟩ : Fin 4) r (⟨n.val % 64, by omega⟩ : Fin 64)) := by
  pointwise [mergedR]

end Cert.AttentionIdeal.Hand

end
-- ==== Proof.AttnFinal.lean ====
/-
  What the attention leaves in its result, entry by entry.
-/
module

public import proofs.«01_k».proof.Proof.AttnRows
public import proofs.«01_k».proof.Proof.AttnPlain
public import proofs.«01_k».proof.Proof.Gen.AttentionIdeal.Frame
public import Idealize.ShloMosaic.Lib.Pipeline.ValueKit
public import Idealize.ShloMosaic.Lib.Claim
public import Idealize.ShloMosaic.Lib.Pipeline.ReadBack

@[expose] public section

set_option maxRecDepth 16384

noncomputable section

namespace Cert.AttentionIdeal.Hand

open Cert.AttentionIdeal Cert.AttentionIdeal.Gen
open Idealize.ShloMosaic Idealize.ShloMosaic.TcCoe Idealize.SL.Sem
open Idealize.ShloMosaic.Pipeline (Dat)

/-- A load of the rectangle that the last store wrote reads what it stored. -/
theorem readCov_same {sig : RefSig} {κ : Kind} {sp : Space} {s : Shape} {e : EltTy} {Val : EltTy → Type} [∀ e, Nonempty (Val e)] (v : View sig κ sp s e) (r : Rect s) (w : r.shape.Idx → Val e)
    (L : List (View.Piece Val s e)) : v.readCov (⟨r, w⟩ :: L) r.toLoadRect = w := by
  rw [View.readCov_eq_canon']
  funext j
  exact View.canon_cons_emb r w L j

theorem heads_in (o : ℕ) (ho : o + 128 ≤ 512) (j : Fin 4) : ∀ a, (![0, o, 64 * j.val] : Fin 3 → ℕ) a + (![1, 128, 64] : Fin 3 → ℕ) a ≤ S1x512x256.size a
  | ⟨0, _⟩ => Nat.le_refl 1
  | ⟨1, _⟩ => ho
  | ⟨2, _⟩ => by show 64 * j.val + 64 ≤ 256; omega

theorem rows_in (o : ℕ) (ho : o + 128 ≤ 512) : ∀ a, (![0, o, 0] : Fin 3 → ℕ) a + (![1, 128, 256] : Fin 3 → ℕ) a ≤ S1x512x256.size a
  | ⟨0, _⟩ => Nat.le_refl 1
  | ⟨1, _⟩ => ho
  | ⟨2, _⟩ => Nat.le_refl 256

/-- The 128 rows stored from row `o` on hold the tile's entries. -/
theorem stored_at (x : Vec Ideal S1x512x256 .bf16) (K : Vec Ideal S1x64x2048 .bf16) (v : Vec Ideal S1x2048x128 .bf16) (w : BitVec 1) (o : ℕ) (ho : o + 128 ≤ 512) (y : S1x512x256.Idx) :
    View.TileAt (Val := Elt Ideal) (e := .bf16) y ![0, o, 0] ![1, 128, 256] (rowsFrom x K v w o (heads_in o ho)) (tileAt x K v w ⟨(y 1).val, (y 1).isLt⟩ ⟨(y 2).val, (y 2).isLt⟩ : EReal) := by
  intro z hz
  have e : z = ix3 (0 : Fin 1) (⟨(z 1).val, (z 1).isLt⟩ : Fin 128) (⟨(z 2).val, (z 2).isLt⟩ : Fin 256) := by
    funext a
    match a with
    | ⟨0, _⟩ => exact Fin.ext (by have : (z 0).val < 1 := (z 0).isLt; show (z 0).val = 0; omega)
    | ⟨1, _⟩ => rfl
    | ⟨2, _⟩ => rfl
  have h1 : (y 1).val = o + (z 1).val := hz 1
  have h2 : (y 2).val = 0 + (z 2).val := hz 2
  refine (congrArg _ e).trans ((rowsFrom_at x K v w o ho _ _ _).trans ?_)
  exact congrArg₂ (tileAt x K v w) (Fin.ext h1.symm) (Fin.ext (by show (z 2).val = (y 2).val; omega))

/-- The four stores together leave the tile. -/
theorem tile_stored (x : Vec Ideal S1x512x256 .bf16) (K : Vec Ideal S1x64x2048 .bf16) (v : Vec Ideal S1x2048x128 .bf16) (w : BitVec 1) (y : S1x512x256.Idx) :
    (View.canon (Val := Elt Ideal) (e := .bf16) (s := S1x512x256)
      [⟨Rect.unit ![0, 384, 0] ![1, 128, 256] (rows_in 384 (by decide)), rowsFrom x K v w 384 (heads_in 384 (by decide))⟩,
       ⟨Rect.unit ![0, 256, 0] ![1, 128, 256] (rows_in 256 (by decide)), rowsFrom x K v w 256 (heads_in 256 (by decide))⟩,
       ⟨Rect.unit ![0, 128, 0] ![1, 128, 256] (rows_in 128 (by decide)), rowsFrom x K v w 128 (heads_in 128 (by decide))⟩,
       ⟨Rect.unit ![0, 0, 0] ![1, 128, 256] (rows_in 0 (by decide)), rowsFrom x K v w 0 (heads_in 0 (by decide))⟩] y : EReal)
      = tileAt x K v w ⟨(y 1).val, (y 1).isLt⟩ ⟨(y 2).val, (y 2).isLt⟩ :=
  View.canon_eq_of_allAt _ y _ (View.cover_of_tiled_head _ _ _ (by rfl) y)
    (View.allAt_cons_unit _ _ _ _ _ (stored_at x K v w 384 (by decide) y) (View.allAt_cons_unit _ _ _ _ _ (stored_at x K v w 256 (by decide) y)
      (View.allAt_cons_unit _ _ _ _ _ (stored_at x K v w 128 (by decide) y) (View.allAt_cons_unit _ _ _ _ _ (stored_at x K v w 0 (by decide) y) (View.allAt_nil y _)))))

theorem idx : ∀ t : Fin cfg0.N, win0_0.index t = ![t.val / 8, t.val % 4, t.val / 4 % 2] ∧ win0_1.index t = ![t.val / 8, t.val / 4 % 2, 0] ∧ win0_2.index t = ![t.val / 8, 0, 0]
    ∧ win0_3.index t = ![t.val / 8, t.val % 4, t.val / 4 % 2] ∧ (grid0.coords t 1).val = t.val / 4 % 2 ∧ t.val < 128 :=
  (by decide +kernel : ∀ t : Fin grid0.N, _)

variable (m : (ℓ : Loc nD τ sig) → Buf (Elt Ideal) ℓ)

/-- The attention of the queries `Q`, the transposed keys `K` and the values `V`: batch `b`, group `g`, the group's head `j`, row `r`, column `d`. -/
def attendedAt (Q : FVec Ideal S16x2048x512 .bf16) (K : FVec Ideal S16x128x2048 .bf16) (V : FVec Ideal S16x2048x128 .bf16) (b : Fin 16) (g : Fin 2) (j : Fin 4) (r : Fin 2048) (d : Fin 64) : EReal :=
  meanAt (scoreAt (fun e => Q (ix3 b r (⟨g.val * 256 + j.val * 64 + e.val, by omega⟩ : Fin 512))) (fun e k => K (ix3 b (⟨g.val * 64 + e.val, by omega⟩ : Fin 128) k)))
    (fun k => V (ix3 b k (⟨g.val * 64 + d.val, by omega⟩ : Fin 128)))

theorem attendedAt_congr (Q : FVec Ideal S16x2048x512 .bf16) (K : FVec Ideal S16x128x2048 .bf16) (V : FVec Ideal S16x2048x128 .bf16) {b b' : Fin 16} {g g' : Fin 2} {j j' : Fin 4} {r r' : Fin 2048} {d d' : Fin 64}
    (hb : b.val = b'.val) (hg : g.val = g'.val) (hj : j.val = j'.val) (hr : r.val = r'.val) (hd : d.val = d'.val) : attendedAt Q K V b g j r d = attendedAt Q K V b' g' j' r' d' := by
  rw [Fin.ext hb, Fin.ext hg, Fin.ext hj, Fin.ext hr, Fin.ext hd]

/-- The attention's result, as an array. -/
def attended (c : Dev nD) : S16x2048x512.Idx → Elt Ideal .bf16 := fun z =>
  attendedAt (m ((c : Thread nD τ).loc main_arg0)) (m ((c : Thread nD τ).loc main_arg1)) (m ((c : Thread nD τ).loc main_arg2)) ⟨(z 0).val, (z 0).isLt⟩
    ⟨(z 2).val / 256, by have : (z 2).val < 512 := (z 2).isLt; omega⟩ ⟨(z 2).val / 64 % 4, by omega⟩ ⟨(z 1).val, (z 1).isLt⟩ ⟨(z 2).val % 64, by omega⟩

/-- The batch, the group and the row of the batch at grid point `t`. -/
def batch (t : Fin cfg0.N) : Fin 16 := ⟨t.val / 8, by have := (idx t).2.2.2.2.2; omega⟩
def group (t : Fin cfg0.N) : Fin 2 := ⟨t.val / 4 % 2, by omega⟩
def rowIn (t : Fin cfg0.N) (i : Fin 512) : Fin 2048 := ⟨512 * (t.val % 4) + i.val, by omega⟩

theorem queries_block (c : Dev nD) (t : Fin cfg0.N) (i : Fin 512) (n : Fin 256) : (iblk m c 0 t : FVec Ideal S1x512x256 .bf16) (ix3 0 i n)
    = (m ((c : Thread nD τ).loc main_arg0) : FVec Ideal S16x2048x512 .bf16) (ix3 (batch t) (rowIn t i) (⟨(group t).val * 256 + n.val, by have := (group t).isLt; omega⟩ : Fin 512)) := by
  blk_ext [iblk, V, idx t, batch, rowIn, group]

theorem keys_block (c : Dev nD) (t : Fin cfg0.N) (d : Fin 64) (k : Fin 2048) : (iblk m c 1 t : FVec Ideal S1x64x2048 .bf16) (ix3 0 d k)
    = (m ((c : Thread nD τ).loc main_arg1) : FVec Ideal S16x128x2048 .bf16) (ix3 (batch t) (⟨(group t).val * 64 + d.val, by have := (group t).isLt; omega⟩ : Fin 128) k) := by
  blk_ext [iblk, V, idx t, batch, group]

theorem values_block (c : Dev nD) (t : Fin cfg0.N) (k : Fin 2048) (n : Fin 128) : (iblk m c 2 t : FVec Ideal S1x2048x128 .bf16) (ix3 0 k n)
    = (m ((c : Thread nD τ).loc main_arg2) : FVec Ideal S16x2048x128 .bf16) (ix3 (batch t) k n) := by
  blk_ext [iblk, V, idx t, batch]

/-- A tile's entry is the attention's. -/
theorem tile_at (c : Dev nD) (t : Fin cfg0.N) (w : BitVec 1) (hw : w = 1#1 ↔ (group t).val = 0) (r : Fin 512) (n : Fin 256) :
    tileAt (iblk m c 0 t) (iblk m c 1 t) (iblk m c 2 t) w r n = attendedAt (m ((c : Thread nD τ).loc main_arg0)) (m ((c : Thread nD τ).loc main_arg1)) (m ((c : Thread nD τ).loc main_arg2))
      (batch t) (group t) ⟨n.val / 64, by omega⟩ (rowIn t r) ⟨n.val % 64, by omega⟩ := by
  refine congrArg₂ meanAt (congrArg₂ scoreAt (funext fun e => ?_) (funext fun e => funext fun k => ?_)) (funext fun k => ?_)
  · refine (queries_block m c t _ _).trans (congrArg (fun n => (m ((c : Thread nD τ).loc main_arg0) : FVec Ideal S16x2048x512 .bf16) (ix3 (batch t) (rowIn t r) n)) (Fin.ext ?_))
    show (group t).val * 256 + (n.val / 64 * 64 + e.val) = (group t).val * 256 + n.val / 64 * 64 + e.val
    omega
  · exact keys_block m c t e k
  · by_cases h : w = 1#1
    · rw [if_pos h]
      refine (values_block m c t _ _).trans (congrArg (fun n => (m ((c : Thread nD τ).loc main_arg2) : FVec Ideal S16x2048x128 .bf16) (ix3 (batch t) k n)) (Fin.ext ?_))
      show n.val % 64 = (group t).val * 64 + n.val % 64
      rw [hw.mp h]
      omega
    · rw [if_neg h]
      refine (values_block m c t _ _).trans (congrArg (fun n => (m ((c : Thread nD τ).loc main_arg2) : FVec Ideal S16x2048x128 .bf16) (ix3 (batch t) k n)) (Fin.ext ?_))
      show 64 + n.val % 64 = (group t).val * 64 + n.val % 64
      rw [show (group t).val = 1 from by
        have h0 : (group t).val ≠ 0 := fun e => h (hw.mpr e)
        have := (group t).isLt
        omega]

theorem first_group (t : Fin cfg0.N) : Scalar.cmpi CmpIPredicate.eq (BitVec.ofNat 32 (grid0.coords t 1).val) 0#32 = 1#1 ↔ (group t).val = 0 := by
  rw [show (grid0.coords t 1).val = (group t).val from (idx t).2.2.2.2.1]
  generalize group t = g
  revert g
  decide

theorem final3 (c : Dev nD) : (dats m 0 c).arrAt 3 (cfgs 0).N = attended m c := by
  refine (dats m 0 c).arrAt_eq_of_covers 3 _ (by decide +kernel) fun t _ y => ?_
  blk_simp
  have hz : ∀ a : Fin 3, (((win0_3.blk t).view.emb y) a).val = (![t.val / 8, t.val % 4, t.val / 4 % 2] : Fin 3 → ℕ) a * (![1, 512, 256] : Fin 3 → ℕ) a + (y a).val := fun a => by
    rw [← (idx t).2.2.2.1]; blk_simp
  have z0 := hz 0
  have z1 := hz 1
  have z2 := hz 2
  rw [after0_3]; unfold outsAt0; dsimp only; frame_out
  simp (disch := decide) only [↓readCov_same, ↓View.readCov_skip]
  refine (tile_stored (iblk m c 0 t) (iblk m c 1 t) (iblk m c 2 t) (Scalar.cmpi CmpIPredicate.eq (BitVec.ofNat 32 (grid0.coords t 1).val) 0#32) y).trans ?_
  refine (tile_at m c t _ (first_group t) _ _).trans ?_
  generalize (win0_3.blk t).view.emb y = z at z0 z1 z2 ⊢
  have y0 : (y 0).val < 1 := (y 0).isLt
  have y1 : (y 1).val < 512 := (y 1).isLt
  have y2 : (y 2).val < 256 := (y 2).isLt
  have z0 : (z 0).val = t.val / 8 * 1 + (y 0).val := z0
  have z1 : (z 1).val = t.val % 4 * 512 + (y 1).val := z1
  have z2 : (z 2).val = t.val / 4 % 2 * 256 + (y 2).val := z2
  refine attendedAt_congr _ _ _ ?_ ?_ ?_ ?_ ?_
  · show t.val / 8 = (z 0).val
    omega
  · show t.val / 4 % 2 = (z 2).val / 256
    omega
  · show (y 2).val / 64 = (z 2).val / 64 % 4
    omega
  · show 512 * (t.val % 4) + (y 1).val = (z 1).val
    omega
  · show (y 2).val % 64 = (z 2).val % 64
    omega

/-! ## The reference's result is the same -/

theorem heads_eq (Q : FVec Ideal S16x2048x512 .bf16) (K : FVec Ideal S16x128x2048 .bf16) (V : FVec Ideal S16x2048x128 .bf16) (b : Fin 16) (g : Fin 2) (j : Fin 4) (r : Fin 2048) (d : Fin 64) :
    (meansR (weightsR (scoresR Q K)) V (ix5 b g j r d) : EReal) = attendedAt Q K V b g j r d := by
  have hs : (fun k => (scoresR Q K (ix5 b g j r k) : EReal)) = scoreAt (fun e => Q (ix3 b r (⟨g.val * 256 + j.val * 64 + e.val, by omega⟩ : Fin 512))) (fun e k => K (ix3 b (⟨g.val * 64 + e.val, by omega⟩ : Fin 128) k)) :=
    funext fun k => scoresR_at Q K b g j r k
  have hw : ∀ k : Fin 2048, (weightsR (scoresR Q K) (ix5 b g j r k) : EReal) = weightAt (scoreAt (fun e => Q (ix3 b r (⟨g.val * 256 + j.val * 64 + e.val, by omega⟩ : Fin 512))) (fun e k => K (ix3 b (⟨g.val * 64 + e.val, by omega⟩ : Fin 128) k))) k :=
    fun k => (weightsR_at (scoresR Q K) b g j r k).trans (congrArg (weightAt · k) hs)
  refine (meansR_at V _ b g j r d).trans ?_
  exact congrArg₂ Ideal.div (Finset.sum_congr rfl fun k _ => congrArg (· * _) (hw k)) (Finset.sum_congr rfl fun k _ => hw k)

theorem attended_eq (c : Dev nD) : mergedR (meansR (weightsR (scoresR (m ((c : Thread nD τ).loc main_arg0)) (m ((c : Thread nD τ).loc main_arg1)))) (m ((c : Thread nD τ).loc main_arg2))) = attended m c := by
  funext y
  have e : y = ix3 (⟨(y 0).val, (y 0).isLt⟩ : Fin 16) (⟨(y 1).val, (y 1).isLt⟩ : Fin 2048) (⟨(y 2).val, (y 2).isLt⟩ : Fin 512) := by
    funext a
    match a with
    | ⟨0, _⟩ => rfl
    | ⟨1, _⟩ => rfl
    | ⟨2, _⟩ => rfl
  exact (congrArg _ e).trans ((mergedR_at _ _ _ _).trans (heads_eq _ _ _ _ _ _ _ _))

end Cert.AttentionIdeal.Hand

end
-- ==== Proof.MixOutIdealRun.lean ====
/-
  One run of the mixer's output projection (idealized) on any buffers: at the first grid point it clears the running count, at
  the others it reads what the point before left in it.
-/
module

public import proofs.«01_k».proof.Proof.Gen.MixerOutIdeal.Frame
public import proofs.«01_k».proof.Proof.Gen.MixerOutIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixerOutIdeal.Hand

open Cert.MixerOutIdeal Cert.MixerOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the count here. -/
abbrev First (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem first_iff (t : Fin cfg0.N) : First (grid0.coords t) ↔ t.val % 64 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [First, e0, e1]
  word_cmp

/-- The buffers the body runs on: thirteen inputs, five outputs, the count. -/
structure Mems where
  a0 : Memref sig .tc .vmem S1x512x1024 .f32
  h0 : a0.IsWhole
  a1 : Memref sig .tc .vmem S1x512x512 .bf16
  h1 : a1.IsWhole
  a2 : Memref sig .tc .vmem S1x512x1024 .bf16
  h2 : a2.IsWhole
  a3 : Memref sig .tc .vmem S1x512x1024 .bf16
  h3 : a3.IsWhole
  a4 : Memref sig .tc .vmem S1x6x1024 .f32
  h4 : a4.IsWhole
  a5 : Memref sig .tc .vmem S512x1024 .bf16
  h5 : a5.IsWhole
  a6 : Memref sig .tc .vmem S1024x1024 .bf16
  h6 : a6.IsWhole
  a7 : Memref sig .tc .vmem S1x1024 .f32
  h7 : a7.IsWhole
  a8 : Memref sig .tc .vmem S1024x512 .bf16
  h8 : a8.IsWhole
  a9 : Memref sig .tc .vmem S256x1024 .bf16
  h9 : a9.IsWhole
  a10 : Memref sig .tc .vmem S256x1024 .bf16
  h10 : a10.IsWhole
  a11 : Memref sig .tc .vmem S256x1 .f32
  h11 : a11.IsWhole
  a12 : Memref sig .tc .vmem S512x512 .bf16
  h12 : a12.IsWhole
  a13 : Memref sig .tc .vmem S1x512x1024 .f32
  h13 : a13.IsWhole
  a14 : Memref sig .tc .vmem S2048x2x128 .bf16
  h14 : a14.IsWhole
  a15 : Memref sig .tc .vmem S1x8x512 .i32
  h15 : a15.IsWhole
  a16 : Memref sig .tc .vmem S1x8x512 .f32
  h16 : a16.IsWhole
  a17 : Memref sig .tc .vmem S256x1 .f32
  h17 : a17.IsWhole
  a18 : Memref sig .tc .vmem S256x1 .f32
  h18 : a18.IsWhole

/-- What the inputs hold. -/
structure Ins (F : FTy → Type) where
  x0 : Vec F S1x512x1024 .f32
  x1 : Vec F S1x512x512 .bf16
  x2 : Vec F S1x512x1024 .bf16
  x3 : Vec F S1x512x1024 .bf16
  x4 : Vec F S1x6x1024 .f32
  x5 : Vec F S512x1024 .bf16
  x6 : Vec F S1024x1024 .bf16
  x7 : Vec F S1x1024 .f32
  x8 : Vec F S1024x512 .bf16
  x9 : Vec F S256x1024 .bf16
  x10 : Vec F S256x1024 .bf16
  x11 : Vec F S256x1 .f32
  x12 : Vec F S512x512 .bf16

/-- The pieces a run writes, last first: into each output and into the count. -/
structure Pieces (F : FTy → Type) where
  L13 : List (View.Piece (Elt F) S1x512x1024 .f32)
  L14 : List (View.Piece (Elt F) S2048x2x128 .bf16)
  L15 : List (View.Piece (Elt F) S1x8x512 .i32)
  L16 : List (View.Piece (Elt F) S1x8x512 .f32)
  L17 : List (View.Piece (Elt F) S256x1 .f32)
  L18 : List (View.Piece (Elt F) S256x1 .f32)

/-- The body at point `i` on the buffers `M`. -/
abbrev bodyOn (i : grid0.Coords) (M : Mems) : Prog (TpuEff nD τ sig (Elt F) Λ₀ .tc) PUnit :=
  cc0_mixer_out i M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18

/-- Before a run: the inputs' contents, the outputs at anything, and `S` of the count. -/
def Before (c : Dev nD) (M : Mems) (X : Ins F) (S : sProp 𝕄) : sProp 𝕄 :=
  iprop(owns (c : Thread nD τ) M.a0 fullShare X.x0 ∗ owns (c : Thread nD τ) M.a1 fullShare X.x1 ∗ owns (c : Thread nD τ) M.a2 fullShare X.x2 ∗ owns (c : Thread nD τ) M.a3 fullShare X.x3 ∗ owns (c : Thread nD τ) M.a4 fullShare X.x4 ∗ owns (c : Thread nD τ) M.a5 fullShare X.x5 ∗ owns (c : Thread nD τ) M.a6 fullShare X.x6 ∗ owns (c : Thread nD τ) M.a7 fullShare X.x7 ∗ owns (c : Thread nD τ) M.a8 fullShare X.x8 ∗ owns (c : Thread nD τ) M.a9 fullShare X.x9 ∗ owns (c : Thread nD τ) M.a10 fullShare X.x10 ∗ owns (c : Thread nD τ) M.a11 fullShare X.x11 ∗ owns (c : Thread nD τ) M.a12 fullShare X.x12 ∗ (∃ d, owns (c : Thread nD τ) M.a13 fullShare d) ∗ (∃ d, owns (c : Thread nD τ) M.a14 fullShare d) ∗ (∃ d, owns (c : Thread nD τ) M.a15 fullShare d) ∗ (∃ d, owns (c : Thread nD τ) M.a16 fullShare d) ∗ (∃ d, owns (c : Thread nD τ) M.a17 fullShare d) ∗ S)

/-- After a run: the inputs as they were, the pieces written into the others. -/
def After (c : Dev nD) (M : Mems) (X : Ins F) (W : Pieces F) : sProp 𝕄 :=
  iprop(owns (c : Thread nD τ) M.a0 fullShare X.x0 ∗ owns (c : Thread nD τ) M.a1 fullShare X.x1 ∗ owns (c : Thread nD τ) M.a2 fullShare X.x2 ∗ owns (c : Thread nD τ) M.a3 fullShare X.x3 ∗ owns (c : Thread nD τ) M.a4 fullShare X.x4 ∗ owns (c : Thread nD τ) M.a5 fullShare X.x5 ∗ owns (c : Thread nD τ) M.a6 fullShare X.x6 ∗ owns (c : Thread nD τ) M.a7 fullShare X.x7 ∗ owns (c : Thread nD τ) M.a8 fullShare X.x8 ∗ owns (c : Thread nD τ) M.a9 fullShare X.x9 ∗ owns (c : Thread nD τ) M.a10 fullShare X.x10 ∗ owns (c : Thread nD τ) M.a11 fullShare X.x11 ∗ owns (c : Thread nD τ) M.a12 fullShare X.x12 ∗ (∃ f, M.a13.view.loc (c : Thread nD τ) ↦[M.a13.view.set]{fullShare} M.a13.view.writes (Elt F) f W.L13) ∗ (∃ f, M.a14.view.loc (c : Thread nD τ) ↦[M.a14.view.set]{fullShare} M.a14.view.writes (Elt F) f W.L14) ∗ (∃ f, M.a15.view.loc (c : Thread nD τ) ↦[M.a15.view.set]{fullShare} M.a15.view.writes (Elt F) f W.L15) ∗ (∃ f, M.a16.view.loc (c : Thread nD τ) ↦[M.a16.view.set]{fullShare} M.a16.view.writes (Elt F) f W.L16) ∗ (∃ f, M.a17.view.loc (c : Thread nD τ) ↦[M.a17.view.set]{fullShare} M.a17.view.writes (Elt F) f W.L17) ∗ (∃ f, M.a18.view.loc (c : Thread nD τ) ↦[M.a18.view.set]{fullShare} M.a18.view.writes (Elt F) f W.L18))

/-- From `Before` the body runs to `After`. -/
def Runs (c : Dev nD) (i : grid0.Coords) (M : Mems) (X : Ins F) (S : sProp 𝕄) (W : Pieces F) : Prop :=
  ∀ (E : Set ℕ) (K : PUnit → sProp 𝕄), iprop(Before c M X S ∗ (After c M X W -∗ K ⟨⟩)) ⊢ wp frame (wpE (defs₀ (F := F)) Variants.none c none) E (bodyOn i M) K

set_option maxHeartbeats 1784000 in
/-- The run at the first point: what the count held is of no consequence. -/
def runFirst (c : Dev nD) (i : grid0.Coords) (M : Mems) (hc : First i) (X : Ins F) :
    { W : Pieces F // Runs c i M X iprop(∃ d, owns (c : Thread nD τ) M.a18 fullShare d) W } := by
  refine ⟨⟨?_, ?_, ?_, ?_, ?_, ?_⟩, fun E K => ?run⟩
  case run =>
    simp only [bodyOn, cc0_mixer_out_eq_skeleton]; unfold cc0_mixer_out_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold Before After; dsimp only; unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
    obtain rfl := M.h0.eq_unread hf0; obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h10.eq_unread hf10; obtain rfl := M.h11.eq_unread hf11; obtain rfl := M.h12.eq_unread hf12
    sl_exec (disch := first | sl_exact hc)
    sl_step
    iapply Hk
    isplitl [H0]
    · iexists _; isplitr; · ipureintro; exact M.h0.read_unread _
      iexact H0
    isplitl [H1]
    · iexists _; isplitr; · ipureintro; exact M.h1.read_unread _
      iexact H1
    isplitl [H2]
    · iexists _; isplitr; · ipureintro; exact M.h2.read_unread _
      iexact H2
    isplitl [H3]
    · iexists _; isplitr; · ipureintro; exact M.h3.read_unread _
      iexact H3
    isplitl [H4]
    · iexists _; isplitr; · ipureintro; exact M.h4.read_unread _
      iexact H4
    isplitl [H5]
    · iexists _; isplitr; · ipureintro; exact M.h5.read_unread _
      iexact H5
    isplitl [H6]
    · iexists _; isplitr; · ipureintro; exact M.h6.read_unread _
      iexact H6
    isplitl [H7]
    · iexists _; isplitr; · ipureintro; exact M.h7.read_unread _
      iexact H7
    isplitl [H8]
    · iexists _; isplitr; · ipureintro; exact M.h8.read_unread _
      iexact H8
    isplitl [H9]
    · iexists _; isplitr; · ipureintro; exact M.h9.read_unread _
      iexact H9
    isplitl [H10]
    · iexists _; isplitr; · ipureintro; exact M.h10.read_unread _
      iexact H10
    isplitl [H11]
    · iexists _; isplitr; · ipureintro; exact M.h11.read_unread _
      iexact H11
    isplitl [H12]
    · iexists _; isplitr; · ipureintro; exact M.h12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.MixerOutIdeal.Hand

end
-- ==== Proof.MixOutIdealNext.lean ====
/-
  One run of the mixer's output projection (idealized) at a point that is not the first.
-/
module

public import proofs.«01_k».proof.Proof.MixOutIdealRun

@[expose] public section

set_option maxRecDepth 16384

noncomputable section

namespace Cert.MixerOutIdeal.Hand

open Cert.MixerOutIdeal Cert.MixerOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1784000 in
/-- The run at another point, the count at `xs`. -/
def runNext (c : Dev nD) (i : grid0.Coords) (M : Mems) (hc : ¬First i) (X : Ins F) (xs : Vec F S256x1 .f32) :
    { W : Pieces F // Runs c i M X iprop(owns (c : Thread nD τ) M.a18 fullShare xs) W } := by
  refine ⟨⟨?_, ?_, ?_, ?_, ?_, ?_⟩, fun E K => ?run⟩
  case run =>
    simp only [bodyOn, cc0_mixer_out_eq_skeleton]; unfold cc0_mixer_out_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold Before After; dsimp only; unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩⟩, Hk⟩
    obtain rfl := M.h0.eq_unread hf0; obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h10.eq_unread hf10; obtain rfl := M.h11.eq_unread hf11; obtain rfl := M.h12.eq_unread hf12; obtain rfl := M.h18.eq_unread hf18
    sl_exec (disch := first | sl_exact hc)
    sl_step
    iapply Hk
    isplitl [H0]
    · iexists _; isplitr; · ipureintro; exact M.h0.read_unread _
      iexact H0
    isplitl [H1]
    · iexists _; isplitr; · ipureintro; exact M.h1.read_unread _
      iexact H1
    isplitl [H2]
    · iexists _; isplitr; · ipureintro; exact M.h2.read_unread _
      iexact H2
    isplitl [H3]
    · iexists _; isplitr; · ipureintro; exact M.h3.read_unread _
      iexact H3
    isplitl [H4]
    · iexists _; isplitr; · ipureintro; exact M.h4.read_unread _
      iexact H4
    isplitl [H5]
    · iexists _; isplitr; · ipureintro; exact M.h5.read_unread _
      iexact H5
    isplitl [H6]
    · iexists _; isplitr; · ipureintro; exact M.h6.read_unread _
      iexact H6
    isplitl [H7]
    · iexists _; isplitr; · ipureintro; exact M.h7.read_unread _
      iexact H7
    isplitl [H8]
    · iexists _; isplitr; · ipureintro; exact M.h8.read_unread _
      iexact H8
    isplitl [H9]
    · iexists _; isplitr; · ipureintro; exact M.h9.read_unread _
      iexact H9
    isplitl [H10]
    · iexists _; isplitr; · ipureintro; exact M.h10.read_unread _
      iexact H10
    isplitl [H11]
    · iexists _; isplitr; · ipureintro; exact M.h11.read_unread _
      iexact H11
    isplitl [H12]
    · iexists _; isplitr; · ipureintro; exact M.h12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.MixerOutIdeal.Hand

end
-- ==== Proof.MixOutIdealFrame.lean ====
/-
  The launch of the mixer's output projection (idealized): what each grid point leaves in its buffers, the body's
  obligation from the two runs, and the frame.
-/
module

public import proofs.«01_k».proof.Proof.MixOutIdealNext
public import Idealize.ShloMosaic.Lib.Claim

@[expose] public section

set_option maxRecDepth 16384

noncomputable section

namespace Cert.MixerOutIdeal.Hand

open Cert.MixerOutIdeal Cert.MixerOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a run's pieces leave -/

/-- The running count's buffer. -/
abbrev scM : Memref sig .tc .vmem S256x1 .f32 := Memref.whole cc0_scratch0

abbrev V13 : View sig .tc .vmem S1x512x1024 .f32 := (Memref.whole cc0_stg13_0 : Memref sig .tc .vmem S1x512x1024 .f32).view
abbrev V14 : View sig .tc .vmem S2048x2x128 .bf16 := (Memref.whole cc0_stg14_0 : Memref sig .tc .vmem S2048x2x128 .bf16).view
abbrev V15 : View sig .tc .vmem S1x8x512 .i32 := (Memref.whole cc0_stg15_0 : Memref sig .tc .vmem S1x8x512 .i32).view
abbrev V16 : View sig .tc .vmem S1x8x512 .f32 := (Memref.whole cc0_stg16_0 : Memref sig .tc .vmem S1x8x512 .f32).view
abbrev V17 : View sig .tc .vmem S256x1 .f32 := (Memref.whole cc0_stg17_0 : Memref sig .tc .vmem S256x1 .f32).view
abbrev V18 : View sig .tc .vmem S256x1 .f32 := scM.view

/-- The outputs' contents and the count's. -/
structure Outs (F : FTy → Type) where
  y13 : Vec F S1x512x1024 .f32
  y14 : Vec F S2048x2x128 .bf16
  y15 : Vec F S1x8x512 .i32
  y16 : Vec F S1x8x512 .f32
  y17 : Vec F S256x1 .f32
  y18 : Vec F S256x1 .f32

/-- What covering pieces leave. -/
def Pieces.outs (W : Pieces F) : Outs F where
  y13 := V13.read (Elt F) (V13.writes (Elt F) V13.junk W.L13)
  y14 := V14.read (Elt F) (V14.writes (Elt F) V14.junk W.L14)
  y15 := V15.read (Elt F) (V15.writes (Elt F) V15.junk W.L15)
  y16 := V16.read (Elt F) (V16.writes (Elt F) V16.junk W.L16)
  y17 := V17.read (Elt F) (V17.writes (Elt F) V17.junk W.L17)
  y18 := V18.read (Elt F) (V18.writes (Elt F) V18.junk W.L18)

/-- The pieces cover every output and the count. -/
structure Covers (W : Pieces F) : Prop where
  c13 : ∀ y : S1x512x1024.Idx, ∃ p ∈ W.L13, y ∈ p.1.set
  c14 : ∀ y : S2048x2x128.Idx, ∃ p ∈ W.L14, y ∈ p.1.set
  c15 : ∀ y : S1x8x512.Idx, ∃ p ∈ W.L15, y ∈ p.1.set
  c16 : ∀ y : S1x8x512.Idx, ∃ p ∈ W.L16, y ∈ p.1.set
  c17 : ∀ y : S256x1.Idx, ∃ p ∈ W.L17, y ∈ p.1.set
  c18 : ∀ y : S256x1.Idx, ∃ p ∈ W.L18, y ∈ p.1.set

/-- Four pieces of every fourth row, from rows 0, 1, 2 and 3 on, cover the normed rows' buffer. -/
theorem rows_cover {L : List (View.Piece (Elt F) S2048x2x128 .bf16)}
    (h : ∀ j : Fin 4, ∃ p ∈ L, ∀ a, p.1.off a = (![j.val, 0, 0] : Fin 3 → ℕ) a ∧ p.1.stride a = (![4, 1, 1] : Fin 3 → ℕ) a ∧ p.1.size a = S512x2x128.size a) (y : S2048x2x128.Idx) :
    ∃ p ∈ L, y ∈ p.1.set := by
  obtain ⟨p, hp, e⟩ := h ⟨(y 0).val % 4, Nat.mod_lt _ (by decide)⟩
  refine ⟨p, hp, (LoadRect.mem_set _).2 fun a => ?_⟩
  obtain ⟨e1, e2, e3⟩ := e a
  rw [e1, e2, e3]
  match a with
  | ⟨0, _⟩ =>
    have h0 : (y 0).val < 2048 := (y 0).isLt
    refine ⟨(y 0).val / 4, by show (y 0).val / 4 < 512; omega, ?_⟩
    show (y 0).val = (y 0).val % 4 + 4 * ((y 0).val / 4)
    omega
  | ⟨1, _⟩ => exact ⟨(y 1).val, (y 1).isLt, by show (y 1).val = 0 + 1 * (y 1).val; omega⟩
  | ⟨2, _⟩ => exact ⟨(y 2).val, (y 2).isLt, by show (y 2).val = 0 + 1 * (y 2).val; omega⟩

theorem coversFirst (c : Dev nD) (i : grid0.Coords) (M : Mems) (hc : First i) (X : Ins F) : Covers (runFirst c i M hc X).1 where
  c13 := View.cover_of_tiledL (runFirst c i M hc X).1.L13 S1x512x1024.size (by sl_kernel_rfl)
  c14 := rows_cover fun j => match j with
    | ⟨0, _⟩ => ⟨_, .tail _ (.tail _ (.tail _ (.head _))), fun a => match a with | ⟨0, _⟩ => ⟨rfl, rfl, rfl⟩ | ⟨1, _⟩ => ⟨rfl, rfl, rfl⟩ | ⟨2, _⟩ => ⟨rfl, rfl, rfl⟩⟩
    | ⟨1, _⟩ => ⟨_, .tail _ (.tail _ (.head _)), fun a => match a with | ⟨0, _⟩ => ⟨rfl, rfl, rfl⟩ | ⟨1, _⟩ => ⟨rfl, rfl, rfl⟩ | ⟨2, _⟩ => ⟨rfl, rfl, rfl⟩⟩
    | ⟨2, _⟩ => ⟨_, .tail _ (.head _), fun a => match a with | ⟨0, _⟩ => ⟨rfl, rfl, rfl⟩ | ⟨1, _⟩ => ⟨rfl, rfl, rfl⟩ | ⟨2, _⟩ => ⟨rfl, rfl, rfl⟩⟩
    | ⟨3, _⟩ => ⟨_, .head _, fun a => match a with | ⟨0, _⟩ => ⟨rfl, rfl, rfl⟩ | ⟨1, _⟩ => ⟨rfl, rfl, rfl⟩ | ⟨2, _⟩ => ⟨rfl, rfl, rfl⟩⟩
  c15 := View.cover_of_tiledL (runFirst c i M hc X).1.L15 S1x8x512.size (by sl_kernel_rfl)
  c16 := View.cover_of_tiledL (runFirst c i M hc X).1.L16 S1x8x512.size (by sl_kernel_rfl)
  c17 := View.cover_of_tiledL (runFirst c i M hc X).1.L17 S256x1.size (by sl_kernel_rfl)
  c18 := View.cover_of_tiledL (runFirst c i M hc X).1.L18 S256x1.size (by sl_kernel_rfl)

theorem coversNext (c : Dev nD) (i : grid0.Coords) (M : Mems) (hc : ¬First i) (X : Ins F) (xs : Vec F S256x1 .f32) : Covers (runNext c i M hc X xs).1 where
  c13 := View.cover_of_tiledL (runNext c i M hc X xs).1.L13 S1x512x1024.size (by sl_kernel_rfl)
  c14 := rows_cover fun j => match j with
    | ⟨0, _⟩ => ⟨_, .tail _ (.tail _ (.tail _ (.head _))), fun a => match a with | ⟨0, _⟩ => ⟨rfl, rfl, rfl⟩ | ⟨1, _⟩ => ⟨rfl, rfl, rfl⟩ | ⟨2, _⟩ => ⟨rfl, rfl, rfl⟩⟩
    | ⟨1, _⟩ => ⟨_, .tail _ (.tail _ (.head _)), fun a => match a with | ⟨0, _⟩ => ⟨rfl, rfl, rfl⟩ | ⟨1, _⟩ => ⟨rfl, rfl, rfl⟩ | ⟨2, _⟩ => ⟨rfl, rfl, rfl⟩⟩
    | ⟨2, _⟩ => ⟨_, .tail _ (.head _), fun a => match a with | ⟨0, _⟩ => ⟨rfl, rfl, rfl⟩ | ⟨1, _⟩ => ⟨rfl, rfl, rfl⟩ | ⟨2, _⟩ => ⟨rfl, rfl, rfl⟩⟩
    | ⟨3, _⟩ => ⟨_, .head _, fun a => match a with | ⟨0, _⟩ => ⟨rfl, rfl, rfl⟩ | ⟨1, _⟩ => ⟨rfl, rfl, rfl⟩ | ⟨2, _⟩ => ⟨rfl, rfl, rfl⟩⟩
  c15 := View.cover_of_tiledL (runNext c i M hc X xs).1.L15 S1x8x512.size (by sl_kernel_rfl)
  c16 := View.cover_of_tiledL (runNext c i M hc X xs).1.L16 S1x8x512.size (by sl_kernel_rfl)
  c17 := View.cover_of_tiledL (runNext c i M hc X xs).1.L17 S256x1.size (by sl_kernel_rfl)
  c18 := View.cover_of_tiledL (runNext c i M hc X xs).1.L18 S256x1.size (by sl_kernel_rfl)

/-- The inputs at `X`, the outputs and the count at `Y`. -/
def Owned (c : Dev nD) (M : Mems) (X : Ins F) (Y : Outs F) : sProp 𝕄 :=
  iprop(owns (c : Thread nD τ) M.a0 fullShare X.x0 ∗ owns (c : Thread nD τ) M.a1 fullShare X.x1 ∗ owns (c : Thread nD τ) M.a2 fullShare X.x2 ∗ owns (c : Thread nD τ) M.a3 fullShare X.x3 ∗ owns (c : Thread nD τ) M.a4 fullShare X.x4 ∗ owns (c : Thread nD τ) M.a5 fullShare X.x5 ∗ owns (c : Thread nD τ) M.a6 fullShare X.x6 ∗ owns (c : Thread nD τ) M.a7 fullShare X.x7 ∗ owns (c : Thread nD τ) M.a8 fullShare X.x8 ∗ owns (c : Thread nD τ) M.a9 fullShare X.x9 ∗ owns (c : Thread nD τ) M.a10 fullShare X.x10 ∗ owns (c : Thread nD τ) M.a11 fullShare X.x11 ∗ owns (c : Thread nD τ) M.a12 fullShare X.x12 ∗ owns (c : Thread nD τ) M.a13 fullShare Y.y13 ∗ owns (c : Thread nD τ) M.a14 fullShare Y.y14 ∗ owns (c : Thread nD τ) M.a15 fullShare Y.y15 ∗ owns (c : Thread nD τ) M.a16 fullShare Y.y16 ∗ owns (c : Thread nD τ) M.a17 fullShare Y.y17 ∗ owns (c : Thread nD τ) M.a18 fullShare Y.y18)

/-- Covering pieces leave the same contents whatever was there. -/
theorem owned_of_covers (c : Dev nD) (M : Mems) (X : Ins F) (W : Pieces F) (h : Covers W) : After c M X W ⊢ Owned c M X W.outs := by
  unfold After Owned
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover M.a13.view _ V13 _ _ h.c13
  isplitl [H14]
  · unfold owns; iexists _; isplitr
    swap; · iexact H14
    ipureintro; exact View.read_writes_of_cover M.a14.view _ V14 _ _ h.c14
  isplitl [H15]
  · unfold owns; iexists _; isplitr
    swap; · iexact H15
    ipureintro; exact View.read_writes_of_cover M.a15.view _ V15 _ _ h.c15
  isplitl [H16]
  · unfold owns; iexists _; isplitr
    swap; · iexact H16
    ipureintro; exact View.read_writes_of_cover M.a16.view _ V16 _ _ h.c16
  isplitl [H17]
  · unfold owns; iexists _; isplitr
    swap; · iexact H17
    ipureintro; exact View.read_writes_of_cover M.a17.view _ V17 _ _ h.c17
  unfold owns; iexists _; isplitr
  swap; · iexact H18
  ipureintro; exact View.read_writes_of_cover M.a18.view _ V18 _ _ h.c18

/-! ## What each grid point leaves -/

variable (m : (ℓ : Loc nD τ sig) → Buf (Elt F) ℓ) (ρ : Dev nD → PrngReg)

/-- The buffers of grid point `t`. -/
abbrev memsAt (t : Fin cfg0.N) : Mems where
  a0 := win0_0.stage (cfg0.slots t 0)
  h0 := hstage0_0 ((cfg0.slots t 0).cast nbuf0_0)
  a1 := win0_1.stage (cfg0.slots t 1)
  h1 := hstage0_1 ((cfg0.slots t 1).cast nbuf0_1)
  a2 := win0_2.stage (cfg0.slots t 2)
  h2 := hstage0_2 ((cfg0.slots t 2).cast nbuf0_2)
  a3 := win0_3.stage (cfg0.slots t 3)
  h3 := hstage0_3 ((cfg0.slots t 3).cast nbuf0_3)
  a4 := win0_4.stage (cfg0.slots t 4)
  h4 := hstage0_4 ((cfg0.slots t 4).cast nbuf0_4)
  a5 := win0_5.stage (cfg0.slots t 5)
  h5 := hstage0_5 ((cfg0.slots t 5).cast nbuf0_5)
  a6 := win0_6.stage (cfg0.slots t 6)
  h6 := hstage0_6 ((cfg0.slots t 6).cast nbuf0_6)
  a7 := win0_7.stage (cfg0.slots t 7)
  h7 := hstage0_7 ((cfg0.slots t 7).cast nbuf0_7)
  a8 := win0_8.stage (cfg0.slots t 8)
  h8 := hstage0_8 ((cfg0.slots t 8).cast nbuf0_8)
  a9 := win0_9.stage (cfg0.slots t 9)
  h9 := hstage0_9 ((cfg0.slots t 9).cast nbuf0_9)
  a10 := win0_10.stage (cfg0.slots t 10)
  h10 := hstage0_10 ((cfg0.slots t 10).cast nbuf0_10)
  a11 := win0_11.stage (cfg0.slots t 11)
  h11 := hstage0_11 ((cfg0.slots t 11).cast nbuf0_11)
  a12 := win0_12.stage (cfg0.slots t 12)
  h12 := hstage0_12 ((cfg0.slots t 12).cast nbuf0_12)
  a13 := win0_13.stage (cfg0.slots t 13)
  h13 := hstage0_13 ((cfg0.slots t 13).cast nbuf0_13)
  a14 := win0_14.stage (cfg0.slots t 14)
  h14 := hstage0_14 ((cfg0.slots t 14).cast nbuf0_14)
  a15 := win0_15.stage (cfg0.slots t 15)
  h15 := hstage0_15 ((cfg0.slots t 15).cast nbuf0_15)
  a16 := win0_16.stage (cfg0.slots t 16)
  h16 := hstage0_16 ((cfg0.slots t 16).cast nbuf0_16)
  a17 := win0_17.stage (cfg0.slots t 17)
  h17 := hstage0_17 ((cfg0.slots t 17).cast nbuf0_17)
  a18 := scM
  h18 := Memref.isWhole_whole _

/-- The blocks the inputs hold there. -/
abbrev insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t

theorem points : cfg0.N = 64 := N_0

theorem first_at (n : ℕ) (hn : n < cfg0.N) (h : n = 0) : First (grid0.coords ⟨n, hn⟩) := (first_iff ⟨n, hn⟩).2 (by subst h; rfl)

theorem next_at (n : ℕ) (hn : n < cfg0.N) (h : n ≠ 0) : ¬First (grid0.coords ⟨n, hn⟩) := fun hc => by
  have := (first_iff ⟨n, hn⟩).1 hc
  have := points
  have h64 : n % 64 = 0 := (first_iff ⟨n, hn⟩).1 hc
  omega

/-- The contents after grid point `n`: the point reads the count the point before left. -/
def outsAt (c : Dev nD) : (n : ℕ) → n < cfg0.N → Outs F
  | 0, hn => (runFirst c (grid0.coords ⟨0, hn⟩) (memsAt ⟨0, hn⟩) (first_at 0 hn rfl) (insAt m c ⟨0, hn⟩)).1.outs
  | n + 1, hn => (runNext c (grid0.coords ⟨n + 1, hn⟩) (memsAt ⟨n + 1, hn⟩) (next_at (n + 1) hn (Nat.succ_ne_zero n)) (insAt m c ⟨n + 1, hn⟩) (outsAt c n (Nat.lt_of_succ_lt hn)).y18).1.outs

/-- The invariant before position `n`: the count at what the point before left. -/
def Inv (c : Dev nD) : (n : ℕ) → n ≤ cfg0.N → sProp 𝕄
  | 0, _ => Pipeline.ΦA spec0 c
  | n + 1, hn => iprop(iprop(owns (c : Thread nD τ) scM fullShare (outsAt m c n hn).y18) ∗ (∃ r, prngReg c r))

theorem launch_eq (c : Dev nD) : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).y13
    | ⟨14, _⟩ => (outsAt m c t.val t.isLt).y14
    | ⟨15, _⟩ => (outsAt m c t.val t.isLt).y15
    | ⟨16, _⟩ => (outsAt m c t.val t.isLt).y16
    | ⟨17, _⟩ => (outsAt m c t.val t.isLt).y17
    | ⟨_ + 18, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (outsAt m c t.val t.isLt).y13 := by dsimp only [dats]
theorem after_14 (c : Dev nD) (t : Fin cfg0.N) : (dats m 0 c).after 14 t = (outsAt m c t.val t.isLt).y14 := by dsimp only [dats]
theorem after_15 (c : Dev nD) (t : Fin cfg0.N) : (dats m 0 c).after 15 t = (outsAt m c t.val t.isLt).y15 := by dsimp only [dats]
theorem after_16 (c : Dev nD) (t : Fin cfg0.N) : (dats m 0 c).after 16 t = (outsAt m c t.val t.isLt).y16 := by dsimp only [dats]
theorem after_17 (c : Dev nD) (t : Fin cfg0.N) : (dats m 0 c).after 17 t = (outsAt m c t.val t.isLt).y17 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_17.stage (cfg0.slots t 17)) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ owns (c : Thread nD τ) (win0_15.stage (cfg0.slots t 15)) fullShare ((dats m 0 c).after 15 t) ∗ owns (c : Thread nD τ) (win0_16.stage (cfg0.slots t 16)) fullShare ((dats m 0 c).after 16 t) ∗ owns (c : Thread nD τ) (win0_17.stage (cfg0.slots t 17)) fullShare ((dats m 0 c).after 17 t))

/-- A run from what the point finds to the contents `W` leaves. -/
theorem body_of_run (c : Dev nD) (t : Fin cfg0.N) (S : sProp 𝕄) (W : Pieces F) (hr : Runs c (grid0.coords t) (memsAt t) (insAt m c t) S W) (hW : Covers W)
    (e : outsAt m c t.val t.isLt = W.outs) (hS : (dats m 0 c).Φ t.castSucc = iprop(S ∗ (∃ r, prngReg c r))) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl, after_0, after_1, after_2, after_3, after_4, after_5, after_6, after_7, after_8, after_9, after_10, after_11, after_12, after_13, after_14, after_15, after_16, after_17, hS,
    show (dats m 0 c).Φ t.succ = iprop(iprop(owns (c : Thread nD τ) scM fullShare (outsAt m c t.val t.isLt).y18) ∗ (∃ r, prngReg c r)) from rfl, e]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (hr Set.univ _)
  isplitl [HS H0 H1 H2 H3 H4 H5 H6 H7 H8 H9 H10 H11 H12 H13 H14 H15 H16 H17]
  · unfold Before
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iexact HS
  iintro HA
  icases (owned_of_covers c (memsAt t) (insAt m c t) W hW) $$ HA with HA
  unfold Owned
  icases HA with ⟨H0, H1, H2, H3, H4, H5, H6, H7, H8, H9, H10, H11, H12, H13, H14, H15, H16, H17, H18⟩
  isplitl [H18 Hg]
  · isplitl [H18]; · iexact H18
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  cases n with
  | zero =>
    exact body_of_run m c ⟨0, hn⟩ _ _ (runFirst c (grid0.coords ⟨0, hn⟩) (memsAt ⟨0, hn⟩) (first_at 0 hn rfl) (insAt m c ⟨0, hn⟩)).2 (coversFirst c _ _ _ _) rfl
      ((inv_at m c ⟨0, hn⟩).trans (launch_eq c))
  | succ n =>
    exact body_of_run m c ⟨n + 1, hn⟩ _ _ (runNext c (grid0.coords ⟨n + 1, hn⟩) (memsAt ⟨n + 1, hn⟩) (next_at (n + 1) hn (Nat.succ_ne_zero n)) (insAt m c ⟨n + 1, hn⟩) (outsAt m c n (Nat.lt_of_succ_lt hn)).y18).2
      (coversNext c _ _ _ _ _) rfl (inv_at m c ⟨n + 1, hn⟩)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  have pos : ∀ (n : ℕ) (h : n ≤ cfg0.N), n ≠ 0 → (Inv m c n h ⊢ Pipeline.ΦA spec0 c) := by
    intro n h hz
    cases n with
    | zero => exact absurd rfl hz
    | succ n =>
      rw [launch_eq, show Inv m c (n + 1) h = iprop(iprop(owns (c : Thread nD τ) scM fullShare (outsAt m c n h).y18) ∗ (∃ r, prngReg c r)) from rfl]
      iintro ⟨HS, Hg⟩
      isplitl [HS]
      · iexists _; iexact HS
      iexact Hg
  rw [show (dats m 0 c).Φ (Fin.last cfg0.N) = Inv m c (Fin.last cfg0.N).val (Nat.le_of_lt_succ (Fin.last cfg0.N).isLt) from rfl]
  exact pos _ _ (by rw [Fin.val_last]; have := points; omega)

/-! ## The launch and the frame -/

-- the launch theorem's implicit arguments are found through its conclusion
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the arguments end as they began and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.MixerOutIdeal.Hand

end
-- ==== Proof.MixOutRows.lean ====
/-
  One row of the mixer's output projection: its formula, and what a grid point computes of it from the blocks it reads.
-/
module

public import proofs.«01_k».proof.Proof.MixRows
public import proofs.«01_k».proof.Proof.Gen.MixerOutIdeal.Skeleton
public import Idealize.ShloMosaic.Lib.Pointwise

@[expose] public section

set_option maxRecDepth 16384

noncomputable section

namespace Cert.MixerOutIdeal.Hand

open Cert.MixerOutIdeal Cert.MixerOutIdeal.Gen
open Idealize.ShloMosaic Idealize.ShloMosaic.TcCoe
open Cert.MixerInIdeal.Hand (normRow sigm)

/-- What a row of the result is made of: the row `x` of the stream, the attention's `att`, its gate `sg` and the
    convolution's output `yc`; the modulation's `gta`, `shm`, `scm` and `gtm`; the gains `g`; the weights. -/
structure Row where
  x : Fin 1024 → EReal
  att : Fin 512 → EReal
  yc : Fin 1024 → EReal
  sg : Fin 1024 → EReal
  gta : Fin 1024 → EReal
  shm : Fin 1024 → EReal
  scm : Fin 1024 → EReal
  gtm : Fin 1024 → EReal
  g : Fin 1024 → EReal
  wa : Fin 512 → Fin 1024 → EReal
  wo : Fin 1024 → Fin 1024 → EReal
  wg : Fin 1024 → Fin 256 → EReal
  wu : Fin 1024 → Fin 256 → EReal
  wd : Fin 256 → Fin 1024 → EReal

namespace Row

variable (R : Row)

/-- The gated attention plus the convolution. -/
def merged (n : Fin 1024) : EReal := R.sg n * (∑ k : Fin 512, R.att k * R.wa k n) + R.yc n

/-- The residual stream after the mixer. -/
def resid (n : Fin 1024) : EReal := R.x n + R.gta n * ∑ d : Fin 1024, R.merged d * R.wo d n

/-- The normed row that enters the experts. -/
def normed (d : Fin 1024) : EReal := normRow R.resid R.shm R.scm R.g d

/-- The gate and the other factor of the shared expert. -/
def gate (k : Fin 256) : EReal := ∑ d : Fin 1024, R.normed d * R.wg d k
def up (k : Fin 256) : EReal := ∑ d : Fin 1024, R.normed d * R.wu d k

/-- The stream after the shared expert. -/
def out (n : Fin 1024) : EReal := R.resid n + R.gtm n * ∑ k : Fin 256, (R.gate k * sigm (R.gate k) * R.up k) * R.wd k n

end Row

theorem pay6_at (v13 : FVec Ideal S1x512x512 .bf16) (v15 : FVec Ideal S512x1024 .bf16) (v18 v22 : FVec Ideal S1x512x1024 .bf16) (i : Fin 512) (n : Fin 1024) :
    (k0_pay6 (F := Ideal) v13 v15 v18 v22 (ix2 i n) : EReal)
      = (v18 (ix3 0 i n) : EReal) * (∑ k : Fin 512, (v13 (ix3 0 i k) : EReal) * v15 (ix2 k n)) + v22 (ix3 0 i n) := by
  pointwise [k0_pay6]

theorem pay7_at (v5 : FVec Ideal S1x1x1024 .f32) (v25 : FVec Ideal S512x1024 .f32) (v26 : FVec Ideal S1x512x1024 .f32) (v29 : FVec Ideal S1024x1024 .bf16) (i : Fin 512) (n : Fin 1024) :
    (k0_pay7 (F := Ideal) (k0_pay2 v5) v25 v26 v29 (ix2 i n) : EReal)
      = v26 (ix3 0 i n) + (v5 (ix3 0 0 n) : EReal) * ∑ d : Fin 1024, (v25 (ix2 i d) : EReal) * v29 (ix2 d n) := by
  pointwise [k0_pay7, k0_pay2]

theorem pay8_at (v6 : FVec Ideal S1x1024 .f32) (v7 v9 : FVec Ideal S1x1x1024 .f32) (v25 : FVec Ideal S512x1024 .f32) (v26 : FVec Ideal S1x512x1024 .f32) (v29 : FVec Ideal S1024x1024 .bf16) (v45 : FVec Ideal S1x1024 .f32)
    (i : Fin 512) (d : Fin 1024) :
    (k0_pay8 (F := Ideal) v6 (k0_pay3 v7) (k0_pay4 v9) v25 v26 v29 v45 (ix2 i d) : EReal)
      = normRow (fun d => k0_pay7 (F := Ideal) v6 v25 v26 v29 (ix2 i d)) (fun d => v7 (ix3 0 0 d)) (fun d => v9 (ix3 0 0 d)) (fun d => v45 (ix2 0 d)) d := by
  pointwise [k0_pay8, k0_pay3, k0_pay4, normRow]

theorem pay10_at (v6 v8 v10 : FVec Ideal S1x1024 .f32) (v11 : FVec Ideal S1x1x1024 .f32) (v25 : FVec Ideal S512x1024 .f32) (v26 : FVec Ideal S1x512x1024 .f32) (v29 : FVec Ideal S1024x1024 .bf16) (v45 : FVec Ideal S1x1024 .f32)
    (v56 : FVec Ideal S1024x512 .bf16) (v65 : FVec Ideal S256x1024 .bf16) (G U : Fin 256 → EReal) (i : Fin 512)
    (hG : ∀ k : Fin 256, (∑ d : Fin 1024, (k0_pay8 (F := Ideal) v6 v8 v10 v25 v26 v29 v45 (ix2 i d) : EReal) * v56 (ix2 d (⟨k.val, by omega⟩ : Fin 512))) = G k)
    (hU : ∀ k : Fin 256, (∑ d : Fin 1024, (k0_pay8 (F := Ideal) v6 v8 v10 v25 v26 v29 v45 (ix2 i d) : EReal) * v56 (ix2 d (⟨256 + k.val, by omega⟩ : Fin 512))) = U k) (n : Fin 1024) :
    (k0_pay11 (F := Ideal) (k0_pay10 v6 v8 v10 (k0_pay5 v11) v25 v26 v29 v45 v56 v65) (ix3 0 i n) : EReal)
      = k0_pay7 (F := Ideal) v6 v25 v26 v29 (ix2 i n) + (v11 (ix3 0 0 n) : EReal) * ∑ k : Fin 256, (G k * sigm (G k) * U k) * v65 (ix2 k n) := by
  simp only [← hG, ← hU]
  pointwise [k0_pay11, k0_pay10, k0_pay9, k0_pay5, sigm]
  rfl

/-- A grid point's row of the result. -/
theorem out_at (v5 v7 v9 v11 : FVec Ideal S1x1x1024 .f32) (v13 : FVec Ideal S1x512x512 .bf16) (v15 : FVec Ideal S512x1024 .bf16) (v18 v22 : FVec Ideal S1x512x1024 .bf16) (v26 : FVec Ideal S1x512x1024 .f32) (v29 : FVec Ideal S1024x1024 .bf16)
    (v45 : FVec Ideal S1x1024 .f32) (v56 : FVec Ideal S1024x512 .bf16) (v65 : FVec Ideal S256x1024 .bf16) (R : Row) (i : Fin 512)
    (h5 : ∀ d, v5 (ix3 0 0 d) = R.gta d) (h7 : ∀ d, v7 (ix3 0 0 d) = R.shm d) (h9 : ∀ d, v9 (ix3 0 0 d) = R.scm d) (h11 : ∀ d, v11 (ix3 0 0 d) = R.gtm d)
    (h13 : ∀ k, (v13 (ix3 0 i k) : EReal) = R.att k) (h15 : ∀ k n, (v15 (ix2 k n) : EReal) = R.wa k n) (h18 : ∀ d, (v18 (ix3 0 i d) : EReal) = R.sg d) (h22 : ∀ d, (v22 (ix3 0 i d) : EReal) = R.yc d)
    (h26 : ∀ d, v26 (ix3 0 i d) = R.x d) (h29 : ∀ d n, (v29 (ix2 d n) : EReal) = R.wo d n) (h45 : ∀ d, v45 (ix2 0 d) = R.g d)
    (hg : ∀ (d : Fin 1024) (k : Fin 256), (v56 (ix2 d (⟨k.val, by omega⟩ : Fin 512)) : EReal) = R.wg d k) (hu : ∀ (d : Fin 1024) (k : Fin 256), (v56 (ix2 d (⟨256 + k.val, by omega⟩ : Fin 512)) : EReal) = R.wu d k)
    (h65 : ∀ k n, (v65 (ix2 k n) : EReal) = R.wd k n) (n : Fin 1024) :
    (k0_pay11 (F := Ideal) (k0_pay10 (k0_pay2 v5) (k0_pay3 v7) (k0_pay4 v9) (k0_pay5 v11) (k0_pay6 v13 v15 v18 v22) v26 v29 v45 v56 v65) (ix3 0 i n) : EReal) = R.out n := by
  have merged : ∀ d, (k0_pay6 (F := Ideal) v13 v15 v18 v22 (ix2 i d) : EReal) = R.merged d := fun d => by
    rw [pay6_at, h18, h22]
    simp only [h13, h15]
    rfl
  have resid : ∀ d, (k0_pay7 (F := Ideal) (k0_pay2 v5) (k0_pay6 v13 v15 v18 v22) v26 v29 (ix2 i d) : EReal) = R.resid d := fun d => by
    rw [pay7_at, h26, h5]
    simp only [merged, h29]
    rfl
  have normed : ∀ d, (k0_pay8 (F := Ideal) (k0_pay2 v5) (k0_pay3 v7) (k0_pay4 v9) (k0_pay6 v13 v15 v18 v22) v26 v29 v45 (ix2 i d) : EReal) = R.normed d := fun d => by
    rw [pay8_at, funext resid, funext h7, funext h9, funext h45]
    rfl
  rw [pay10_at _ _ _ _ _ _ _ _ _ _ R.gate R.up i (fun k => by simp only [normed, hg]; rfl) (fun k => by simp only [normed, hu]; rfl), resid, h11]
  simp only [h65]
  rfl

end Cert.MixerOutIdeal.Hand

end
-- ==== Proof.MixOutPlain.lean ====
/-
  What the reference of the mixer's output projection leaves in its result, entry by entry.
-/
module

public import proofs.«01_k».proof.Proof.MixOutRows
public import proofs.«01_k».proof.Proof.Gen.ResidualIdeal
public import Idealize.ShloMosaic.Lib.Pointwise

@[expose] public section

set_option maxRecDepth 16384

noncomputable section

namespace Cert.MixerOutIdeal.Hand

open Cert.ResidualIdeal Cert.ResidualIdeal.Gen
open Idealize.ShloMosaic
open Cert.MixerInIdeal.Hand (normRow sigm)

/-- The reference's residual stream after the mixer. -/
def residR (X : FVec Ideal S16x2048x1024 .f32) (A : FVec Ideal S16x2048x512 .bf16) (Y S : FVec Ideal S16x2048x1024 .bf16) (M : FVec Ideal S16x6144 .f32) (WA : FVec Ideal S512x1024 .f32) (WO : FVec Ideal S1024x1024 .f32) : FVec Ideal S16x2048x1024 .f32 :=
  addf X (mulf (broadcastInDim S16x2048x1024 ![0, 1, 2] bcast_S16x1x1024_S16x2048x1024_0_1_2 (extractStridedSlice S16x1x1024 ![0, 0, 2048] (broadcastInDim S16x1x6144 ![0, 2] bcast_S16x6144_S16x1x6144_0_2 M) slices_S16x1x6144_S16x1x1024_0_0_2048)) (Host.dotGeneral dot_S16x2048x1024_S1024x1024_S16x2048x1024_2_0_01_1_n_n none (addf (mulf (extf .f32 S bitsLt_bf16_f32) (Host.dotGeneral dot_S16x2048x512_S512x1024_S16x2048x1024_2_0_01_1_n_n none (extf .f32 A bitsLt_bf16_f32) WA)) (extf .f32 Y bitsLt_bf16_f32)) WO))

/-- The reference's normed rows of a stream `P`. -/
def normR (P : FVec Ideal S16x2048x1024 .f32) (M : FVec Ideal S16x6144 .f32) (G : FVec Ideal S1024 .f32) : FVec Ideal S16x2048x1024 .f32 :=
  addf (mulf (mulf (mulf P (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf P P) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 4096] (broadcastInDim S16x1x6144 ![0, 2] bcast_S16x6144_S16x1x6144_0_2 M) slices_S16x1x6144_S16x1x1024_0_0_4096)))) (broadcastInDim S16x2048x1024 ![0, 1, 2] bcast_S16x1x1024_S16x2048x1024_0_1_2 (extractStridedSlice S16x1x1024 ![0, 0, 3072] (broadcastInDim S16x1x6144 ![0, 2] bcast_S16x6144_S16x1x6144_0_2 M) slices_S16x1x6144_S16x1x1024_0_0_3072))

/-- A factor of the reference's shared expert, of normed rows `N`. -/
def factorR (N : FVec Ideal S16x2048x1024 .f32) (W : FVec Ideal S1024x256 .f32) : FVec Ideal S16x2048x256 .f32 :=
  Host.dotGeneral dot_S16x2048x1024_S1024x256_S16x2048x256_2_0_01_1_n_n none N W

/-- The reference's result, of a stream `P` and the two factors. -/
def sharedR (P : FVec Ideal S16x2048x1024 .f32) (M : FVec Ideal S16x6144 .f32) (T U : FVec Ideal S16x2048x256 .f32) (WD : FVec Ideal S256x1024 .f32) : FVec Ideal S16x2048x1024 .f32 :=
  addf P (mulf (broadcastInDim S16x2048x1024 ![0, 1, 2] bcast_S16x1x1024_S16x2048x1024_0_1_2 (extractStridedSlice S16x1x1024 ![0, 0, 5120] (broadcastInDim S16x1x6144 ![0, 2] bcast_S16x6144_S16x1x6144_0_2 M) slices_S16x1x6144_S16x1x1024_0_0_5120)) (Host.dotGeneral dot_S16x2048x256_S256x1024_S16x2048x1024_2_0_01_1_n_n none (mulf (mulf T (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf T))))) U) WD))

theorem residR_at (X : FVec Ideal S16x2048x1024 .f32) (A : FVec Ideal S16x2048x512 .bf16) (Y S : FVec Ideal S16x2048x1024 .bf16) (M : FVec Ideal S16x6144 .f32) (WA : FVec Ideal S512x1024 .f32) (WO : FVec Ideal S1024x1024 .f32)
    (b : Fin 16) (r : Fin 2048) (n : Fin 1024) :
    (residR X A Y S M WA WO (ix3 b r n) : EReal)
      = X (ix3 b r n) + (M (ix2 b (⟨2048 + n.val, by omega⟩ : Fin 6144)) : EReal) * ∑ d : Fin 1024, ((S (ix3 b r d) : EReal) * (∑ k : Fin 512, (A (ix3 b r k) : EReal) * WA (ix2 k d)) + Y (ix3 b r d)) * WO (ix2 d n) := by
  pointwise [residR]

theorem normR_at (P : FVec Ideal S16x2048x1024 .f32) (M : FVec Ideal S16x6144 .f32) (G : FVec Ideal S1024 .f32) (b : Fin 16) (r : Fin 2048) (d : Fin 1024) :
    (normR P M G (ix3 b r d) : EReal)
      = normRow (fun d => P (ix3 b r d)) (fun d => M (ix2 b (⟨3072 + d.val, by omega⟩ : Fin 6144))) (fun d => M (ix2 b (⟨4096 + d.val, by omega⟩ : Fin 6144))) (fun d => G (ix1 d)) d := by
  pointwise [normR, normRow]

theorem factorR_at (N : FVec Ideal S16x2048x1024 .f32) (W : FVec Ideal S1024x256 .f32) (b : Fin 16) (r : Fin 2048) (k : Fin 256) :
    (factorR N W (ix3 b r k) : EReal) = ∑ d : Fin 1024, (N (ix3 b r d) : EReal) * W (ix2 d k) := by
  pointwise [factorR]

theorem sharedR_at (P : FVec Ideal S16x2048x1024 .f32) (M : FVec Ideal S16x6144 .f32) (T U : FVec Ideal S16x2048x256 .f32) (WD : FVec Ideal S256x1024 .f32) (b : Fin 16) (r : Fin 2048) (n : Fin 1024) :
    (sharedR P M T U WD (ix3 b r n) : EReal)
      = P (ix3 b r n) + (M (ix2 b (⟨5120 + n.val, by omega⟩ : Fin 6144)) : EReal) * ∑ k : Fin 256, ((T (ix3 b r k) : EReal) * sigm (T (ix3 b r k)) * U (ix3 b r k)) * WD (ix2 k n) := by
  pointwise [sharedR, sigm]

/-- The row of the arguments that makes row `r` of batch `b`. -/
def rowArg (X : FVec Ideal S16x2048x1024 .f32) (A : FVec Ideal S16x2048x512 .bf16) (Y S : FVec Ideal S16x2048x1024 .bf16) (M : FVec Ideal S16x6144 .f32) (WA : FVec Ideal S512x1024 .f32) (WO : FVec Ideal S1024x1024 .f32)
    (G : FVec Ideal S1024 .f32) (WG WU : FVec Ideal S1024x256 .f32) (WD : FVec Ideal S256x1024 .f32) (b : Fin 16) (r : Fin 2048) : Row where
  x d := X (ix3 b r d)
  att k := A (ix3 b r k)
  yc d := Y (ix3 b r d)
  sg d := S (ix3 b r d)
  gta d := M (ix2 b (⟨2048 + d.val, by omega⟩ : Fin 6144))
  shm d := M (ix2 b (⟨3072 + d.val, by omega⟩ : Fin 6144))
  scm d := M (ix2 b (⟨4096 + d.val, by omega⟩ : Fin 6144))
  gtm d := M (ix2 b (⟨5120 + d.val, by omega⟩ : Fin 6144))
  g d := G (ix1 d)
  wa k n := WA (ix2 k n)
  wo d n := WO (ix2 d n)
  wg d k := WG (ix2 d k)
  wu d k := WU (ix2 d k)
  wd k n := WD (ix2 k n)

/-- The reference's result is the row's formula. -/
theorem resultR_at (X : FVec Ideal S16x2048x1024 .f32) (A : FVec Ideal S16x2048x512 .bf16) (Y S : FVec Ideal S16x2048x1024 .bf16) (M : FVec Ideal S16x6144 .f32) (WA : FVec Ideal S512x1024 .f32) (WO : FVec Ideal S1024x1024 .f32)
    (G : FVec Ideal S1024 .f32) (WG WU : FVec Ideal S1024x256 .f32) (WD : FVec Ideal S256x1024 .f32) (b : Fin 16) (r : Fin 2048) (n : Fin 1024) :
    (sharedR (residR X A Y S M WA WO) M (factorR (normR (residR X A Y S M WA WO) M G) WG) (factorR (normR (residR X A Y S M WA WO) M G) WU) WD (ix3 b r n) : EReal)
      = (rowArg X A Y S M WA WO G WG WU WD b r).out n := by
  have resid : ∀ d, (residR X A Y S M WA WO (ix3 b r d) : EReal) = (rowArg X A Y S M WA WO G WG WU WD b r).resid d := fun d => residR_at X A Y S M WA WO b r d
  have normed : ∀ d, (normR (residR X A Y S M WA WO) M G (ix3 b r d) : EReal) = (rowArg X A Y S M WA WO G WG WU WD b r).normed d := fun d => by
    rw [normR_at, funext resid]
    rfl
  have gate : ∀ k, (factorR (normR (residR X A Y S M WA WO) M G) WG (ix3 b r k) : EReal) = (rowArg X A Y S M WA WO G WG WU WD b r).gate k := fun k => by
    rw [factorR_at]
    simp only [normed]
    rfl
  have up : ∀ k, (factorR (normR (residR X A Y S M WA WO) M G) WU (ix3 b r k) : EReal) = (rowArg X A Y S M WA WO G WG WU WD b r).up k := fun k => by
    rw [factorR_at]
    simp only [normed]
    rfl
  rw [sharedR_at, resid]
  simp only [gate, up]
  rfl

end Cert.MixerOutIdeal.Hand

end
-- ==== Proof.MixOutFinal.lean ====
/-
  What the mixer's output projection leaves in the residual stream, entry by entry.
-/
module

public import proofs.«01_k».proof.Proof.MixOutIdealFrame
public import proofs.«01_k».proof.Proof.MixOutPlain
public import Idealize.ShloMosaic.Lib.Pipeline.ValueKit
public import Idealize.ShloMosaic.Lib.Claim
public import Idealize.ShloMosaic.Lib.Pipeline.ReadBack

@[expose] public section

set_option maxRecDepth 16384

noncomputable section

namespace Cert.MixerOutIdeal.Hand

open Cert.MixerOutIdeal Cert.MixerOutIdeal.Gen
open Idealize.ShloMosaic Idealize.ShloMosaic.TcCoe Idealize.SL.Sem
open Idealize.ShloMosaic.Pipeline (Dat)

/-! ## What a run stores in the residual stream's block -/

/-- Row `s` of the modulation's block. -/
def modRow (X : Ins Ideal) (s : ℕ) (inb : ∀ a : Fin 3, (![0, s, 0] : Fin 3 → ℕ) a + S1x1x1024.size a ≤ S1x6x1024.size a) : FVec Ideal S1x1x1024 .f32 :=
  View.ld X.x4 (Rect.unit (s := S1x6x1024) ![0, s, 0] S1x1x1024.size inb)

theorem modRow_at (X : Ins Ideal) (s : ℕ) (hs : s < 6) (inb : ∀ a : Fin 3, (![0, s, 0] : Fin 3 → ℕ) a + S1x1x1024.size a ≤ S1x6x1024.size a) (d : Fin 1024) :
    modRow X s inb (ix3 0 0 d) = X.x4 (ix3 0 (⟨s, hs⟩ : Fin 6) d) :=
  View.ld_unit_apply_of X.x4 _ _ _ _ _ fun a => match a with
    | ⟨0, _⟩ => rfl
    | ⟨1, _⟩ => rfl
    | ⟨2, _⟩ => (Nat.zero_add _).symm

/-- The merged rows of a point. -/
def mergedOf (X : Ins Ideal) : FVec Ideal S512x1024 .f32 := k0_pay6 (F := Ideal) X.x1 X.x5 X.x3 X.x2

/-- The normed rows of a point. -/
def normedOf (X : Ins Ideal) : FVec Ideal S512x1024 .f32 :=
  k0_pay8 (F := Ideal) (k0_pay2 (modRow X 2 inb_S1x6x1024_S1x1x1024_0_2_0)) (k0_pay3 (modRow X 3 inb_S1x6x1024_S1x1x1024_0_3_0)) (k0_pay4 (modRow X 4 inb_S1x6x1024_S1x1x1024_0_4_0)) (mergedOf X) X.x0 X.x6 X.x7

/-- The resulting rows of a point. -/
def resultOf (X : Ins Ideal) : FVec Ideal S512x1024 .f32 :=
  k0_pay10 (F := Ideal) (k0_pay2 (modRow X 2 inb_S1x6x1024_S1x1x1024_0_2_0)) (k0_pay3 (modRow X 3 inb_S1x6x1024_S1x1x1024_0_3_0)) (k0_pay4 (modRow X 4 inb_S1x6x1024_S1x1x1024_0_4_0)) (k0_pay5 (modRow X 5 inb_S1x6x1024_S1x1x1024_0_5_0)) (mergedOf X) X.x0 X.x6 X.x7 X.x8 X.x9

/-- The piece that is all of the residual stream's block. -/
def wholePiece (X : Ins Ideal) : View.Piece (Elt Ideal) S1x512x1024 .f32 := ⟨Rect.unit ![0, 0, 0] S1x512x1024.size inb_S1x512x1024_S1x512x1024_0_0_0, k0_pay11 (resultOf X)⟩

theorem first_13 (c : Dev nD) (i : grid0.Coords) (M : Mems) (hc : First i) (X : Ins Ideal) : (runFirst c i M hc X).1.L13 = [wholePiece X] := by
  unfold runFirst
  dsimp only
  delta runFirst.sl.r_8 runFirst.sl.r runFirst.sl.r_1 runFirst.sl.r_2 runFirst.sl.r_3 runFirst.sl.r_4 runFirst.sl.r_5
  simp (disch := decide) only [View.ld_unit_lit', View.readAt_eq_ld, Memref.IsWhole.read_unread]
  rfl

theorem next_13 (c : Dev nD) (i : grid0.Coords) (M : Mems) (hc : ¬First i) (X : Ins Ideal) (xs : Vec Ideal S256x1 .f32) : (runNext c i M hc X xs).1.L13 = [wholePiece X] := by
  unfold runNext
  dsimp only
  delta runNext.sl.r_8 runNext.sl.r runNext.sl.r_1 runNext.sl.r_2 runNext.sl.r_3 runNext.sl.r_4 runNext.sl.r_5
  simp (disch := decide) only [View.ld_unit_lit', View.readAt_eq_ld, Memref.IsWhole.read_unread]
  rfl

theorem outs_13 (W : Pieces Ideal) (X : Ins Ideal) (h : W.L13 = [wholePiece X]) : W.outs.y13 = k0_pay11 (F := Ideal) (resultOf X) := by
  show V13.read (Elt Ideal) (V13.writes (Elt Ideal) V13.junk W.L13) = _
  rw [h, View.read_writes_junk_eq_canon]
  exact View.canon_cons_unit_lit _ _ _ (by decide)

variable (m : (ℓ : Loc nD τ sig) → Buf (Elt Ideal) ℓ)

theorem outsAt_13 (c : Dev nD) : ∀ (n : ℕ) (hn : n < cfg0.N), (outsAt m c n hn).y13 = k0_pay11 (F := Ideal) (resultOf (insAt m c ⟨n, hn⟩))
  | 0, hn => outs_13 _ _ (first_13 c _ _ _ _)
  | n + 1, hn => outs_13 _ _ (next_13 c _ _ _ _ _)

/-! ## The arrays that enter the launch -/

theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![t.val / 4, t.val % 4, 0] ∧ win0_4.index t = ![t.val / 4, 0, 0] ∧ win0_5.index t = ![0, 0] ∧ win0_6.index t = ![0, 0] ∧ win0_7.index t = ![0, 0]
    ∧ win0_8.index t = ![0, 0] ∧ win0_9.index t = ![0, 0] ∧ win0_13.index t = ![t.val / 4, t.val % 4, 0] ∧ t.val < 64 :=
  (by decide +kernel : ∀ t : Fin grid0.N, _)

theorem mods (c : Dev nD) (b : Fin 16) (s : Fin 6) (d : Fin 1024) : (V m c main_v0 : FVec Ideal S16x6x1024 .f32) (ix3 b s d)
    = (m ((c : Thread nD τ).loc main_arg4) : FVec Ideal S16x6144 .f32) (ix2 b (⟨1024 * s.val + d.val, by omega⟩ : Fin 6144)) := by
  entry_read
  pointwise
  blk_ext

theorem attention_weights (c : Dev nD) (k : Fin 512) (n : Fin 1024) : ((V m c main_v9 : FVec Ideal S512x1024 .bf16) (ix2 k n) : EReal)
    = (m ((c : Thread nD τ).loc main_arg5) : FVec Ideal S512x1024 .f32) (ix2 k n) := by
  entry_read
  pointwise

theorem output_weights (c : Dev nD) (d n : Fin 1024) : ((V m c main_v10 : FVec Ideal S1024x1024 .bf16) (ix2 d n) : EReal)
    = (m ((c : Thread nD τ).loc main_arg6) : FVec Ideal S1024x1024 .f32) (ix2 d n) := by
  entry_read
  pointwise

theorem gains (c : Dev nD) (d : Fin 1024) : (V m c main_v11 : FVec Ideal S1x1024 .f32) (ix2 0 d)
    = (m ((c : Thread nD τ).loc main_arg7) : FVec Ideal S1024 .f32) (ix1 d) := by
  entry_read
  pointwise

theorem gate_weights (c : Dev nD) (d : Fin 1024) (k : Fin 256) : ((V m c main_v13 : FVec Ideal S1024x512 .bf16) (ix2 d (⟨k.val, by omega⟩ : Fin 512)) : EReal)
    = (m ((c : Thread nD τ).loc main_arg8) : FVec Ideal S1024x256 .f32) (ix2 d k) := by
  entry_read
  pointwise

theorem up_weights (c : Dev nD) (d : Fin 1024) (k : Fin 256) : ((V m c main_v13 : FVec Ideal S1024x512 .bf16) (ix2 d (⟨256 + k.val, by omega⟩ : Fin 512)) : EReal)
    = (m ((c : Thread nD τ).loc main_arg9) : FVec Ideal S1024x256 .f32) (ix2 d k) := by
  entry_read
  pointwise

theorem down_weights (c : Dev nD) (k : Fin 256) (n : Fin 1024) : ((V m c main_v14 : FVec Ideal S256x1024 .bf16) (ix2 k n) : EReal)
    = (m ((c : Thread nD τ).loc main_arg10) : FVec Ideal S256x1024 .f32) (ix2 k n) := by
  entry_read
  pointwise

/-- The row of the arguments that makes row `r` of batch `b`. -/
def rowOf (c : Dev nD) (b : Fin 16) (r : Fin 2048) : Row :=
  rowArg (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b r

/-- The residual stream after the mixer and the shared expert. -/
def residualOf (c : Dev nD) : S16x2048x1024.Idx → Elt Ideal .f32 := fun y =>
  (rowOf m c (⟨(y 0).val, (y 0).isLt⟩ : Fin 16) (⟨(y 1).val, (y 1).isLt⟩ : Fin 2048)).out (⟨(y 2).val, (y 2).isLt⟩ : Fin 1024)

/-! ## The blocks of a grid point -/

/-- The batch and the tile of grid point `t`. -/
def batch (t : Fin cfg0.N) : Fin 16 := ⟨t.val / 4, by have := (idx t).2.2.2.2.2.2.2.2.2.2.2; omega⟩
def tile (t : Fin cfg0.N) : Fin 4 := ⟨t.val % 4, by omega⟩

/-- The row of the batch that is row `i` of the tile. -/
def rowIn (t : Fin cfg0.N) (i : Fin 512) : Fin 2048 := ⟨512 * (tile t).val + i.val, by have := (tile t).isLt; omega⟩

theorem mods_block (c : Dev nD) (t : Fin cfg0.N) (s : Fin 6) (d : Fin 1024) : (iblk m c 4 t : FVec Ideal S1x6x1024 .f32) (ix3 0 s d)
    = (m ((c : Thread nD τ).loc main_arg4) : FVec Ideal S16x6144 .f32) (ix2 (batch t) (⟨1024 * s.val + d.val, by omega⟩ : Fin 6144)) := by
  refine Eq.trans ?_ (mods m c (batch t) s d)
  blk_ext [iblk, V, idx t, batch]

theorem stream_block (c : Dev nD) (t : Fin cfg0.N) (i : Fin 512) (d : Fin 1024) : (iblk m c 0 t : FVec Ideal S1x512x1024 .f32) (ix3 0 i d)
    = (m ((c : Thread nD τ).loc main_arg0) : FVec Ideal S16x2048x1024 .f32) (ix3 (batch t) (rowIn t i) d) := by
  blk_ext [iblk, V, idx t, batch, rowIn, tile]

theorem attention_block (c : Dev nD) (t : Fin cfg0.N) (i k : Fin 512) : (iblk m c 1 t : FVec Ideal S1x512x512 .bf16) (ix3 0 i k)
    = (m ((c : Thread nD τ).loc main_arg1) : FVec Ideal S16x2048x512 .bf16) (ix3 (batch t) (rowIn t i) k) := by
  blk_ext [iblk, V, idx t, batch, rowIn, tile]

theorem conv_block (c : Dev nD) (t : Fin cfg0.N) (i : Fin 512) (d : Fin 1024) : (iblk m c 2 t : FVec Ideal S1x512x1024 .bf16) (ix3 0 i d)
    = (m ((c : Thread nD τ).loc main_arg2) : FVec Ideal S16x2048x1024 .bf16) (ix3 (batch t) (rowIn t i) d) := by
  blk_ext [iblk, V, idx t, batch, rowIn, tile]

theorem gate_block (c : Dev nD) (t : Fin cfg0.N) (i : Fin 512) (d : Fin 1024) : (iblk m c 3 t : FVec Ideal S1x512x1024 .bf16) (ix3 0 i d)
    = (m ((c : Thread nD τ).loc main_arg3) : FVec Ideal S16x2048x1024 .bf16) (ix3 (batch t) (rowIn t i) d) := by
  blk_ext [iblk, V, idx t, batch, rowIn, tile]

theorem attention_weights_block (c : Dev nD) (t : Fin cfg0.N) (k : Fin 512) (n : Fin 1024) : ((iblk m c 5 t : FVec Ideal S512x1024 .bf16) (ix2 k n) : EReal)
    = (m ((c : Thread nD τ).loc main_arg5) : FVec Ideal S512x1024 .f32) (ix2 k n) := by
  refine Eq.trans ?_ (attention_weights m c k n)
  blk_ext [iblk, V, idx t]

theorem output_weights_block (c : Dev nD) (t : Fin cfg0.N) (d n : Fin 1024) : ((iblk m c 6 t : FVec Ideal S1024x1024 .bf16) (ix2 d n) : EReal)
    = (m ((c : Thread nD τ).loc main_arg6) : FVec Ideal S1024x1024 .f32) (ix2 d n) := by
  refine Eq.trans ?_ (output_weights m c d n)
  blk_ext [iblk, V, idx t]

theorem gains_block (c : Dev nD) (t : Fin cfg0.N) (d : Fin 1024) : (iblk m c 7 t : FVec Ideal S1x1024 .f32) (ix2 0 d)
    = (m ((c : Thread nD τ).loc main_arg7) : FVec Ideal S1024 .f32) (ix1 d) := by
  refine Eq.trans ?_ (gains m c d)
  blk_ext [iblk, V, idx t]

theorem gate_weights_block (c : Dev nD) (t : Fin cfg0.N) (d : Fin 1024) (k : Fin 256) : ((iblk m c 8 t : FVec Ideal S1024x512 .bf16) (ix2 d (⟨k.val, by omega⟩ : Fin 512)) : EReal)
    = (m ((c : Thread nD τ).loc main_arg8) : FVec Ideal S1024x256 .f32) (ix2 d k) := by
  refine Eq.trans ?_ (gate_weights m c d k)
  blk_ext [iblk, V, idx t]

theorem up_weights_block (c : Dev nD) (t : Fin cfg0.N) (d : Fin 1024) (k : Fin 256) : ((iblk m c 8 t : FVec Ideal S1024x512 .bf16) (ix2 d (⟨256 + k.val, by omega⟩ : Fin 512)) : EReal)
    = (m ((c : Thread nD τ).loc main_arg9) : FVec Ideal S1024x256 .f32) (ix2 d k) := by
  refine Eq.trans ?_ (up_weights m c d k)
  blk_ext [iblk, V, idx t]

theorem down_weights_block (c : Dev nD) (t : Fin cfg0.N) (k : Fin 256) (n : Fin 1024) : ((iblk m c 9 t : FVec Ideal S256x1024 .bf16) (ix2 k n) : EReal)
    = (m ((c : Thread nD τ).loc main_arg10) : FVec Ideal S256x1024 .f32) (ix2 k n) := by
  refine Eq.trans ?_ (down_weights m c k n)
  blk_ext [iblk, V, idx t]

/-- A row of the modulation, as a run reads it. -/
theorem modRow_block (c : Dev nD) (t : Fin cfg0.N) (s : ℕ) (hs : s < 6) (inb : ∀ a : Fin 3, (![0, s, 0] : Fin 3 → ℕ) a + S1x1x1024.size a ≤ S1x6x1024.size a) (q : ℕ) (hq : 1024 * s = q) (d : Fin 1024) :
    modRow (insAt m c t) s inb (ix3 0 0 d) = (m ((c : Thread nD τ).loc main_arg4) : FVec Ideal S16x6144 .f32) (ix2 (batch t) (⟨q + d.val, by omega⟩ : Fin 6144)) := by
  subst hq
  exact (modRow_at _ s hs inb d).trans (mods_block m c t ⟨s, hs⟩ d)

/-- A row of a grid point's result. -/
theorem result_row (c : Dev nD) (t : Fin cfg0.N) (i : Fin 512) (n : Fin 1024) :
    (k0_pay11 (F := Ideal) (resultOf (insAt m c t)) (ix3 0 i n) : EReal) = (rowOf m c (batch t) (rowIn t i)).out n := by
  unfold resultOf mergedOf
  refine out_at _ _ _ _ _ _ _ _ _ _ _ _ _ (rowOf m c (batch t) (rowIn t i)) i ?_ ?_ ?_ ?_ ?_ ?_ ?_ ?_ ?_ ?_ ?_ ?_ ?_ ?_ n
  · exact fun d => modRow_block m c t 2 (by decide) _ 2048 (by decide) d
  · exact fun d => modRow_block m c t 3 (by decide) _ 3072 (by decide) d
  · exact fun d => modRow_block m c t 4 (by decide) _ 4096 (by decide) d
  · exact fun d => modRow_block m c t 5 (by decide) _ 5120 (by decide) d
  · exact attention_block m c t i
  · exact attention_weights_block m c t
  · exact gate_block m c t i
  · exact conv_block m c t i
  · exact stream_block m c t i
  · exact output_weights_block m c t
  · exact gains_block m c t
  · exact gate_weights_block m c t
  · exact up_weights_block m c t
  · exact down_weights_block m c t

/-- An index of a tile's block, by its row and its column. -/
theorem block_idx {n : ℕ} (y : (⟨3, ![1, 512, n]⟩ : Shape).Idx) : y = ix3 (0 : Fin 1) (⟨(y 1).val, (y 1).isLt⟩ : Fin 512) (⟨(y 2).val, (y 2).isLt⟩ : Fin n) := by
  funext a
  match a with
  | ⟨0, _⟩ => exact Fin.ext (by have : (y 0).val < 1 := (y 0).isLt; show (y 0).val = 0; omega)
  | ⟨1, _⟩ => rfl
  | ⟨2, _⟩ => rfl

/-- Where a block's entry lies in the result. -/
theorem placed {n : ℕ} (t : Fin cfg0.N) (y : (⟨3, ![1, 512, n]⟩ : Shape).Idx) (z : (⟨3, ![16, 2048, n]⟩ : Shape).Idx)
    (h : ∀ a : Fin 3, (z a).val = (![t.val / 4, t.val % 4, 0] : Fin 3 → ℕ) a * (![1, 512, n] : Fin 3 → ℕ) a + (y a).val) :
    batch t = (⟨(z 0).val, (z 0).isLt⟩ : Fin 16) ∧ rowIn t (⟨(y 1).val, (y 1).isLt⟩ : Fin 512) = (⟨(z 1).val, (z 1).isLt⟩ : Fin 2048) ∧ (y 2).val = (z 2).val := by
  refine ⟨Fin.ext ((h 0).trans ?_).symm, Fin.ext ((h 1).trans ?_).symm, ((h 2).trans ?_).symm⟩
  · have : (y 0).val < 1 := (y 0).isLt
    show t.val / 4 * 1 + (y 0).val = t.val / 4
    omega
  · show t.val % 4 * 512 + (y 1).val = 512 * (t.val % 4) + (y 1).val
    omega
  · show 0 * n + (y 2).val = (y 2).val
    omega

/-- The residual stream. -/
theorem final13 (c : Dev nD) : (dats m 0 c).arrAt 13 (cfgs 0).N = residualOf m c := by
  refine (dats m 0 c).arrAt_eq_of_covers 13 _ (by decide +kernel) fun t _ y => ?_
  blk_simp
  obtain ⟨p0, p1, p2⟩ := placed t y ((win0_13.blk t).view.emb y) (fun a => by rw [← (idx t).2.2.2.2.2.2.2.2.2.2.1]; blk_simp)
  rw [after_13, outsAt_13]
  refine (congrArg _ (block_idx y)).trans ((result_row m c t _ _).trans ?_)
  show (rowOf m c (batch t) (rowIn t _)).out _ = (rowOf m c _ _).out _
  exact congr (congrArg Row.out (congrArg₂ (rowOf m c) p0 p1)) (Fin.ext p2)

/-! ## The reference's result is the same -/

/-- An index of the stream, by its batch, its row and its column. -/
theorem stream_idx (y : S16x2048x1024.Idx) : y = ix3 (⟨(y 0).val, (y 0).isLt⟩ : Fin 16) (⟨(y 1).val, (y 1).isLt⟩ : Fin 2048) (⟨(y 2).val, (y 2).isLt⟩ : Fin 1024) := by
  funext a
  match a with
  | ⟨0, _⟩ => rfl
  | ⟨1, _⟩ => rfl
  | ⟨2, _⟩ => rfl

/-- The reference's residual stream after the mixer, of the arguments. -/
def residArg (c : Dev nD) : FVec Ideal S16x2048x1024 .f32 :=
  residR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's normed rows, of the arguments. -/
def normArg (c : Dev nD) : FVec Ideal S16x2048x1024 .f32 :=
  normR (residArg m c) (m ((c : Thread nD τ).loc main_arg4)) (m ((c : Thread nD τ).loc main_arg7))

theorem residual_eq (c : Dev nD) :
    sharedR (residArg m c) (m ((c : Thread nD τ).loc main_arg4)) (factorR (normArg m c) (m ((c : Thread nD τ).loc main_arg8))) (factorR (normArg m c) (m ((c : Thread nD τ).loc main_arg9))) (m ((c : Thread nD τ).loc main_arg10))
      = residualOf m c :=
  funext fun y => (congrArg _ (stream_idx y)).trans (resultR_at _ _ _ _ _ _ _ _ _ _ _ _ _ _)

end Cert.MixerOutIdeal.Hand

end
-- ==== Proof.lean ====
/-
  The claim: the frames, and the equation of the two programs.
-/
module

public import proofs.«01_k».proof.Defs
public import proofs.«01_k».proof.Proof.Frames
public import proofs.«01_k».proof.Proof.Plain
public import proofs.«01_k».proof.Proof.Gen.MixerIn.Frame
public import proofs.«01_k».proof.Proof.Gen.MixerInIdeal.Value
public import proofs.«01_k».proof.Proof.Gen.MixerIdeal.Run
public import proofs.«01_k».proof.Proof.Gen.Attention.Frame
public import proofs.«01_k».proof.Proof.Gen.AttentionIdeal.Value
public import proofs.«01_k».proof.Proof.Gen.SoftmaxIdeal.Run
public import proofs.«01_k».proof.Proof.Gen.MixerOut.Frame
public import proofs.«01_k».proof.Proof.Gen.MixerOut.Skeleton
public import proofs.«01_k».proof.Proof.Gen.MixerOutIdeal.Frame
public import proofs.«01_k».proof.Proof.Gen.MixerOutIdeal.Skeleton
public import proofs.«01_k».proof.Proof.Gen.ResidualIdeal.Run
public import proofs.«01_k».proof.Proof.MixFinal
public import proofs.«01_k».proof.Proof.AttnFinal
public import proofs.«01_k».proof.Proof.MixOutFrame
public import proofs.«01_k».proof.Proof.MixOutFinal
public import Idealize.ShloMosaic.Lib.Bf16PairInverse
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_in_range.Gen.facts
attribute [local instance] Cert.MixerIn.Gen.facts Cert.MixerInIdeal.Gen.facts Cert.MixerIdeal.Gen.facts
attribute [local instance] Cert.Attention.Gen.facts Cert.AttentionIdeal.Gen.facts Cert.SoftmaxIdeal.Gen.facts
attribute [local instance] Cert.MixerOut.Gen.facts Cert.MixerOutIdeal.Gen.facts Cert.ResidualIdeal.Gen.facts

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

theorem frame_reference_in_range : Cert.quiescent_ReferenceIdeal_pre_in_range := fun m g _ => frame_reference m g trivial

theorem equation : Cert.algebraic_KernelIdeal_ReferenceIdeal := by
  intro m g m' g' hpre hagree
  have hD : ∀ c, Cert.KernelIdeal.Hand.Fine (Cert.KernelIdeal.Hand.DD m c) := fun c => Cert.KernelIdeal.Hand.fine_main m c (hpre c)
  refine ⟨fun c => Cert.KernelIdeal.Hand.kernelAt m c, ?_, ?_⟩
  · exact (θ_run Cert.KernelIdeal.defs _ _).mono
      (fun r h c => ⟨((h.1 c).1 5).trans (Cert.KernelIdeal.Hand.final m c), Cert.KernelIdeal.Hand.args_kept m h.1 c⟩)
      (Cert.KernelIdeal.Hand.run_main (F := Ideal) m g hD)
  · refine (θ_run Cert.ReferenceIdeal.defs _ _).mono (fun r h c => ⟨(h c).1.trans ?_, (h c).2⟩) (Cert.ReferenceIdeal.Value.run (F := Ideal) m' g')
    obtain ⟨e0, e1, e2, e3, e4⟩ := hagree c
    rw [e0, e1, e2, e3, e4]
    exact Cert.KernelIdeal.Hand.plain_eq m c (hD c)

theorem frame_mixer : Cert.quiescent_MixerIn := fun m g _ => Cert.MixerIn.Gen.frame m g

theorem frame_mixer_ideal : Cert.quiescent_MixerInIdeal := fun m g _ => Cert.MixerInIdeal.Gen.frame m g

theorem frame_mixer_reference : Cert.quiescent_MixerIdeal := fun m g _ =>
  (θ_run Cert.MixerIdeal.defs _ _).mono (fun r h => ⟨fun c => (h c).2.2.2, sem_eq_zero_of_no_sems (by decide) r.2⟩) (Cert.MixerIdeal.Value.run (F := Ideal) m g)

theorem equation_mixer : Cert.algebraic_MixerInIdeal_MixerIdeal := by
  intro m g m' g' _ hagree
  refine ⟨fun c => Cert.MixerInIdeal.Hand.valuesOf m c, fun c => Cert.MixerInIdeal.Hand.convsOf m c, fun c => Cert.MixerInIdeal.Hand.gatesOf m c, ?_, ?_⟩
  · refine (θ_run Cert.MixerInIdeal.defs _ _).mono (fun r h c => ?_) (Cert.MixerInIdeal.Value.run_blocks (F := Ideal) m g)
    obtain ⟨_, _, h14, h15, h16, hargs⟩ := h c
    exact ⟨h14.trans (Cert.MixerInIdeal.Hand.final14 m c), h15.trans (Cert.MixerInIdeal.Hand.final15 m c), h16.trans (Cert.MixerInIdeal.Hand.final16 m c), hargs⟩
  · refine (θ_run Cert.MixerIdeal.defs _ _).mono (fun r h c => ⟨(h c).1.trans ?_, (h c).2.1.trans ?_, (h c).2.2.1.trans ?_, (h c).2.2.2⟩) (Cert.MixerIdeal.Value.run (F := Ideal) m' g')
    all_goals obtain ⟨e0, e1, e2, e3, e4, e5, e6, e7, e8, e9⟩ := hagree c
    · rw [e0, e1, e2, e3]
      exact Cert.MixerInIdeal.Hand.values_eq m c
    · unfold Cert.MixerIdeal.Value.res_main_v67
      rw [e0, e1, e2, e3, e8, e9]
      exact Cert.MixerInIdeal.Hand.convs_eq m c
    · rw [e0, e1, e2, e3]
      exact Cert.MixerInIdeal.Hand.gates_eq m c

theorem frame_attention : Cert.quiescent_Attention := fun m g _ => Cert.Attention.Gen.frame m g

theorem frame_attention_ideal : Cert.quiescent_AttentionIdeal := fun m g _ => Cert.AttentionIdeal.Gen.frame m g

theorem frame_attention_reference : Cert.quiescent_SoftmaxIdeal := fun m g _ =>
  (θ_run Cert.SoftmaxIdeal.defs _ _).mono (fun r h => ⟨fun c => (h c).2, sem_eq_zero_of_no_sems (by decide) r.2⟩) (Cert.SoftmaxIdeal.Value.run (F := Ideal) m g)

theorem equation_attention : Cert.algebraic_AttentionIdeal_SoftmaxIdeal := by
  intro m g m' g' _ hagree
  refine ⟨fun c => Cert.AttentionIdeal.Hand.attended m c, ?_, ?_⟩
  · exact (θ_run Cert.AttentionIdeal.defs _ _).mono (fun r h c => ⟨(h c).1.trans (Cert.AttentionIdeal.Hand.final3 m c), (h c).2⟩) (Cert.AttentionIdeal.Value.run_blocks (F := Ideal) m g)
  · refine (θ_run Cert.SoftmaxIdeal.defs _ _).mono (fun r h c => ⟨(h c).1.trans ?_, (h c).2⟩) (Cert.SoftmaxIdeal.Value.run (F := Ideal) m' g')
    obtain ⟨e0, e1, e2⟩ := hagree c
    rw [e0, e1, e2]
    exact Cert.AttentionIdeal.Hand.attended_eq m c

theorem frame_out : Cert.quiescent_MixerOut := fun m g _ => Cert.MixerOut.Hand.frame_main m g

theorem frame_out_ideal : Cert.quiescent_MixerOutIdeal := fun m g _ => Cert.MixerOutIdeal.Hand.frame_main m g

theorem frame_out_reference : Cert.quiescent_ResidualIdeal := fun m g _ =>
  (θ_run Cert.ResidualIdeal.defs _ _).mono (fun r h => ⟨fun c => (h c).2, sem_eq_zero_of_no_sems (by decide) r.2⟩) (Cert.ResidualIdeal.Value.run (F := Ideal) m g)

open Cert.MixerOutIdeal IdealRules.bf16_pair in
theorem preserves_out : Cert.preserves_MixerOut_MixerOutIdeal :=
  ⟨bufferStatement S131072x2x128 S131072x1x128, bufferStatement S2048x2x128 S2048x1x128, packStatement S512x512, statement S512x2x128 S512x1x128⟩

theorem equation_out : Cert.algebraic_MixerOutIdeal_ResidualIdeal := by
  intro m g m' g' _ hagree
  refine ⟨fun c => Cert.MixerOutIdeal.Hand.residualOf m c, ?_, ?_⟩
  · exact (θ_run Cert.MixerOutIdeal.defs _ _).mono (fun r h c => ⟨((h.1 c).1 13).trans (Cert.MixerOutIdeal.Hand.final13 m c), h.2 c⟩)
      (θ_run_and (Cert.MixerOutIdeal.Hand.run_main (F := Ideal) m g) (Cert.MixerOutIdeal.Hand.unchanged (F := Ideal) m g))
  · refine (θ_run Cert.ResidualIdeal.defs _ _).mono (fun r h c => ⟨(h c).1.trans ?_, (h c).2⟩) (Cert.ResidualIdeal.Value.run (F := Ideal) m' g')
    obtain ⟨e0, e1, e2, e3, e4, e5, e6, e7, e8, e9, e10, e11, e12⟩ := hagree c
    unfold Cert.ResidualIdeal.Value.res_main_v43
    rw [e0, e1, e2, e3, e4, e5, e6, e7, e8, e9, e10]
    exact Cert.MixerOutIdeal.Hand.residual_eq m c

theorem claim : Cert.Claim :=
  ⟨Cert.Kernel.Gen.facts, Cert.KernelIdeal.Gen.facts, Cert.ReferenceIdeal.Gen.facts, Cert.MixerIn.Gen.facts, Cert.MixerInIdeal.Gen.facts, Cert.MixerIdeal.Gen.facts, Cert.Attention.Gen.facts, Cert.AttentionIdeal.Gen.facts, Cert.SoftmaxIdeal.Gen.facts,
    Cert.MixerOut.Gen.facts, Cert.MixerOutIdeal.Gen.facts, Cert.ResidualIdeal.Gen.facts, Cert.Pre_in_range.Gen.facts,
    frame_kernel, frame_ideal, frame_reference, frame_reference_in_range, frame_mixer, frame_mixer_ideal, frame_mixer_reference,
    frame_attention, frame_attention_ideal, frame_attention_reference, frame_out, frame_out_ideal, frame_out_reference, trivial, equation, trivial, equation_mixer, trivial, equation_attention, preserves_out, equation_out⟩

end Cert.Proof

end
